-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_on_no_gates [hKernel3Ideal : Cert.Kernel3Ideal.Facts] [hReference3Ideal : Cert.Reference3Ideal.Facts] [hOn_no_gates : Cert.On_no_gates.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v90_0)) (v1 : (c : Dev Cert.Kernel3Ideal.nD) → Buf (Elt Ideal) ((c.tc : Thread Cert.Kernel3Ideal.nD Cert.Kernel3Ideal.τ).loc Cert.Kernel3Ideal.main_v90_1)) (v2 : (c : Dev Cert.Kernel3Ideal.nD) → Buf (Elt Ideal) ((c.tc : Thread Cert.Kernel3Ideal.nD Cert.Kernel3Ideal.τ).loc Cert.Kernel3Ideal.main_v90_2)) (v3 : (c : Dev Cert.Kernel3Ideal.nD) → Buf (Elt Ideal) ((c.tc : Thread Cert.Kernel3Ideal.nD Cert.Kernel3Ideal.τ).loc Cert.Kernel3Ideal.main_v90_3)) (v4 : (c : Dev Cert.Kernel3Ideal.nD) → Buf (Elt Ideal) ((c.tc : Thread Cert.Kernel3Ideal.nD Cert.Kernel3Ideal.τ).loc Cert.Kernel3Ideal.main_v90_4)) (v5 : (c : Dev Cert.Kernel3Ideal.nD) → Buf (Elt Ideal) ((c.tc : Thread Cert.Kernel3Ideal.nD Cert.Kernel3Ideal.τ).loc Cert.Kernel3Ideal.main_v90_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![32, 2048, 1024]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Kernel3Ideal.nD Cert.Kernel3Ideal.τ).loc Cert.Kernel3Ideal.main_v90_0) i = v0 c i)
          ∧ (∀ i : (⟨3, ![32, 2048, 1024]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Kernel3Ideal.nD Cert.Kernel3Ideal.τ).loc Cert.Kernel3Ideal.main_v90_1) i = v1 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 i = 1#1 → r.2.mem ((c.tc : Thread Cert.Kernel3Ideal.nD Cert.Kernel3Ideal.τ).loc Cert.Kernel3Ideal.main_v90_2) i = v2 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 i = 1#1 → r.2.mem ((c.tc : Thread Cert.Kernel3Ideal.nD Cert.Kernel3Ideal.τ).loc Cert.Kernel3Ideal.main_v90_3) i = v3 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 i = 1#1 → r.2.mem ((c.tc : Thread Cert.Kernel3Ideal.nD Cert.Kernel3Ideal.τ).loc Cert.Kernel3Ideal.main_v90_4) i = v4 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2 i = 1#1 → r.2.mem ((c.tc : Thread Cert.Kernel3Ideal.nD Cert.Kernel3Ideal.τ).loc Cert.Kernel3Ideal.main_v90_5) i = v5 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![32, 2048, 1024]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Reference3Ideal.nD Cert.Reference3Ideal.τ).loc Cert.Reference3Ideal.main_v148) i = v0 c i)
          ∧ (∀ i : (⟨3, ![32, 2048, 1024]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Reference3Ideal.nD Cert.Reference3Ideal.τ).loc Cert.Reference3Ideal.main_v149) i = v1 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 i = 1#1 → r.2.mem ((c.tc : Thread Cert.Reference3Ideal.nD Cert.Reference3Ideal.τ).loc Cert.Reference3Ideal.main_v150) i = v2 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 i = 1#1 → r.2.mem ((c.tc : Thread Cert.Reference3Ideal.nD Cert.Reference3Ideal.τ).loc Cert.Reference3Ideal.main_v152) i = v3 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 i = 1#1 → r.2.mem ((c.tc : Thread Cert.Reference3Ideal.nD Cert.Reference3Ideal.τ).loc Cert.Reference3Ideal.main_v154) i = v4 c i)
          ∧ (∀ i : (⟨3, ![32, 2048, 512]⟩ : Shape).Idx, (Cert.On_no_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2 i = 1#1 → r.2.mem ((c.tc : Thread Cert.Reference3Ideal.nD Cert.Reference3Ideal.τ).loc Cert.Reference3Ideal.main_v155) i = v5 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hOn_no_gates : Cert.On_no_gates.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_no_gates (hKernel3Ideal := hKernel3Ideal) (hReference3Ideal := hReference3Ideal) (hOn_no_gates := hOn_no_gates)
-- ==== On_no_gates.lean ====
abbrev S32x2048x1024 : Shape := ⟨3, ![32, 2048, 1024]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S_ : Shape := ⟨0, ![]⟩
abbrev S32x2048x512 : Shape := ⟨3, ![32, 2048, 512]⟩

class Facts : Prop where
  bcast_S_S32x2048x512 : S_.BroadcastsInDim S32x2048x512 (![] : Fin 0 → Fin S32x2048x512.rank)
  bcast_S_S32x2048x1024 : S_.BroadcastsInDim S32x2048x1024 (![] : Fin 0 → Fin S32x2048x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32x2048x1024 32) (arg1 : IVec S_ 32) : IVec S32x2048x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32x2048x1024 32 := broadcastInDim S32x2048x1024 ![] bcast_S_S32x2048x1024 v2
  let v4 : IVec S32x2048x1024 32 := Host.remsi arg0 v3
  let c_1 : IVec S_ 32 := constantI S_ 32 0#32
  let v5 : IVec S32x2048x1024 32 := broadcastInDim S32x2048x1024 ![] bcast_S_S32x2048x1024 c_1
  let v6 : IVec S32x2048x1024 1 := cmpi .ne v4 v5
  let c_2 : IVec S_ 32 := constantI S_ 32 0#32
  let v7 : IVec S32x2048x1024 32 := broadcastInDim S32x2048x1024 ![] bcast_S_S32x2048x1024 c_2
  let v8 : IVec S32x2048x1024 1 := cmpi .slt v4 v7
  let c_3 : IVec S_ 32 := constantI S_ 32 0#32
  let v9 : IVec S_ 1 := cmpi .slt v2 c_3
  let v10 : IVec S32x2048x1024 1 := broadcastInDim S32x2048x1024 ![] bcast_S_S32x2048x1024 v9
  let v11 : IVec S32x2048x1024 1 := cmpi .ne v8 v10
  let v12 : IVec S32x2048x1024 1 := andi v11 v6
  let v13 : IVec S32x2048x1024 32 := broadcastInDim S32x2048x1024 ![] bcast_S_S32x2048x1024 v2
  let v14 : IVec S32x2048x1024 32 := addi v4 v13
  let v15 : IVec S32x2048x1024 32 := select v12 v14 v4
  v15

def fn {F : FTy → Type} [FloatOps F] (main_arg0 : FVec F S32x2048x1024 .f32) (main_arg1 : FVec F S1024 .f32) (main_arg2 : FVec F S1024x3080 .f32) (main_arg3 : FVec F S8 .f32) (main_arg4 : FVec F S64 .f32) (main_arg5 : FVec F S64 .f32) (main_arg6 : FVec F S64 .f32) (main_arg7 : FVec F S64 .f32) : IVec S32x2048x1024 1 × IVec S32x2048x1024 1 × IVec S32x2048x512 1 × IVec S32x2048x512 1 × IVec S32x2048x512 1 × IVec S32x2048x512 1 :=
  let main_v0 : IVec S32x2048x1024 32 := iotaInDim S32x2048x1024 32 2
  let main_c : IVec S_ 1 := constantI S_ 1 1#1
  let main_v1 : IVec S32x2048x512 1 := broadcastInDim S32x2048x512 ![] bcast_S_S32x2048x512 main_c
  let main_c_0 : IVec S_ 32 := constantI S_ 32 256#32
  let main_v2 : IVec S32x2048x1024 32 := fn_remainder (F := F) main_v0 main_c_0
  let main_c_1 : IVec S_ 32 := constantI S_ 32 128#32
  let main_v3 : IVec S32x2048x1024 32 := broadcastInDim S32x2048x1024 ![] bcast_S_S32x2048x1024 main_c_1
  let main_v4 : IVec S32x2048x1024 1 := cmpi .slt main_v2 main_v3
  let main_c_2 : IVec S_ 32 := constantI S_ 32 256#32
  let main_v5 : IVec S32x2048x1024 32 := fn_remainder (F := F) main_v0 main_c_2
  let main_c_3 : IVec S_ 32 := constantI S_ 32 128#32
  let main_v6 : IVec S32x2048x1024 32 := broadcastInDim S32x2048x1024 ![] bcast_S_S32x2048x1024 main_c_3
  let main_v7 : IVec S32x2048x1024 1 := cmpi .slt main_v5 main_v6
  (main_v4, main_v7, main_v1, main_v1, main_v1, main_v1)
-- ==== Pre_finite_scores.lean ====
abbrev S32x2048x512 : Shape := ⟨3, ![32, 2048, 512]⟩
abbrev S64 : Shape := ⟨1, ![64]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32x2048x512 .f32) (main_arg1 : FVec F S32x2048x512 .f32) (main_arg2 : FVec F S32x2048x512 .f32) (main_arg3 : FVec F S64 .f32) (main_arg4 : FVec F S64 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32x2048x512 : Shape := ⟨3, ![32, 2048, 512]⟩
abbrev S64 : Shape := ⟨1, ![64]⟩
abbrev S_ : Shape := ⟨0, ![]⟩
abbrev S2048x256 : Shape := ⟨2, ![2048, 256]⟩
abbrev S1x2048x256 : Shape := ⟨3, ![1, 2048, 256]⟩
abbrev S2x128x2048 : Shape := ⟨3, ![2, 128, 2048]⟩
abbrev S2048x512 : Shape := ⟨2, ![2048, 512]⟩
abbrev S256x128 : Shape := ⟨2, ![256, 128]⟩
abbrev S1x2048x128 : Shape := ⟨3, ![1, 2048, 128]⟩
abbrev S2048x128 : Shape := ⟨2, ![2048, 128]⟩
abbrev S128x2048 : Shape := ⟨2, ![128, 2048]⟩
abbrev S1x128x2048 : Shape := ⟨3, ![1, 128, 2048]⟩
abbrev S1x256x128 : Shape := ⟨3, ![1, 256, 128]⟩
abbrev S512x128 : Shape := ⟨2, ![512, 128]⟩
abbrev S256x512 : Shape := ⟨2, ![256, 512]⟩
abbrev S256x256 : Shape := ⟨2, ![256, 256]⟩
abbrev S32x8x512 : Shape := ⟨3, ![32, 8, 512]⟩
abbrev S8x512 : Shape := ⟨2, ![8, 512]⟩
abbrev S1x128x256 : Shape := ⟨3, ![1, 128, 256]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S64x256 : Shape := ⟨2, ![64, 256]⟩
abbrev S1x256 : Shape := ⟨2, ![1, 256]⟩
abbrev S1x128x512 : Shape := ⟨3, ![1, 128, 512]⟩
abbrev S512x512 : Shape := ⟨2, ![512, 512]⟩
abbrev S1x128x768 : Shape := ⟨3, ![1, 128, 768]⟩
abbrev S128x768 : Shape := ⟨2, ![128, 768]⟩
abbrev S768x512 : Shape := ⟨2, ![768, 512]⟩
abbrev S1x128x1024 : Shape := ⟨3, ![1, 128, 1024]⟩
abbrev S128x1024 : Shape := ⟨2, ![128, 1024]⟩
abbrev S1024x512 : Shape := ⟨2, ![1024, 512]⟩
abbrev S1x128x1280 : Shape := ⟨3, ![1, 128, 1280]⟩
abbrev S128x1280 : Shape := ⟨2, ![128, 1280]⟩
abbrev S1280x512 : Shape := ⟨2, ![1280, 512]⟩
abbrev S1x128x1536 : Shape := ⟨3, ![1, 128, 1536]⟩
abbrev S128x1536 : Shape := ⟨2, ![128, 1536]⟩
abbrev S1536x512 : Shape := ⟨2, ![1536, 512]⟩
abbrev S1x128x1792 : Shape := ⟨3, ![1, 128, 1792]⟩
abbrev S128x1792 : Shape := ⟨2, ![128, 1792]⟩
abbrev S1792x512 : Shape := ⟨2, ![1792, 512]⟩

abbrev nBuf : Space → Nat
  | .hbm => 115
  | .vmem => 12
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x256, .i32⟩
  | .hbm, ⟨22, _⟩ => ⟨S2048x256, .i32⟩
  | .hbm, ⟨23, _⟩ => ⟨S2048x256, .i32⟩
  | .hbm, ⟨24, _⟩ => ⟨S_, .i32⟩
  | .hbm, ⟨25, _⟩ => ⟨S2048x256, .i32⟩
  | .hbm, ⟨26, _⟩ => ⟨S2048x256, .i32⟩
  | .hbm, ⟨27, _⟩ => ⟨S_, .i32⟩
  | .hbm, ⟨28, _⟩ => ⟨S2048x256, .i32⟩
  | .hbm, ⟨29, _⟩ => ⟨S2048x256, .i1⟩
  | .hbm, ⟨30, _⟩ => ⟨S_, .f32⟩
  | .hbm, ⟨31, _⟩ => ⟨S_, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S_, .i32⟩
  | .hbm, ⟨36, _⟩ => ⟨S2048x256, .i32⟩
  | .hbm, ⟨37, _⟩ => ⟨S_, .i32⟩
  | .hbm, ⟨38, _⟩ => ⟨S2048x256, .i32⟩
  | .hbm, ⟨39, _⟩ => ⟨S2048x256, .i1⟩
  | .hbm, ⟨40, _⟩ => ⟨S_, .i32⟩
  | .hbm, ⟨41, _⟩ => ⟨S2048x256, .i32⟩
  | .hbm, ⟨42, _⟩ => ⟨S2048x256, .i1⟩
  | .hbm, ⟨43, _⟩ => ⟨S2048x256, .i1⟩
  | .hbm, ⟨44, _⟩ => ⟨S_, .i32⟩
  | .hbm, ⟨45, _⟩ => ⟨S2048x256, .i32⟩
  | .hbm, ⟨46, _⟩ => ⟨S2048x256, .i32⟩
  | .hbm, ⟨47, _⟩ => ⟨S_, .i32⟩
  | .hbm, ⟨48, _⟩ => ⟨S2048x256, .i32⟩
  | .hbm, ⟨49, _⟩ => ⟨S2048x256, .i1⟩
  | .hbm, ⟨50, _⟩ => ⟨S2048x256, .i1⟩
  | .hbm, ⟨51, _⟩ => ⟨S2048x256, .i32⟩
  | .hbm, ⟨52, _⟩ => ⟨S2048x256, .i32⟩
  | .hbm, ⟨53, _⟩ => ⟨S_, .i32⟩
  | .hbm, ⟨54, _⟩ => ⟨S2048x256, .i32⟩
  | .hbm, ⟨55, _⟩ => ⟨S2048x256, .i1⟩
  | .hbm, ⟨56, _⟩ => ⟨S_, .i32⟩
  | .hbm, ⟨57, _⟩ => ⟨S2048x256, .i32⟩
  | .hbm, ⟨58, _⟩ => ⟨S2048x256, .i1⟩
  | .hbm, ⟨59, _⟩ => ⟨S2048x256, .i1⟩
  | .hbm, ⟨60, _⟩ => ⟨S_, .i32⟩
  | .hbm, ⟨61, _⟩ => ⟨S2048x256, .i32⟩
  | .hbm, ⟨62, _⟩ => ⟨S2048x256, .i32⟩
  | .hbm, ⟨63, _⟩ => ⟨S_, .i32⟩
  | .hbm, ⟨64, _⟩ => ⟨S2048x256, .i32⟩
  | .hbm, ⟨65, _⟩ => ⟨S2048x256, .i1⟩
  | .hbm, ⟨66, _⟩ => ⟨S2048x256, .i1⟩
  | .hbm, ⟨67, _⟩ => ⟨S2048x256, .i32⟩
  | .hbm, ⟨68, _⟩ => ⟨S2048x256, .i32⟩
  | .hbm, ⟨69, _⟩ => ⟨S_, .i32⟩
  | .hbm, ⟨70, _⟩ => ⟨S2048x256, .i32⟩
  | .hbm, ⟨71, _⟩ => ⟨S2048x256, .i1⟩
  | .hbm, ⟨72, _⟩ => ⟨S_, .i32⟩
  | .hbm, ⟨73, _⟩ => ⟨S2048x256, .i32⟩
  | .hbm, ⟨74, _⟩ => ⟨S2048x256, .i1⟩
  | .hbm, ⟨75, _⟩ => ⟨S2048x256, .i1⟩
  | .hbm, ⟨76, _⟩ => ⟨S_, .i32⟩
  | .hbm, ⟨77, _⟩ => ⟨S2048x256, .i32⟩
  | .hbm, ⟨78, _⟩ => ⟨S2048x256, .i32⟩
  | .hbm, ⟨79, _⟩ => ⟨S_, .i32⟩
  | .hbm, ⟨80, _⟩ => ⟨S2048x256, .i32⟩
  | .hbm, ⟨81, _⟩ => ⟨S2048x256, .i1⟩
  | .hbm, ⟨82, _⟩ => ⟨S2048x256, .i1⟩
  | .hbm, ⟨83, _⟩ => ⟨S2048x256, .i32⟩
  | .hbm, ⟨84, _⟩ => ⟨S2048x256, .i32⟩
  | .hbm, ⟨85, _⟩ => ⟨S_, .i32⟩
  | .hbm, ⟨86, _⟩ => ⟨S2048x256, .i32⟩
  | .hbm, ⟨87, _⟩ => ⟨S2048x256, .i1⟩
  | .hbm, ⟨88, _⟩ => ⟨S_, .i32⟩
  | .hbm, ⟨89, _⟩ => ⟨S2048x256, .i32⟩
  | .hbm, ⟨90, _⟩ => ⟨S2048x256, .i32⟩
  | .hbm, ⟨91, _⟩ => ⟨S2048x256, .f32⟩
  | .hbm, ⟨92, _⟩ => ⟨S2048x256, .f32⟩
  | .hbm, ⟨93, _⟩ => ⟨S_, .f32⟩
  | .hbm, ⟨94, _⟩ => ⟨S_, .f32⟩
  | .hbm, ⟨95, _⟩ => ⟨S2048x256, .f32⟩
  | .hbm, ⟨96, _⟩ => ⟨S2048x256, .f32⟩
  | .hbm, ⟨97, _⟩ => ⟨S_, .f32⟩
  | .hbm, ⟨98, _⟩ => ⟨S_, .f32⟩
  | .hbm, ⟨99, _⟩ => ⟨S2048x256, .f32⟩
  | .hbm, ⟨100, _⟩ => ⟨S2048x256, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S32x2048x512, .f32⟩
  | .hbm, ⟨107, _⟩ => ⟨S32x2048x512, .f32⟩
  | .hbm, ⟨108, _⟩ => ⟨S32x2048x512, .bf16⟩
  | .hbm, ⟨109, _⟩ => ⟨S32x2048x512, .bf16⟩
  | .hbm, ⟨110, _⟩ => ⟨S32x2048x512, .bf16⟩
  | .hbm, ⟨111, _⟩ => ⟨S_, .f32⟩
  | .hbm, ⟨112, _⟩ => ⟨S2048x256, .f32⟩
  | .hbm, ⟨113, _⟩ => ⟨S2048x256, .f32⟩
  | .hbm, ⟨114, _⟩ => ⟨S32x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S2048x256, .f32⟩
  | .local _ .vmem, ⟨7, _⟩ => ⟨S1x2048x256, .bf16⟩
  | .local _ .vmem, ⟨8, _⟩ => ⟨S1x2048x256, .bf16⟩
  | .local _ .vmem, ⟨9, _⟩ => ⟨S2x128x2048, .bf16⟩
  | .local _ .vmem, ⟨10, _⟩ => ⟨S2048x512, .bf16⟩
  | .local _ .vmem, ⟨11, _⟩ => ⟨S2048x512, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_cst_7 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c_8 : Ref sig .tc := ⟨.hbm, 35, rfl⟩
abbrev main_v18 : Ref sig .tc := ⟨.hbm, 36, rfl⟩
abbrev main_c_9 : Ref sig .tc := ⟨.hbm, 37, rfl⟩
abbrev main_v19 : Ref sig .tc := ⟨.hbm, 38, rfl⟩
abbrev main_v20 : Ref sig .tc := ⟨.hbm, 39, rfl⟩
abbrev main_c_10 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_11 : Ref sig .tc := ⟨.hbm, 44, rfl⟩
abbrev main_v24 : Ref sig .tc := ⟨.hbm, 45, rfl⟩
abbrev main_v25 : Ref sig .tc := ⟨.hbm, 46, rfl⟩
abbrev main_c_12 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_13 : Ref sig .tc := ⟨.hbm, 53, rfl⟩
abbrev main_v31 : Ref sig .tc := ⟨.hbm, 54, rfl⟩
abbrev main_v32 : Ref sig .tc := ⟨.hbm, 55, rfl⟩
abbrev main_c_14 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_15 : Ref sig .tc := ⟨.hbm, 60, rfl⟩
abbrev main_v36 : Ref sig .tc := ⟨.hbm, 61, rfl⟩
abbrev main_v37 : Ref sig .tc := ⟨.hbm, 62, rfl⟩
abbrev main_c_16 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_17 : Ref sig .tc := ⟨.hbm, 69, rfl⟩
abbrev main_v43 : Ref sig .tc := ⟨.hbm, 70, rfl⟩
abbrev main_v44 : Ref sig .tc := ⟨.hbm, 71, rfl⟩
abbrev main_c_18 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_19 : Ref sig .tc := ⟨.hbm, 76, rfl⟩
abbrev main_v48 : Ref sig .tc := ⟨.hbm, 77, rfl⟩
abbrev main_v49 : Ref sig .tc := ⟨.hbm, 78, rfl⟩
abbrev main_c_20 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_21 : Ref sig .tc := ⟨.hbm, 85, rfl⟩
abbrev main_v55 : Ref sig .tc := ⟨.hbm, 86, rfl⟩
abbrev main_v56 : Ref sig .tc := ⟨.hbm, 87, rfl⟩
abbrev main_c_22 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_23 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_24 : Ref sig .tc := ⟨.hbm, 97, rfl⟩
abbrev main_call1_v0 : Ref sig .tc := ⟨.hbm, 98, rfl⟩
abbrev main_call1_v1 : Ref sig .tc := ⟨.hbm, 99, rfl⟩
abbrev main_v64 : Ref sig .tc := ⟨.hbm, 100, rfl⟩
abbrev main_cst_25 : Ref sig .tc := ⟨.hbm, 101, rfl⟩
abbrev main_v65 : Ref sig .tc := ⟨.hbm, 102, rfl⟩
abbrev main_cst_26 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x2048x512 : Shape := ⟨3, ![32, 2048, 512]⟩
abbrev S64 : Shape := ⟨1, ![64]⟩
abbrev S32x2048x8x64 : Shape := ⟨4, ![32, 2048, 8, 64]⟩
abbrev S32x16x128x1x8x64 : Shape := ⟨6, ![32, 16, 128, 1, 8, 64]⟩
abbrev S32x2048x1x8x64 : Shape := ⟨5, ![32, 2048, 1, 8, 64]⟩
abbrev S_ : Shape := ⟨0, ![]⟩
abbrev S32x2176x1x8x64 : Shape := ⟨5, ![32, 2176, 1, 8, 64]⟩
abbrev S16 : Shape := ⟨1, ![16]⟩
abbrev S16x1 : Shape := ⟨2, ![16, 1]⟩
abbrev S256 : Shape := ⟨1, ![256]⟩
abbrev S1x256 : Shape := ⟨2, ![1, 256]⟩
abbrev S16x256 : Shape := ⟨2, ![16, 256]⟩
abbrev S16x256x1 : Shape := ⟨3, ![16, 256, 1]⟩
abbrev S32x16x256x1x8x64 : Shape := ⟨6, ![32, 16, 256, 1, 8, 64]⟩
abbrev S32x16x1x8x128x256 : Shape := ⟨6, ![32, 16, 1, 8, 128, 256]⟩
abbrev S128 : Shape := ⟨1, ![128]⟩
abbrev S128x1 : Shape := ⟨2, ![128, 1]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S32x16x1x8x128 : Shape := ⟨5, ![32, 16, 1, 8, 128]⟩
abbrev S32x16x1x8x128x1 : Shape := ⟨6, ![32, 16, 1, 8, 128, 1]⟩
abbrev S32x16x1x8x64x128 : Shape := ⟨6, ![32, 16, 1, 8, 64, 128]⟩
abbrev S32x16x128x1x8 : Shape := ⟨5, ![32, 16, 128, 1, 8]⟩
abbrev S32x2048x8 : Shape := ⟨3, ![32, 2048, 8]⟩
abbrev S32x4x128x4x8x64 : Shape := ⟨6, ![32, 4, 128, 4, 8, 64]⟩
abbrev S32x512x4x8x64 : Shape := ⟨5, ![32, 512, 4, 8, 64]⟩
abbrev S32x640x4x8x64 : Shape := ⟨5, ![32, 640, 4, 8, 64]⟩
abbrev S4 : Shape := ⟨1, ![4]⟩
abbrev S4x1 : Shape := ⟨2, ![4, 1]⟩
abbrev S4x256 : Shape := ⟨2, ![4, 256]⟩
abbrev S4x256x1 : Shape := ⟨3, ![4, 256, 1]⟩
abbrev S32x4x256x4x8x64 : Shape := ⟨6, ![32, 4, 256, 4, 8, 64]⟩
abbrev S32x4x4x8x128x256 : Shape := ⟨6, ![32, 4, 4, 8, 128, 256]⟩
abbrev S4x1x1 : Shape := ⟨3, ![4, 1, 1]⟩
abbrev S4x1x256 : Shape := ⟨3, ![4, 1, 256]⟩
abbrev S4x128x256 : Shape := ⟨3, ![4, 128, 256]⟩
abbrev S1x4x1x1x128x256 : Shape := ⟨6, ![1, 4, 1, 1, 128, 256]⟩
abbrev S32x4x4x8x128 : Shape := ⟨5, ![32, 4, 4, 8, 128]⟩
abbrev S32x4x4x8x128x1 : Shape := ⟨6, ![32, 4, 4, 8, 128, 1]⟩
abbrev S32x4x4x8x64x128 : Shape := ⟨6, ![32, 4, 4, 8, 64, 128]⟩
abbrev S32x4x128x4x8 : Shape := ⟨5, ![32, 4, 128, 4, 8]⟩
abbrev S32x1x128x16x8x64 : Shape := ⟨6, ![32, 1, 128, 16, 8, 64]⟩
abbrev S32x128x16x8x64 : Shape := ⟨5, ![32, 128, 16, 8, 64]⟩
abbrev S32x256x16x8x64 : Shape := ⟨5, ![32, 256, 16, 8, 64]⟩
abbrev S1 : Shape := ⟨1, ![1]⟩
abbrev S1x1 : Shape := ⟨2, ![1, 1]⟩
abbrev S1x256x1 : Shape := ⟨3, ![1, 256, 1]⟩
abbrev S32x1x256x16x8x64 : Shape := ⟨6, ![32, 1, 256, 16, 8, 64]⟩
abbrev S32x1x16x8x128x256 : Shape := ⟨6, ![32, 1, 16, 8, 128, 256]⟩
abbrev S1x1x1 : Shape := ⟨3, ![1, 1, 1]⟩
abbrev S1x1x1x1x128x256 : Shape := ⟨6, ![1, 1, 1, 1, 128, 256]⟩
abbrev S32x1x16x8x128 : Shape := ⟨5, ![32, 1, 16, 8, 128]⟩
abbrev S32x1x16x8x128x1 : Shape := ⟨6, ![32, 1, 16, 8, 128, 1]⟩
abbrev S32x1x16x8x64x128 : Shape := ⟨6, ![32, 1, 16, 8, 64, 128]⟩
abbrev S32x1x128x16x8 : Shape := ⟨5, ![32, 1, 128, 16, 8]⟩
abbrev S1x32x2048x8 : Shape := ⟨4, ![1, 32, 2048, 8]⟩
abbrev S3x32x2048x8 : Shape := ⟨4, ![3, 32, 2048, 8]⟩
abbrev S3x32x2048x8x1 : Shape := ⟨5, ![3, 32, 2048, 8, 1]⟩
abbrev S1x32x2048x8x64 : Shape := ⟨5, ![1, 32, 2048, 8, 64]⟩
abbrev S3x32x2048x8x64 : Shape := ⟨5, ![3, 32, 2048, 8, 64]⟩

abbrev nBuf : Space → Nat
  | .hbm => 289
  | .vmem => 0
  | .smem => 0
  | _ => 0

abbrev hbmTy0_0 (i : Nat) : BufTy := match i % 128 with
  | 0 => ⟨S32x2048x512, .f32⟩
  | 1 => ⟨S32x2048x512, .f32⟩
  | 2 => ⟨S32x2048x512, .f32⟩
  | 3 => ⟨S64, .f32⟩
  | 4 => ⟨S64, .f32⟩
  | 5 => ⟨S32x2048x8x64, .f32⟩
  | 6 => ⟨S32x2048x8x64, .f32⟩
  | 7 => ⟨S32x2048x8x64, .f32⟩
  | 8 => ⟨S32x16x128x1x8x64, .f32⟩
  | 9 => ⟨S32x2048x1x8x64, .f32⟩
  | 10 => ⟨S_, .i32⟩
  | 11 => ⟨S_, .f32⟩
  | 12 => ⟨S32x2176x1x8x64, .f32⟩
  | 13 => ⟨S32x2048x1x8x64, .f32⟩
  | 14 => ⟨S_, .i32⟩
  | 15 => ⟨S_, .f32⟩
  | 16 => ⟨S32x2176x1x8x64, .f32⟩
  | 17 => ⟨S16, .i32⟩
  | 18 => ⟨S_, .i32⟩
  | 19 => ⟨S16, .i32⟩
  | 20 => ⟨S16, .i32⟩
  | 21 => ⟨S16x1, .i32⟩
  | 22 => ⟨S256, .i32⟩
  | 23 => ⟨S1x256, .i32⟩
  | 24 => ⟨S16x256, .i32⟩
  | 25 => ⟨S16x256, .i32⟩
  | 26 => ⟨S16x256, .i32⟩
  | 27 => ⟨S16x256x1, .i32⟩
  | 28 => ⟨S32x16x256x1x8x64, .f32⟩
  | 29 => ⟨S16x256x1, .i32⟩
  | 30 => ⟨S32x16x256x1x8x64, .f32⟩
  | 31 => ⟨S32x16x1x8x128x256, .f32⟩
  | 32 => ⟨S_, .f32⟩
  | 33 => ⟨S32x16x1x8x128x256, .f32⟩
  | 34 => ⟨S32x16x1x8x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S16x1x1, .i32⟩
  | 46 => ⟨S1x1x256, .i32⟩
  | 47 => ⟨S16x1x256, .i32⟩
  | 48 => ⟨S16x1x256, .i32⟩
  | 49 => ⟨S16x1x256, .i32⟩
  | 50 => ⟨S_, .i32⟩
  | 51 => ⟨S16x1x256, .i32⟩
  | 52 => ⟨S16x1x256, .i32⟩
  | 53 => ⟨S_, .i32⟩
  | 54 => ⟨S128x256, .i32⟩
  | 55 => ⟨S128x256, .i1⟩
  | 56 => ⟨S1x128x256, .i1⟩
  | 57 => ⟨S_, .i32⟩
  | 58 => ⟨S128x256, .i32⟩
  | 59 => ⟨S128x256, .i1⟩
  | 60 => ⟨S1x128x256, .i1⟩
  | 61 => ⟨S1x128x256, .i1⟩
  | 62 => ⟨S_, .i32⟩
  | 63 => ⟨S16x1x256, .i32⟩
  | 64 => ⟨S16x1x256, .i1⟩
  | 65 => ⟨S16x128x256, .i1⟩
  | 66 => ⟨S16x128x256, .i1⟩
  | 67 => ⟨S16x128x256, .i1⟩
  | 68 => ⟨S1x16x1x1x128x256, .i1⟩
  | 69 => ⟨S_, .f32⟩
  | 70 => ⟨S_, .f32⟩
  | 71 => ⟨S32x16x1x8x128x256, .i1⟩
  | 72 => ⟨S32x16x1x8x128x256, .f32⟩
  | 73 => ⟨S32x16x1x8x128x256, .f32⟩
  | 74 => ⟨S_, .f32⟩
  | 75 => ⟨S32x16x1x8x128, .f32⟩
  | 76 => ⟨S32x16x1x8x128x1, .f32⟩
  | 77 => ⟨S32x16x1x8x128x256, .f32⟩
  | 78 => ⟨S32x16x1x8x128x256, .f32⟩
  | 79 => ⟨S32x16x1x8x128x256, .f32⟩
  | 80 => ⟨S_, .f32⟩
  | 81 => ⟨S32x16x1x8x128, .f32⟩
  | 82 => ⟨S32x16x1x8x128, .f32⟩
  | 83 => ⟨S32x16x1x8x128, .f32⟩
  | 84 => ⟨S32x16x1x8x128x1, .f32⟩
  | 85 => ⟨S32x16x1x8x128x256, .f32⟩
  | 86 => ⟨S32x16x1x8x128x256, .f32⟩
  | 87 => ⟨S32x16x1x8x128x256, .f32⟩
  | 88 => ⟨S32x16x1x8x64x128, .f32⟩
  | 89 => ⟨S32x16x128x1x8x64, .f32⟩
  | 90 => ⟨S32x2048x8x64, .f32⟩
  | 91 => ⟨S32x16x128x1x8, .f32⟩
  | 92 => ⟨S32x2048x8, .f32⟩
  | 93 => ⟨S32x4x128x4x8x64, .f32⟩
  | 94 => ⟨S32x512x4x8x64, .f32⟩
  | 95 => ⟨S_, .i32⟩
  | 96 => ⟨S_, .f32⟩
  | 97 => ⟨S32x640x4x8x64, .f32⟩
  | 98 => ⟨S32x512x4x8x64, .f32⟩
  | 99 => ⟨S_, .i32⟩
  | 100 => ⟨S_, .f32⟩
  | 101 => ⟨S32x640x4x8x64, .f32⟩
  | 102 => ⟨S4, .i32⟩
  | 103 => ⟨S_, .i32⟩
  | 104 => ⟨S4, .i32⟩
  | 105 => ⟨S4, .i32⟩
  | 106 => ⟨S4x1, .i32⟩
  | 107 => ⟨S256, .i32⟩
  | 108 => ⟨S1x256, .i32⟩
  | 109 => ⟨S4x256, .i32⟩
  | 110 => ⟨S4x256, .i32⟩
  | 111 => ⟨S4x256, .i32⟩
  | 112 => ⟨S4x256x1, .i32⟩
  | 113 => ⟨S32x4x256x4x8x64, .f32⟩
  | 114 => ⟨S4x256x1, .i32⟩
  | 115 => ⟨S32x4x256x4x8x64, .f32⟩
  | 116 => ⟨S32x4x4x8x128x256, .f32⟩
  | 117 => ⟨S_, .f32⟩
  | 118 => ⟨S32x4x4x8x128x256, .f32⟩
  | 119 => ⟨S32x4x4x8x128x256, .f32⟩
  | 120 => ⟨S128, .i32⟩
  | 121 => ⟨S128x1, .i32⟩
  | 122 => ⟨S256, .i32⟩
  | 123 => ⟨S1x256, .i32⟩
  | 124 => ⟨S_, .i32⟩
  | 125 => ⟨S128x1, .i32⟩
  | 126 => ⟨S128x1, .i32⟩
  | 127 => ⟨S128x256, .i32⟩
  | _ => ⟨S32x2048x512, .f32⟩

abbrev hbmTy0_1 (i : Nat) : BufTy := match i % 128 with
  | 0 => ⟨S128x256, .i32⟩
  | 1 => ⟨S128x256, .i32⟩
  | 2 => ⟨S4x1x1, .i32⟩
  | 3 => ⟨S1x1x256, .i32⟩
  | 4 => ⟨S4x1x256, .i32⟩
  | 5 => ⟨S4x1x256, .i32⟩
  | 6 => ⟨S4x1x256, .i32⟩
  | 7 => ⟨S_, .i32⟩
  | 8 => ⟨S4x1x256, .i32⟩
  | 9 => ⟨S4x1x256, .i32⟩
  | 10 => ⟨S_, .i32⟩
  | 11 => ⟨S128x256, .i32⟩
  | 12 => ⟨S128x256, .i1⟩
  | 13 => ⟨S1x128x256, .i1⟩
  | 14 => ⟨S_, .i32⟩
  | 15 => ⟨S128x256, .i32⟩
  | 16 => ⟨S128x256, .i1⟩
  | 17 => ⟨S1x128x256, .i1⟩
  | 18 => ⟨S1x128x256, .i1⟩
  | 19 => ⟨S_, .i32⟩
  | 20 => ⟨S4x1x256, .i32⟩
  | 21 => ⟨S4x1x256, .i1⟩
  | 22 => ⟨S4x128x256, .i1⟩
  | 23 => ⟨S4x128x256, .i1⟩
  | 24 => ⟨S4x128x256, .i1⟩
  | 25 => ⟨S1x4x1x1x128x256, .i1⟩
  | 26 => ⟨S_, .f32⟩
  | 27 => ⟨S_, .f32⟩
  | 28 => ⟨S32x4x4x8x128x256, .i1⟩
  | 29 => ⟨S32x4x4x8x128x256, .f32⟩
  | 30 => ⟨S32x4x4x8x128x256, .f32⟩
  | 31 => ⟨S_, .f32⟩
  | 32 => ⟨S32x4x4x8x128, .f32⟩
  | 33 => ⟨S32x4x4x8x128x1, .f32⟩
  | 34 => ⟨S32x4x4x8x128x256, .f32⟩
  | 35 => ⟨S32x4x4x8x128x256, .f32⟩
  | 36 => ⟨S32x4x4x8x128x256, .f32⟩
  | 37 => ⟨S_, .f32⟩
  | 38 => ⟨S32x4x4x8x128, .f32⟩
  | 39 => ⟨S32x4x4x8x128, .f32⟩
  | 40 => ⟨S32x4x4x8x128, .f32⟩
  | 41 => ⟨S32x4x4x8x128x1, .f32⟩
  | 42 => ⟨S32x4x4x8x128x256, .f32⟩
  | 43 => ⟨S32x4x4x8x128x256, .f32⟩
  | 44 => ⟨S32x4x4x8x128x256, .f32⟩
  | 45 => ⟨S32x4x4x8x64x128, .f32⟩
  | 46 => ⟨S32x4x128x4x8x64, .f32⟩
  | 47 => ⟨S32x2048x8x64, .f32⟩
  | 48 => ⟨S32x4x128x4x8, .f32⟩
  | 49 => ⟨S32x2048x8, .f32⟩
  | 50 => ⟨S32x1x128x16x8x64, .f32⟩
  | 51 => ⟨S32x128x16x8x64, .f32⟩
  | 52 => ⟨S_, .i32⟩
  | 53 => ⟨S_, .f32⟩
  | 54 => ⟨S32x256x16x8x64, .f32⟩
  | 55 => ⟨S32x128x16x8x64, .f32⟩
  | 56 => ⟨S_, .i32⟩
  | 57 => ⟨S_, .f32⟩
  | 58 => ⟨S32x256x16x8x64, .f32⟩
  | 59 => ⟨S1, .i32⟩
  | 60 => ⟨S_, .i32⟩
  | 61 => ⟨S1, .i32⟩
  | 62 => ⟨S1, .i32⟩
  | 63 => ⟨S1x1, .i32⟩
  | 64 => ⟨S256, .i32⟩
  | 65 => ⟨S1x256, .i32⟩
  | 66 => ⟨S1x256, .i32⟩
  | 67 => ⟨S1x256, .i32⟩
  | 68 => ⟨S1x256x1, .i32⟩
  | 69 => ⟨S32x1x256x16x8x64, .f32⟩
  | 70 => ⟨S1x256x1, .i32⟩
  | 71 => ⟨S32x1x256x16x8x64, .f32⟩
  | 72 => ⟨S32x1x16x8x128x256, .f32⟩
  | 73 => ⟨S_, .f32⟩
  | 74 => ⟨S32x1x16x8x128x256, .f32⟩
  | 75 => ⟨S32x1x16x8x128x256, .f32⟩
  | 76 => ⟨S128, .i32⟩
  | 77 => ⟨S128x1, .i32⟩
  | 78 => ⟨S256, .i32⟩
  | 79 => ⟨S1x256, .i32⟩
  | 80 => ⟨S_, .i32⟩
  | 81 => ⟨S128x1, .i32⟩
  | 82 => ⟨S128x1, .i32⟩
  | 83 => ⟨S128x256, .i32⟩
  | 84 => ⟨S128x256, .i32⟩
  | 85 => ⟨S128x256, .i32⟩
  | 86 => ⟨S1x1x1, .i32⟩
  | 87 => ⟨S1x1x256, .i32⟩
  | 88 => ⟨S1x1x256, .i32⟩
  | 89 => ⟨S1x1x256, .i32⟩
  | 90 => ⟨S_, .i32⟩
  | 91 => ⟨S1x1x256, .i32⟩
  | 92 => ⟨S1x1x256, .i32⟩
  | 93 => ⟨S_, .i32⟩
  | 94 => ⟨S128x256, .i32⟩
  | 95 => ⟨S128x256, .i1⟩
  | 96 => ⟨S1x128x256, .i1⟩
  | 97 => ⟨S_, .i32⟩
  | 98 => ⟨S128x256, .i32⟩
  | 99 => ⟨S128x256, .i1⟩
  | 100 => ⟨S1x128x256, .i1⟩
  | 101 => ⟨S1x128x256, .i1⟩
  | 102 => ⟨S_, .i32⟩
  | 103 => ⟨S1x1x256, .i32⟩
  | 104 => ⟨S1x1x256, .i1⟩
  | 105 => ⟨S1x128x256, .i1⟩
  | 106 => ⟨S1x128x256, .i1⟩
  | 107 => ⟨S1x1x1x1x128x256, .i1⟩
  | 108 => ⟨S_, .f32⟩
  | 109 => ⟨S_, .f32⟩
  | 110 => ⟨S32x1x16x8x128x256, .i1⟩
  | 111 => ⟨S32x1x16x8x128x256, .f32⟩
  | 112 => ⟨S32x1x16x8x128x256, .f32⟩
  | 113 => ⟨S_, .f32⟩
  | 114 => ⟨S32x1x16x8x128, .f32⟩
  | 115 => ⟨S32x1x16x8x128x1, .f32⟩
  | 116 => ⟨S32x1x16x8x128x256, .f32⟩
  | 117 => ⟨S32x1x16x8x128x256, .f32⟩
  | 118 => ⟨S32x1x16x8x128x256, .f32⟩
  | 119 => ⟨S_, .f32⟩
  | 120 => ⟨S32x1x16x8x128, .f32⟩
  | 121 => ⟨S32x1x16x8x128, .f32⟩
  | 122 => ⟨S32x1x16x8x128, .f32⟩
  | 123 => ⟨S32x1x16x8x128x1, .f32⟩
  | 124 => ⟨S32x1x16x8x128x256, .f32⟩
  | 125 => ⟨S32x1x16x8x128x256, .f32⟩
  | 126 => ⟨S32x1x16x8x128x256, .f32⟩
  | 127 => ⟨S32x1x16x8x64x128, .f32⟩
  | _ => ⟨S32x2048x512, .f32⟩

abbrev hbmTy0_2 (i : Nat) : BufTy := match i % 128 with
  | 0 => ⟨S32x1x128x16x8x64, .f32⟩
  | 1 => ⟨S32x2048x8x64, .f32⟩
  | 2 => ⟨S32x1x128x16x8, .f32⟩
  | 3 => ⟨S32x2048x8, .f32⟩
  | 4 => ⟨S1x32x2048x8, .f32⟩
  | 5 => ⟨S1x32x2048x8, .f32⟩
  | 6 => ⟨S1x32x2048x8, .f32⟩
  | 7 => ⟨S3x32x2048x8, .f32⟩
  | 8 => ⟨S_, .f32⟩
  | 9 => ⟨S32x2048x8, .f32⟩
  | 10 => ⟨S_, .f32⟩
  | 11 => ⟨S32x2048x8, .f32⟩
  | 12 => ⟨S32x2048x8, .f32⟩
  | 13 => ⟨S1x32x2048x8, .f32⟩
  | 14 => ⟨S3x32x2048x8, .f32⟩
  | 15 => ⟨S3x32x2048x8, .f32⟩
  | 16 => ⟨S3x32x2048x8, .f32⟩
  | 17 => ⟨S_, .f32⟩
  | 18 => ⟨S32x2048x8, .f32⟩
  | 19 => ⟨S1x32x2048x8, .f32⟩
  | 20 => ⟨S3x32x2048x8, .f32⟩
  | 21 => ⟨S3x32x2048x8, .f32⟩
  | 22 => ⟨S3x32x2048x8x1, .f32⟩
  | 23 => ⟨S1x32x2048x8x64, .f32⟩
  | 24 => ⟨S1x32x2048x8x64, .f32⟩
  | 25 => ⟨S1x32x2048x8x64, .f32⟩
  | 26 => ⟨S3x32x2048x8x64, .f32⟩
  | 27 => ⟨S3x32x2048x8x64, .f32⟩
  | 28 => ⟨S3x32x2048x8x64, .f32⟩
  | 29 => ⟨S_, .f32⟩
  | 30 => ⟨S32x2048x8x64, .f32⟩
  | 31 => ⟨S32x2048x512, .f32⟩
  | 32 => ⟨S32x2048x512, .bf16⟩
  | _ => ⟨S32x2048x512, .f32⟩

abbrev hbmTy (i : Nat) : BufTy := match i / 128 with
  | 0 => hbmTy0_0 i
  | 1 => hbmTy0_1 i
  | 2 => hbmTy0_2 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_10 : Ref sig .tc := ⟨.hbm, 95, rfl⟩
abbrev main_call3_v0 : Ref sig .tc := ⟨.hbm, 96, rfl⟩
abbrev main_v73 : Ref sig .tc := ⟨.hbm, 97, rfl⟩
abbrev main_v74 : Ref sig .tc := ⟨.hbm, 98, rfl⟩
abbrev main_c_11 : Ref sig .tc := ⟨.hbm, 99, rfl⟩
abbrev main_call4_v0 : Ref sig .tc := ⟨.hbm, 100, rfl⟩
abbrev main_v75 : Ref sig .tc := ⟨.hbm, 101, rfl⟩
abbrev main_v76 : Ref sig .tc := ⟨.hbm, 102, rfl⟩
abbrev main_c_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_14 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_15 : Ref sig .tc := ⟨.hbm, 135, rfl⟩
abbrev main_v106 : Ref sig .tc := ⟨.hbm, 136, rfl⟩
abbrev main_v107 : Ref sig .tc := ⟨.hbm, 137, rfl⟩
abbrev main_c_16 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_17 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c_18 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_19 : Ref sig .tc := ⟨.hbm, 154, rfl⟩
abbrev main_call5_v0 : Ref sig .tc := ⟨.hbm, 155, rfl⟩
abbrev main_call5_v1 : Ref sig .tc := ⟨.hbm, 156, rfl⟩
abbrev main_call5_v2 : Ref sig .tc := ⟨.hbm, 157, rfl⟩
abbrev main_v121 : Ref sig .tc := ⟨.hbm, 158, rfl⟩
abbrev main_cst_20 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_21 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_c_22 : Ref sig .tc := ⟨.hbm, 180, rfl⟩
abbrev main_call6_v0 : Ref sig .tc := ⟨.hbm, 181, rfl⟩
abbrev main_v141 : Ref sig .tc := ⟨.hbm, 182, rfl⟩
abbrev main_v142 : Ref sig .tc := ⟨.hbm, 183, rfl⟩
abbrev main_c_23 : Ref sig .tc := ⟨.hbm, 184, rfl⟩
abbrev main_call7_v0 : Ref sig .tc := ⟨.hbm, 185, rfl⟩
abbrev main_v143 : Ref sig .tc := ⟨.hbm, 186, rfl⟩
abbrev main_v144 : Ref sig .tc := ⟨.hbm, 187, rfl⟩
abbrev main_c_24 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_25 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_c_26 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_c_27 : Ref sig .tc := ⟨.hbm, 218, rfl⟩
abbrev main_v172 : Ref sig .tc := ⟨.hbm, 219, rfl⟩
abbrev main_v173 : Ref sig .tc := ⟨.hbm, 220, rfl⟩
abbrev main_c_28 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_c_29 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_c_30 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_31 : Ref sig .tc := ⟨.hbm, 236, rfl⟩
abbrev main_call8_v0 : Ref sig .tc := ⟨.hbm, 237, rfl⟩
abbrev main_call8_v1 : Ref sig .tc := ⟨.hbm, 238, rfl⟩
abbrev main_call8_v2 : Ref sig .tc := ⟨.hbm, 239, rfl⟩
abbrev main_v186 : Ref sig .tc := ⟨.hbm, 240, rfl⟩
abbrev main_cst_32 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_33 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_cst_34 : Ref sig .tc := ⟨.hbm, 264, rfl⟩
abbrev main_v208 : Ref sig .tc := ⟨.hbm, 265, rfl⟩
abbrev main_cst_35 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_cst_36 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_cst_37 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S65536x512 : Shape := ⟨2, ![65536, 512]⟩
abbrev S1x512 : Shape := ⟨2, ![1, 512]⟩
abbrev S512x1024 : Shape := ⟨2, ![512, 1024]⟩
abbrev S1x1024 : Shape := ⟨2, ![1, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x2816 : Shape := ⟨2, ![256, 2816]⟩

abbrev nBuf : Space → Nat
  | .hbm => 26
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S65536x1024, .f32⟩
  | .hbm, ⟨11, _⟩ => ⟨S32x2048x512, .bf16⟩
  | .hbm, ⟨12, _⟩ => ⟨S65536x512, .bf16⟩
  | .hbm, ⟨13, _⟩ => ⟨S32x2048x512, .bf16⟩
  | .hbm, ⟨14, _⟩ => ⟨S65536x512, .bf16⟩
  | .hbm, ⟨15, _⟩ => ⟨S1x512, .f32⟩
  | .hbm, ⟨16, _⟩ => ⟨S1x512, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1x1024, .f32⟩
  | .hbm, ⟨22, _⟩ => ⟨S1024x2816, .bf16⟩
  | .hbm, ⟨23, _⟩ => ⟨S1024x2816, .bf16⟩
  | .hbm, ⟨24, _⟩ => ⟨S2816x1024, .bf16⟩
  | .hbm, ⟨25, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1024x1024, .f32⟩
  | .local _ .vmem, ⟨15, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32x2048x1024 : Shape := ⟨3, ![32, 2048, 1024]⟩
abbrev S32x2048x512 : Shape := ⟨3, ![32, 2048, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x512 : Shape := ⟨3, ![1, 1, 512]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 76
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S32x2048x512, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S32x2048x1, .f32⟩
  | .hbm, ⟨21, _⟩ => ⟨S32x2048x512, .f32⟩
  | .hbm, ⟨22, _⟩ => ⟨S32x2048x512, .f32⟩
  | .hbm, ⟨23, _⟩ => ⟨S1x1x512, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S_, .f32⟩
  | .hbm, ⟨28, _⟩ => ⟨S32x2048, .f32⟩
  | .hbm, ⟨29, _⟩ => ⟨S32x2048x1, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S32x2048x1, .f32⟩
  | .hbm, ⟨37, _⟩ => ⟨S32x2048x512, .f32⟩
  | .hbm, ⟨38, _⟩ => ⟨S32x2048x512, .f32⟩
  | .hbm, ⟨39, _⟩ => ⟨S1x1x512, .f32⟩
  | .hbm, ⟨40, _⟩ => ⟨S32x2048x512, .f32⟩
  | .hbm, ⟨41, _⟩ => ⟨S32x2048x512, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S_, .f32⟩
  | .hbm, ⟨47, _⟩ => ⟨S32x2048, .f32⟩
  | .hbm, ⟨48, _⟩ => ⟨S32x2048x1, .f32⟩
  | .hbm, ⟨49, _⟩ => ⟨S_, .f32⟩
  | .hbm, ⟨50, _⟩ => ⟨S32x2048x1, .f32⟩
  | .hbm, ⟨51, _⟩ => ⟨S32x2048x1, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S32x2048x1, .f32⟩
  | .hbm, ⟨56, _⟩ => ⟨S32x2048x1024, .f32⟩
  | .hbm, ⟨57, _⟩ => ⟨S32x2048x1024, .f32⟩
  | .hbm, ⟨58, _⟩ => ⟨S1x1x1024, .f32⟩
  | .hbm, ⟨59, _⟩ => ⟨S32x2048x1024, .f32⟩
  | .hbm, ⟨60, _⟩ => ⟨S32x2048x1024, .f32⟩
  | .hbm, ⟨61, _⟩ => ⟨S32x2048x2816, .f32⟩
  | .hbm, ⟨62, _⟩ => ⟨S32x2048x2816, .f32⟩
  | .hbm, ⟨63, _⟩ => ⟨S32x2048x2816, .f32⟩
  | .hbm, ⟨64, _⟩ => ⟨S32x2048x2816, .f32⟩
  | .hbm, ⟨65, _⟩ => ⟨S_, .f32⟩
  | .hbm, ⟨66, _⟩ => ⟨S32x2048x2816, .f32⟩
  | .hbm, ⟨67, _⟩ => ⟨S32x2048x2816, .f32⟩
  | .hbm, ⟨68, _⟩ => ⟨S_, .f32⟩
  | .hbm, ⟨69, _⟩ => ⟨S32x2048x2816, .f32⟩
  | .hbm, ⟨70, _⟩ => ⟨S32x2048x2816, .f32⟩
  | .hbm, ⟨71, _⟩ => ⟨S32x2048x2816, .f32⟩
  | .hbm, ⟨72, _⟩ => ⟨S32x2048x2816, .f32⟩
  | .hbm, ⟨73, _⟩ => ⟨S32x2048x1024, .f32⟩
  | .hbm, ⟨74, _⟩ => ⟨S32x2048x1024, .f32⟩
  | .hbm, ⟨75, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S1024x512 : Shape := ⟨2, ![1024, 512]⟩
abbrev S1024x3072 : Shape := ⟨2, ![1024, 3072]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x128 : Shape := ⟨2, ![1, 128]⟩
abbrev S2 : Shape := ⟨1, ![2]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x512 : Shape := ⟨2, ![4, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S32x2048x512 : Shape := ⟨3, ![32, 2048, 512]⟩
abbrev S1x1024x1024 : Shape := ⟨3, ![1, 1024, 1024]⟩
abbrev S1x1024x512 : Shape := ⟨3, ![1, 1024, 512]⟩
abbrev S8x128 : Shape := ⟨2, ![8, 128]⟩
abbrev S512x128 : Shape := ⟨2, ![512, 128]⟩
abbrev S1x512x1024 : Shape := ⟨3, ![1, 512, 1024]⟩
abbrev S512x1024 : Shape := ⟨2, ![512, 1024]⟩
abbrev S512x1 : Shape := ⟨2, ![512, 1]⟩
abbrev S512x512 : Shape := ⟨2, ![512, 512]⟩
abbrev S512x256 : Shape := ⟨2, ![512, 256]⟩
abbrev S1x512x512 : Shape := ⟨3, ![1, 512, 512]⟩
abbrev S1x512x128 : Shape := ⟨3, ![1, 512, 128]⟩

abbrev nBuf : Space → Nat
  | .hbm => 142
  | .vmem => 28
  | .smem => 0
  | _ => 0

abbrev hbmTy0_0 (i : Nat) : BufTy := match i % 128 with
  | 0 => ⟨S32x2048x1024, .f32⟩
  | 1 => ⟨S1024, .f32⟩
  | 2 => ⟨S1024x3080, .f32⟩
  | 3 => ⟨S8, .f32⟩
  | 4 => ⟨S64, .f32⟩
  | 5 => ⟨S64, .f32⟩
  | 6 => ⟨S64, .f32⟩
  | 7 => ⟨S64, .f32⟩
  | 8 => ⟨S1024x512, .f32⟩
  | 9 => ⟨S1024x512, .f32⟩
  | 10 => ⟨S1024x512, .f32⟩
  | 11 => ⟨S1024x512, .f32⟩
  | 12 => ⟨S1024x512, .f32⟩
  | 13 => ⟨S1024x512, .f32⟩
  | 14 => ⟨S1024x3072, .f32⟩
  | 15 => ⟨S1024x3072, .bf16⟩
  | 16 => ⟨S_, .f32⟩
  | 17 => ⟨S1024x128, .f32⟩
  | 18 => ⟨S1024x8, .f32⟩
  | 19 => ⟨S_, .i32⟩
  | 20 => ⟨S1, .i32⟩
  | 21 => ⟨S1024x128, .f32⟩
  | 22 => ⟨S1024x128, .bf16⟩
  | 23 => ⟨S_, .f32⟩
  | 24 => ⟨S1x128, .f32⟩
  | 25 => ⟨S_, .i32⟩
  | 26 => ⟨S1, .i32⟩
  | 27 => ⟨S_, .i32⟩
  | 28 => ⟨S1, .i32⟩
  | 29 => ⟨S2, .i32⟩
  | 30 => ⟨S1x128, .f32⟩
  | 31 => ⟨S1x64, .f32⟩
  | 32 => ⟨S8x64, .f32⟩
  | 33 => ⟨S512, .f32⟩
  | 34 => ⟨S1x64, .f32⟩
  | 35 => ⟨S8x64, .f32⟩
  | 36 => ⟨S512, .f32⟩
  | 37 => ⟨S1x64, .f32⟩
  | 38 => ⟨S8x64, .f32⟩
  | 39 => ⟨S512, .f32⟩
  | 40 => ⟨S1x64, .f32⟩
  | 41 => ⟨S8x64, .f32⟩
  | 42 => ⟨S512, .f32⟩
  | 43 => ⟨S1x512, .f32⟩
  | 44 => ⟨S1x512, .f32⟩
  | 45 => ⟨S1x512, .f32⟩
  | 46 => ⟨S1x512, .f32⟩
  | 47 => ⟨S4x512, .f32⟩
  | 48 => ⟨S256, .i32⟩
  | 49 => ⟨S_, .i32⟩
  | 50 => ⟨S_, .i32⟩
  | 51 => ⟨S256, .i32⟩
  | 52 => ⟨S256, .i32⟩
  | 53 => ⟨S256, .i32⟩
  | 54 => ⟨S_, .i32⟩
  | 55 => ⟨S256, .i32⟩
  | 56 => ⟨S256, .i1⟩
  | 57 => ⟨S256, .i32⟩
  | 58 => ⟨S256, .i32⟩
  | 59 => ⟨S_, .i32⟩
  | 60 => ⟨S256, .i32⟩
  | 61 => ⟨S256, .i1⟩
  | 62 => ⟨S256, .i1⟩
  | 63 => ⟨S_, .i32⟩
  | 64 => ⟨S256, .i32⟩
  | 65 => ⟨S256, .i32⟩
  | 66 => ⟨S256, .i32⟩
  | 67 => ⟨S256x1, .i32⟩
  | 68 => ⟨S1x256, .i32⟩
  | 69 => ⟨S256x256, .i32⟩
  | 70 => ⟨S256x256, .i32⟩
  | 71 => ⟨S256x256, .i1⟩
  | 72 => ⟨S_, .f32⟩
  | 73 => ⟨S_, .f32⟩
  | 74 => ⟨S256x256, .f32⟩
  | 75 => ⟨S256x256, .f32⟩
  | 76 => ⟨S256x256, .f32⟩
  | 77 => ⟨S256x256, .bf16⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S2048, .i32⟩
  | 90 => ⟨S2048, .f32⟩
  | 91 => ⟨S2048x1, .f32⟩
  | 92 => ⟨S1x8, .f32⟩
  | 93 => ⟨S2048x8, .f32⟩
  | 94 => ⟨S2048x8, .f32⟩
  | 95 => ⟨S2048x8, .f32⟩
  | 96 => ⟨S2048x8, .f32⟩
  | 97 => ⟨S2048x8, .f32⟩
  | 98 => ⟨S_, .f32⟩
  | 99 => ⟨S2048x48, .f32⟩
  | 100 => ⟨S_, .f32⟩
  | 101 => ⟨S2048x48, .f32⟩
  | 102 => ⟨S_, .f32⟩
  | 103 => ⟨S2048x8, .f32⟩
  | 104 => ⟨S2048x64, .f32⟩
  | 105 => ⟨S2048x8, .f32⟩
  | 106 => ⟨S2048x64, .f32⟩
  | 107 => ⟨S2048x64, .f32⟩
  | 108 => ⟨S1x2048x1x64, .f32⟩
  | 109 => ⟨S1x2048x2x64, .f32⟩
  | 110 => ⟨S2048x128, .f32⟩
  | 111 => ⟨S1x2048x1x64, .f32⟩
  | 112 => ⟨S1x2048x2x64, .f32⟩
  | 113 => ⟨S2048x128, .f32⟩
  | 114 => ⟨S1x2048x1x64, .f32⟩
  | 115 => ⟨S1x2048x2x64, .f32⟩
  | 116 => ⟨S2048x128, .f32⟩
  | 117 => ⟨S64, .f32⟩
  | 118 => ⟨S_, .f32⟩
  | 119 => ⟨S_, .f32⟩
  | 120 => ⟨S_, .f32⟩
  | 121 => ⟨S_, .f32⟩
  | 122 => ⟨S64, .f32⟩
  | 123 => ⟨S_, .f32⟩
  | 124 => ⟨S_, .f32⟩
  | 125 => ⟨S_, .f32⟩
  | 126 => ⟨S_, .f32⟩
  | 127 => ⟨S1x128, .f32⟩
  | _ => ⟨S32x2048x1024, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S8, .f32⟩
  | 6 => ⟨S1x128, .f32⟩
  | 7 => ⟨S1x1024, .f32⟩
  | 8 => ⟨S32x2048x1024, .bf16⟩
  | 9 => ⟨S32x2048x1024, .bf16⟩
  | 10 => ⟨S32x2048x512, .bf16⟩
  | 11 => ⟨S32x2048x512, .bf16⟩
  | 12 => ⟨S32x2048x512, .bf16⟩
  | 13 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1x128, .f32⟩
  | .local _ .vmem, ⟨7, _⟩ => ⟨S4x512, .f32⟩
  | .local _ .vmem, ⟨8, _⟩ => ⟨S256x256, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_4 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_6 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_v49 : Ref sig .tc := ⟨.hbm, 85, rfl⟩
abbrev main_cst_8 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_9 : Ref sig .tc := ⟨.hbm, 98, rfl⟩
abbrev main_v61 : Ref sig .tc := ⟨.hbm, 99, rfl⟩
abbrev main_cst_10 : Ref sig .tc := ⟨.hbm, 100, rfl⟩
abbrev main_v62 : Ref sig .tc := ⟨.hbm, 101, rfl⟩
abbrev main_cst_11 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_12 : Ref sig .tc := ⟨.hbm, 118, rfl⟩
abbrev main_v78 : Ref sig .tc := ⟨.hbm, 119, rfl⟩
abbrev main_cst_13 : Ref sig .tc := ⟨.hbm, 120, rfl⟩
abbrev main_v79 : Ref sig .tc := ⟨.hbm, 121, rfl⟩
abbrev main_v80 : Ref sig .tc := ⟨.hbm, 122, rfl⟩
abbrev main_cst_14 : Ref sig .tc := ⟨.hbm, 123, rfl⟩
abbrev main_v81 : Ref sig .tc := ⟨.hbm, 124, rfl⟩
abbrev main_v82 : Ref sig .tc := ⟨.hbm, 125, rfl⟩
abbrev main_cst_15 : Ref sig .tc := ⟨.hbm, 126, rfl⟩
abbrev main_v83 : Ref sig .tc := ⟨.hbm, 127, rfl⟩
abbrev main_c_16 : Ref sig .tc := ⟨.hbm, 128, rfl⟩
abbrev main_v84 : Ref sig .tc := ⟨.hbm, 129, rfl⟩
abbrev main_c_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90_0 : Ref sig .tc := ⟨.hbm, 136, rfl⟩
abbrev main_v90_1 : Ref sig .tc := ⟨.hbm, 137, rfl⟩
abbrev main_v90_2 : Ref sig .tc := ⟨.hbm, 138, rfl⟩
abbrev main_v90_3 : Ref sig .tc := ⟨.hbm, 139, rfl⟩
abbrev main_v90_4 : Ref sig .tc := ⟨.hbm, 140, rfl⟩
abbrev main_v90_5 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S32x2048x1024 : Shape := ⟨3, ![32, 2048, 1024]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S2048 : Shape := ⟨1, ![2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3080 : Shape := ⟨3, ![32, 2048, 3080]⟩
abbrev S32x2048x512 : Shape := ⟨3, ![32, 2048, 512]⟩
abbrev S32x2048x8 : Shape := ⟨3, ![32, 2048, 8]⟩
abbrev S32x2048x8x64 : Shape := ⟨4, ![32, 2048, 8, 64]⟩
abbrev S32x2048x8x1 : Shape := ⟨4, ![32, 2048, 8, 1]⟩
abbrev S1x1x1x64 : Shape := ⟨4, ![1, 1, 1, 64]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S32x2048x8x8 : Shape := ⟨4, ![32, 2048, 8, 8]⟩
abbrev S32x2048x8x48 : Shape := ⟨4, ![32, 2048, 8, 48]⟩
abbrev S32x2048x4x128 : Shape := ⟨4, ![32, 2048, 4, 128]⟩
abbrev S32x2048x4x256 : Shape := ⟨4, ![32, 2048, 4, 256]⟩

abbrev nBuf : Space → Nat
  | .hbm => 189
  | .vmem => 0
  | .smem => 0
  | _ => 0

abbrev hbmTy0_0 (i : Nat) : BufTy := match i % 128 with
  | 0 => ⟨S32x2048x1024, .f32⟩
  | 1 => ⟨S1024, .f32⟩
  | 2 => ⟨S1024x3080, .f32⟩
  | 3 => ⟨S8, .f32⟩
  | 4 => ⟨S64, .f32⟩
  | 5 => ⟨S64, .f32⟩
  | 6 => ⟨S64, .f32⟩
  | 7 => ⟨S64, .f32⟩
  | 8 => ⟨S2048, .i32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | 25 => ⟨S32x2048x3080, .f32⟩
  | 26 => ⟨S32x2048x512, .f32⟩
  | 27 => ⟨S32x2048x512, .f32⟩
  | 28 => ⟨S32x2048x512, .f32⟩
  | 29 => ⟨S32x2048x8, .f32⟩
  | 30 => ⟨S32x2048x512, .f32⟩
  | 31 => ⟨S32x2048x512, .f32⟩
  | 32 => ⟨S32x2048x512, .f32⟩
  | 33 => ⟨S32x2048x8x64, .f32⟩
  | 34 => ⟨S32x2048x8x64, .f32⟩
  | 35 => ⟨S_, .f32⟩
  | 36 => ⟨S32x2048x8, .f32⟩
  | 37 => ⟨S32x2048x8x1, .f32⟩
  | 38 => ⟨S_, .f32⟩
  | 39 => ⟨S32x2048x8x1, .f32⟩
  | 40 => ⟨S32x2048x8x1, .f32⟩
  | 41 => ⟨S_, .f32⟩
  | 42 => ⟨S32x2048x8x1, .f32⟩
  | 43 => ⟨S32x2048x8x1, .f32⟩
  | 44 => ⟨S32x2048x8x1, .f32⟩
  | 45 => ⟨S32x2048x8x64, .f32⟩
  | 46 => ⟨S32x2048x8x64, .f32⟩
  | 47 => ⟨S1x1x1x64, .f32⟩
  | 48 => ⟨S32x2048x8x64, .f32⟩
  | 49 => ⟨S32x2048x8x64, .f32⟩
  | 50 => ⟨S32x2048x8x64, .f32⟩
  | 51 => ⟨S32x2048x8x64, .f32⟩
  | 52 => ⟨S_, .f32⟩
  | 53 => ⟨S32x2048x8, .f32⟩
  | 54 => ⟨S32x2048x8x1, .f32⟩
  | 55 => ⟨S_, .f32⟩
  | 56 => ⟨S32x2048x8x1, .f32⟩
  | 57 => ⟨S32x2048x8x1, .f32⟩
  | 58 => ⟨S_, .f32⟩
  | 59 => ⟨S32x2048x8x1, .f32⟩
  | 60 => ⟨S32x2048x8x1, .f32⟩
  | 61 => ⟨S32x2048x8x1, .f32⟩
  | 62 => ⟨S32x2048x8x64, .f32⟩
  | 63 => ⟨S32x2048x8x64, .f32⟩
  | 64 => ⟨S1x1x1x64, .f32⟩
  | 65 => ⟨S32x2048x8x64, .f32⟩
  | 66 => ⟨S32x2048x8x64, .f32⟩
  | 67 => ⟨S32x2048x8x64, .f32⟩
  | 68 => ⟨S32x2048x8x64, .f32⟩
  | 69 => ⟨S_, .f32⟩
  | 70 => ⟨S32x2048x8, .f32⟩
  | 71 => ⟨S32x2048x8x1, .f32⟩
  | 72 => ⟨S_, .f32⟩
  | 73 => ⟨S32x2048x8x1, .f32⟩
  | 74 => ⟨S32x2048x8x1, .f32⟩
  | 75 => ⟨S_, .f32⟩
  | 76 => ⟨S32x2048x8x1, .f32⟩
  | 77 => ⟨S32x2048x8x1, .f32⟩
  | 78 => ⟨S32x2048x8x1, .f32⟩
  | 79 => ⟨S32x2048x8x64, .f32⟩
  | 80 => ⟨S32x2048x8x64, .f32⟩
  | 81 => ⟨S1x1x1x64, .f32⟩
  | 82 => ⟨S32x2048x8x64, .f32⟩
  | 83 => ⟨S32x2048x8x64, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S2048, .f32⟩
  | 96 => ⟨S2048x1, .f32⟩
  | 97 => ⟨S1x8, .f32⟩
  | 98 => ⟨S2048x8, .f32⟩
  | 99 => ⟨S2048x8, .f32⟩
  | 100 => ⟨S2048x8, .f32⟩
  | 101 => ⟨S2048x8, .f32⟩
  | 102 => ⟨S1x2048x1x8, .f32⟩
  | 103 => ⟨S2048x8, .f32⟩
  | 104 => ⟨S1x2048x1x8, .f32⟩
  | 105 => ⟨S32x2048x8x8, .f32⟩
  | 106 => ⟨S32x2048x8x8, .f32⟩
  | 107 => ⟨S32x2048x8x8, .f32⟩
  | 108 => ⟨S32x2048x8x8, .f32⟩
  | 109 => ⟨S32x2048x8x8, .f32⟩
  | 110 => ⟨S32x2048x8x8, .f32⟩
  | 111 => ⟨S32x2048x8x8, .f32⟩
  | 112 => ⟨S32x2048x8x8, .f32⟩
  | 113 => ⟨S32x2048x8x8, .f32⟩
  | 114 => ⟨S32x2048x8x8, .f32⟩
  | 115 => ⟨S32x2048x8x8, .f32⟩
  | 116 => ⟨S32x2048x8x8, .f32⟩
  | 117 => ⟨S32x2048x8x48, .f32⟩
  | 118 => ⟨S32x2048x8x64, .f32⟩
  | 119 => ⟨S32x2048x8x64, .f32⟩
  | 120 => ⟨S32x2048x8x64, .f32⟩
  | 121 => ⟨S_, .f32⟩
  | 122 => ⟨S32x2048x8, .f32⟩
  | 123 => ⟨S32x2048x8x1, .f32⟩
  | 124 => ⟨S_, .f32⟩
  | 125 => ⟨S32x2048x8x1, .f32⟩
  | 126 => ⟨S32x2048x8x1, .f32⟩
  | 127 => ⟨S_, .f32⟩
  | _ => ⟨S32x2048x1024, .f32⟩

abbrev hbmTy0_1 (i : Nat) : BufTy := match i % 128 with
  | 0 => ⟨S32x2048x8x1, .f32⟩
  | 1 => ⟨S32x2048x8x1, .f32⟩
  | 2 => ⟨S32x2048x8x1, .f32⟩
  | 3 => ⟨S32x2048x8x64, .f32⟩
  | 4 => ⟨S32x2048x8x64, .f32⟩
  | 5 => ⟨S1x1x1x64, .f32⟩
  | 6 => ⟨S32x2048x8x64, .f32⟩
  | 7 => ⟨S32x2048x8x64, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S2048, .f32⟩
  | 20 => ⟨S2048x1, .f32⟩
  | 21 => ⟨S1x8, .f32⟩
  | 22 => ⟨S2048x8, .f32⟩
  | 23 => ⟨S2048x8, .f32⟩
  | 24 => ⟨S2048x8, .f32⟩
  | 25 => ⟨S2048x8, .f32⟩
  | 26 => ⟨S1x2048x1x8, .f32⟩
  | 27 => ⟨S2048x8, .f32⟩
  | 28 => ⟨S1x2048x1x8, .f32⟩
  | 29 => ⟨S32x2048x8x8, .f32⟩
  | 30 => ⟨S32x2048x8x8, .f32⟩
  | 31 => ⟨S32x2048x8x8, .f32⟩
  | 32 => ⟨S32x2048x8x8, .f32⟩
  | 33 => ⟨S32x2048x8x8, .f32⟩
  | 34 => ⟨S32x2048x8x8, .f32⟩
  | 35 => ⟨S32x2048x8x8, .f32⟩
  | 36 => ⟨S32x2048x8x8, .f32⟩
  | 37 => ⟨S32x2048x8x8, .f32⟩
  | 38 => ⟨S32x2048x8x8, .f32⟩
  | 39 => ⟨S32x2048x8x8, .f32⟩
  | 40 => ⟨S32x2048x8x8, .f32⟩
  | 41 => ⟨S32x2048x8x48, .f32⟩
  | 42 => ⟨S32x2048x8x64, .f32⟩
  | 43 => ⟨S32x2048x4x128, .f32⟩
  | 44 => ⟨S_, .i32⟩
  | 45 => ⟨S_, .f32⟩
  | 46 => ⟨S32x2048x4x256, .f32⟩
  | 47 => ⟨S32x2048x1024, .f32⟩
  | 48 => ⟨S32x2048x4x128, .f32⟩
  | 49 => ⟨S_, .i32⟩
  | 50 => ⟨S_, .f32⟩
  | 51 => ⟨S32x2048x4x256, .f32⟩
  | 52 => ⟨S32x2048x1024, .f32⟩
  | 53 => ⟨S32x2048x1024, .bf16⟩
  | 54 => ⟨S32x2048x1024, .bf16⟩
  | 55 => ⟨S32x2048x512, .bf16⟩
  | 56 => ⟨S32x2048x512, .f32⟩
  | 57 => ⟨S32x2048x512, .bf16⟩
  | 58 => ⟨S32x2048x512, .f32⟩
  | 59 => ⟨S32x2048x512, .bf16⟩
  | 60 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_14 : Ref sig .tc := ⟨.hbm, 121, rfl⟩
abbrev main_v98 : Ref sig .tc := ⟨.hbm, 122, rfl⟩
abbrev main_v99 : Ref sig .tc := ⟨.hbm, 123, rfl⟩
abbrev main_cst_15 : Ref sig .tc := ⟨.hbm, 124, rfl⟩
abbrev main_v100 : Ref sig .tc := ⟨.hbm, 125, rfl⟩
abbrev main_v101 : Ref sig .tc := ⟨.hbm, 126, rfl⟩
abbrev main_cst_16 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_17 : Ref sig .tc := ⟨.hbm, 138, rfl⟩
abbrev main_v112 : Ref sig .tc := ⟨.hbm, 139, rfl⟩
abbrev main_v113 : Ref sig .tc := ⟨.hbm, 140, rfl⟩
abbrev main_cst_18 : Ref sig .tc := ⟨.hbm, 141, rfl⟩
abbrev main_v114 : Ref sig .tc := ⟨.hbm, 142, rfl⟩
abbrev main_v115 : Ref sig .tc := ⟨.hbm, 143, rfl⟩
abbrev main_cst_19 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_c : Ref sig .tc := ⟨.hbm, 172, rfl⟩
abbrev main_call0_v0 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_c_20 : Ref sig .tc := ⟨.hbm, 177, rfl⟩
abbrev main_call1_v0 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩

abbrev nD : Nat := 1
abbrev τ : Topo := Topo.v7x

variable {F : FTy → Type} [FloatOps F]
-- ==== Proof.Unit.lean ====
module
public import proofs.«01_k».proof.Proof.Gen.KernelIdeal.Skeleton
public import Idealize.ShloMosaic.Lib.Pointwise
public import Idealize.ShloMosaic.Lib.IdealHost
public import Idealize.ShloMosaic.Lib.WholeRead
public import Idealize.ShloMosaic.Lib.Pipeline.FrameBody
/-! One unit of the dilated attention's body: a chunk of scores and weights, the stored rows, the partial sums and the products. -/

@[expose] public section
set_option maxRecDepth 16384
noncomputable section
namespace Cert.Attn
open Idealize.ShloMosaic Cert.KernelIdeal Cert.KernelIdeal.Gen

/-- An element of a block `[1, 2048, 256]`, by row and lane (taken modulo the extents). -/
def A3 (x : Vec Ideal S1x2048x256 .bf16) (row lane : ℕ) : EReal :=
  x (ix3 0 ⟨row % 2048, Nat.mod_lt _ (by norm_num)⟩ ⟨lane % 256, Nat.mod_lt _ (by norm_num)⟩)

/-- An element of the bias table `[2048, 256]`, by row and column (taken modulo the extents). -/
def A2 (x : Vec Ideal S2048x256 .f32) (row col : ℕ) : EReal :=
  x (ix2 ⟨row % 2048, Nat.mod_lt _ (by norm_num)⟩ ⟨col % 256, Nat.mod_lt _ (by norm_num)⟩)

/-- The weight the kernel gives key `s` for the query in column `col` of query block `i`, in the pair of heads `pr`:
    columns below 256 are the first head's queries, the others the second's. -/
def W (x0 x1 : Vec Ideal S1x2048x256 .bf16) (x3 : Vec Ideal S2048x256 .f32) (pr i s col : ℕ) : EReal :=
  Ideal.exp2 ((∑ e : Fin 64, A3 x1 s (128 * pr + (64 * (col / 256) + e.val)) *
      A3 x0 (256 * i + col % 256) (128 * pr + (64 * (col / 256) + e.val)))
    + A2 x3 (256 * (7 - i) + s) (col % 256))

/-- The mask that keeps a pair's first head. -/
theorem mask0 : ∀ x : Fin 128, IntOp.andi (IntOp.cmpi CmpIPredicate.sge (BitVec.ofNat 32 x.val) 0#32)
    (IntOp.cmpi CmpIPredicate.slt (BitVec.ofNat 32 x.val) 64#32) = if x.val < 64 then 1#1 else 0#1 := by decide

/-- The mask that keeps a pair's second head. -/
theorem mask1 : ∀ x : Fin 128, IntOp.andi (IntOp.cmpi CmpIPredicate.sge (BitVec.ofNat 32 x.val) 64#32)
    (IntOp.cmpi CmpIPredicate.slt (BitVec.ofNat 32 x.val) 128#32) = if x.val < 64 then 0#1 else 1#1 := by decide

/-- A sum over 128 lanes whose second factor is kept on the first 64. -/
theorem sum_lo (f g : Fin 128 → EReal) :
    (∑ x : Fin 128, f x * (if x.val < 64 then g x else 0)) = ∑ e : Fin 64, f ⟨e.val, by omega⟩ * g ⟨e.val, by omega⟩ := by
  rw [show (∑ x : Fin 128, f x * (if x.val < 64 then g x else 0))
    = ∑ x : Fin (64 + 64), f x * (if x.val < 64 then g x else 0) from rfl, Fin.sum_univ_add]
  have h2 : (∑ i : Fin 64, f (Fin.natAdd 64 i) * (if (Fin.natAdd 64 i).val < 64 then g (Fin.natAdd 64 i) else 0)) = 0 :=
    Finset.sum_eq_zero fun e _ => by
      rw [if_neg (by simp), mul_zero]
  rw [h2, add_zero]
  exact Finset.sum_congr rfl fun e _ => by
    rw [if_pos (by simp)]; rfl

/-- A sum over 128 lanes whose second factor is kept on the last 64. -/
theorem sum_hi (f g : Fin 128 → EReal) :
    (∑ x : Fin 128, f x * (if x.val < 64 then 0 else g x)) = ∑ e : Fin 64, f ⟨64 + e.val, by omega⟩ * g ⟨64 + e.val, by omega⟩ := by
  rw [show (∑ x : Fin 128, f x * (if x.val < 64 then 0 else g x))
    = ∑ x : Fin (64 + 64), f x * (if x.val < 64 then 0 else g x) from rfl, Fin.sum_univ_add]
  have h2 : (∑ i : Fin 64, f (Fin.castAdd 64 i) * (if (Fin.castAdd 64 i).val < 64 then 0 else g (Fin.castAdd 64 i))) = 0 :=
    Finset.sum_eq_zero fun e _ => by
      rw [if_pos (by simp), mul_zero]
  rw [h2, zero_add]
  exact Finset.sum_congr rfl fun e _ => by
    rw [if_neg (by simp)]; rfl

/-- A chunk of weights: keys block `kb` against the masked queries of `qb`, biased by `bb`, exponentiated. -/
theorem chunk_apply (qb kb : Vec Ideal S1x256x128 .bf16) (bb : Vec Ideal S256x256 .f32) (s : Fin 256) (col : Fin 512) :
    k0_pay35 (k0_pay12 k0_pay5 k0_pay6 qb) kb bb (ix2 s col) =
      Ideal.exp2 ((∑ e : Fin 64, kb (ix3 0 s ⟨64 * (col.val / 256) + e.val, by omega⟩) *
        qb (ix3 0 ⟨col.val % 256, by omega⟩ ⟨64 * (col.val / 256) + e.val, by omega⟩)) + bb (ix2 s ⟨col.val % 256, by omega⟩)) := by
  pointwise [k0_pay35, k0_pay12, k0_pay5, k0_pay6]
  simp only [mask0, mask1]
  by_cases h : col.val < 256
  · have e1 : col.val / 256 = 0 := by omega
    have e2 : col.val % 256 = col.val := by omega
    simp only [h, dif_pos, e1, e2, Nat.mul_zero, Nat.zero_add]
    have := sum_lo (fun x => kb (ix3 0 s x)) (fun x => qb (ix3 0 ⟨col.val, h⟩ x))
    refine congrArg Ideal.exp2 (congrArg (· + _) (Eq.trans (Finset.sum_congr rfl fun x _ => ?_) this))
    by_cases hx : x.val < 64 <;> simp [hx, Scalar.select]
  · have e1 : col.val / 256 = 1 := by omega
    have e2 : col.val % 256 = col.val - 256 := by omega
    simp only [h, e1, e2, Nat.mul_one]
    have := sum_hi (fun x => kb (ix3 0 s x)) (fun x => qb (ix3 0 ⟨col.val - 256, by omega⟩ x))
    refine congrArg Ideal.exp2 (congrArg (· + _) (Eq.trans (Finset.sum_congr rfl fun x _ => ?_) this))
    by_cases hx : x.val < 64 <;> simp [hx, Scalar.select]

/-- The same chunk by absolute positions. -/
theorem chunk_val {x0 x1 : Vec Ideal S1x2048x256 .bf16} {x3 : Vec Ideal S2048x256 .f32} (pr i c : ℕ)
    {qb kb : Vec Ideal S1x256x128 .bf16} {bb : Vec Ideal S256x256 .f32}
    (hq : ∀ (r : Fin 256) (l : Fin 128), qb (ix3 0 r l) = A3 x0 (256 * i + r.val) (128 * pr + l.val))
    (hk : ∀ (r : Fin 256) (l : Fin 128), kb (ix3 0 r l) = A3 x1 (256 * c + r.val) (128 * pr + l.val))
    (hb : ∀ (s r : Fin 256), bb (ix2 s r) = A2 x3 (256 * (7 - i + c) + s.val) r.val) (s : Fin 256) (col : Fin 512) :
    k0_pay35 (k0_pay12 k0_pay5 k0_pay6 qb) kb bb (ix2 s col) = W x0 x1 x3 pr i (256 * c + s.val) col.val := by
  rw [chunk_apply]
  unfold W
  rw [hb, show 256 * (7 - i + c) + s.val = 256 * (7 - i) + (256 * c + s.val) by ring]
  simp only [hq, hk]

/-- Narrowing the weights changes nothing here. -/
theorem pay36_eq (q : FVec Ideal S512x128 .bf16) (kb : Vec Ideal S1x256x128 .bf16) (bb : Vec Ideal S256x256 .f32) :
    (k0_pay36 q kb bb : S256x512.Idx → EReal) = k0_pay35 q kb bb := by
  funext j
  pointwise [k0_pay36]

/-- The same chunk, narrowed. -/
theorem chunk_val' {x0 x1 : Vec Ideal S1x2048x256 .bf16} {x3 : Vec Ideal S2048x256 .f32} (pr i c : ℕ)
    {qb kb : Vec Ideal S1x256x128 .bf16} {bb : Vec Ideal S256x256 .f32}
    (hq : ∀ (r : Fin 256) (l : Fin 128), qb (ix3 0 r l) = A3 x0 (256 * i + r.val) (128 * pr + l.val))
    (hk : ∀ (r : Fin 256) (l : Fin 128), kb (ix3 0 r l) = A3 x1 (256 * c + r.val) (128 * pr + l.val))
    (hb : ∀ (s r : Fin 256), bb (ix2 s r) = A2 x3 (256 * (7 - i + c) + s.val) r.val) (s : Fin 256) (col : Fin 512) :
    k0_pay36 (k0_pay12 k0_pay5 k0_pay6 qb) kb bb (ix2 s col) = W x0 x1 x3 pr i (256 * c + s.val) col.val :=
  (congrFun (pay36_eq _ kb bb) _).trans (chunk_val pr i c hq hk hb s col)

section Reads
variable {sig' : RefSig}

/-- A load of 256 rows and 128 lanes of a whole block. -/
theorem rd3 {sig : RefSig} (arg : Memref sig .tc .vmem S1x2048x256 .bf16) (harg : arg.IsWhole) (x : Vec Ideal S1x2048x256 .bf16) {o p : ℕ}
    (inb : ∀ a, (![0, o, p] : Fin 3 → ℕ) a + S1x256x128.size a ≤ S1x2048x256.size a) (r : Fin 256) (l : Fin 128) :
    View.readAt (Elt Ideal) arg.view (Rect.unit (s := S1x2048x256) ![0, o, p] S1x256x128.size inb).toLoadRect (harg.unread x) (ix3 0 r l)
      = A3 x (o + r.val) (p + l.val) := by
  rw [Memref.IsWhole.readAt_unread]
  unfold A3
  have h1 : o + 256 ≤ 2048 := inb 1
  have h2 : p + 128 ≤ 256 := inb 2
  refine congrArg x (funext fun a => Fin.ext ?_)
  fin_cases a
  · rfl
  · show o + 1 * r.val = (o + r.val) % 2048
    rw [Nat.mod_eq_of_lt (by omega)]; omega
  · show p + 1 * l.val = (p + l.val) % 256
    rw [Nat.mod_eq_of_lt (by omega)]; omega

/-- A load of 256 rows of the bias table. -/
theorem rd2 {sig : RefSig} (arg : Memref sig .tc .vmem S2048x256 .f32) (harg : arg.IsWhole) (x : Vec Ideal S2048x256 .f32) {o : ℕ}
    (inb : ∀ a, (![o, 0] : Fin 2 → ℕ) a + S256x256.size a ≤ S2048x256.size a) (r : Fin 256) (l : Fin 256) :
    View.readAt (Elt Ideal) arg.view (Rect.unit (s := S2048x256) ![o, 0] S256x256.size inb).toLoadRect (harg.unread x) (ix2 r l)
      = A2 x (o + r.val) l.val := by
  rw [Memref.IsWhole.readAt_unread]
  unfold A2
  have h1 : o + 256 ≤ 2048 := inb 0
  refine congrArg x (funext fun a => Fin.ext ?_)
  fin_cases a
  · show o + 1 * r.val = (o + r.val) % 2048
    rw [Nat.mod_eq_of_lt (by omega)]; omega
  · show 0 + 1 * l.val = l.val % 256
    rw [Nat.mod_eq_of_lt (by omega)]; omega

/-- A load of all rows and 128 lanes of a whole block. -/
theorem rdv {sig : RefSig} (arg : Memref sig .tc .vmem S1x2048x256 .bf16) (harg : arg.IsWhole) (x : Vec Ideal S1x2048x256 .bf16) {p : ℕ}
    (inb : ∀ a, (![0, 0, p] : Fin 3 → ℕ) a + S1x2048x128.size a ≤ S1x2048x256.size a) (r : Fin 2048) (l : Fin 128) :
    View.readAt (Elt Ideal) arg.view (Rect.unit (s := S1x2048x256) ![0, 0, p] S1x2048x128.size inb).toLoadRect (harg.unread x) (ix3 0 r l)
      = A3 x r.val (p + l.val) := by
  rw [Memref.IsWhole.readAt_unread]
  unfold A3
  have h2 : p + 128 ≤ 256 := inb 2
  refine congrArg x (funext fun a => Fin.ext ?_)
  fin_cases a
  · rfl
  · show 0 + 1 * r.val = r.val % 2048
    rw [Nat.mod_eq_of_lt (by omega)]; omega
  · show p + 1 * l.val = (p + l.val) % 256
    rw [Nat.mod_eq_of_lt (by omega)]; omega

end Reads

/-! ## The weights' scratch, chunk by chunk -/

/-- The first `256 n` rows of the writes `L` hold `f`. -/
def Rows (L : List (View.Piece (Elt Ideal) S2048x512 .bf16)) (n : ℕ) (f : ℕ → ℕ → EReal) : Prop :=
  ∀ (s : Fin 2048) (c : Fin 512), s.val < 256 * n → View.canon L (ix2 s c) = f s.val c.val

/-- No rows are stored at first. -/
theorem rows_zero (L : List (View.Piece (Elt Ideal) S2048x512 .bf16)) (f : ℕ → ℕ → EReal) : Rows L 0 f :=
  fun s _ h => absurd h (by omega)

/-- A chunk stored below rows that hold `f` extends them. -/
theorem rows_cons {L : List (View.Piece (Elt Ideal) S2048x512 .bf16)} {n : ℕ} {f : ℕ → ℕ → EReal} {o : ℕ} (ho : o = 256 * n)
    {inb : ∀ a, (![o, 0] : Fin 2 → ℕ) a + S256x512.size a ≤ S2048x512.size a} {w u : Vec Ideal S256x512 .bf16}
    (hu : w = u) (hw : ∀ (x : Fin 256) (c : Fin 512), u (ix2 x c) = f (256 * n + x.val) c.val) (h : Rows L n f) :
    Rows (⟨Rect.unit (s := S2048x512) ![o, 0] S256x512.size inb, w⟩ :: L) (n + 1) f := by
  subst ho hu
  intro s c hs
  by_cases hm : s.val < 256 * n
  · rw [View.canon_cons_of_not_mem]
    · exact h s c hm
    · rw [Rect.mem_set_unit]
      intro hall
      have := (hall 0).1
      have h3 : 256 * n ≤ s.val := this
      omega
  · have hx : s.val - 256 * n < 256 := by omega
    have e : (ix2 s c : S2048x512.Idx) = (Rect.unit (s := S2048x512) ![256 * n, 0] S256x512.size inb).emb (ix2 ⟨s.val - 256 * n, hx⟩ c) := by
      refine funext fun a => Fin.ext ?_
      fin_cases a
      · show s.val = 256 * n + 1 * (s.val - 256 * n); omega
      · show c.val = 0 + 1 * c.val; omega
    rw [e, View.canon_cons_emb, hw]
    show f (256 * n + (s.val - 256 * n)) c.val = _
    rw [show 256 * n + (s.val - 256 * n) = s.val by omega]

/-! ## The column sums -/

/-- The partial column sums of a chunk: its 32 groups of 8 rows added up. -/
def colS (p : FVec Ideal S256x512 .f32) : FVec Ideal S8x512 .f32 :=
  multiReduction .add [0] S8x512 (shapeCast S32x8x512 p shapeCasts_S256x512_S32x8x512) 0x00000000#32 reduces_S32x8x512_S8x512 (.inl rfl) rfl

/-- The partial sums of a chunk, at an index. -/
theorem colS_apply (p : FVec Ideal S256x512 .f32) (a : Fin 8) (c : Fin 512) :
    colS p (ix2 a c) = ∑ g : Fin 32, p (ix2 ⟨g.val * 8 + a.val, by omega⟩ c) := by
  pointwise [colS]

/-- `sm` holds the partial sums of the first `256 n` rows of `f`. -/
def Sums (sm : FVec Ideal S8x512 .f32) (n : ℕ) (f : ℕ → ℕ → EReal) : Prop :=
  ∀ (a : Fin 8) (c : Fin 512), sm (ix2 a c) = ∑ k ∈ Finset.range n, ∑ g : Fin 32, f (256 * k + (g.val * 8 + a.val)) c.val

/-- The first chunk's partial sums. -/
theorem sums_one {f : ℕ → ℕ → EReal} {sm : FVec Ideal S8x512 .f32} {p : FVec Ideal S256x512 .f32}
    (hs : sm = colS p) (hp : ∀ (x : Fin 256) (c : Fin 512), p (ix2 x c) = f (256 * 0 + x.val) c.val) : Sums sm 1 f := by
  subst hs
  intro a c
  rw [colS_apply, Finset.sum_range_one]
  exact Finset.sum_congr rfl fun g _ => hp _ _

/-- A chunk's partial sums added to those of the rows before. -/
theorem sums_cons {sm' sm : FVec Ideal S8x512 .f32} {n : ℕ} {f : ℕ → ℕ → EReal} {p : FVec Ideal S256x512 .f32}
    (hs : sm' = addf sm (colS p)) (hp : ∀ (x : Fin 256) (c : Fin 512), p (ix2 x c) = f (256 * n + x.val) c.val) (h : Sums sm n f) :
    Sums sm' (n + 1) f := by
  subst hs
  intro a c
  rw [Finset.sum_range_succ, ← h a c]
  show sm (ix2 a c) + colS p (ix2 a c) = _
  rw [colS_apply]
  exact congrArg _ (Finset.sum_congr rfl fun g _ => hp _ _)

/-- The eight partial sums add up to the sum over all the rows. -/
theorem sums_total {sm : FVec Ideal S8x512 .f32} {n : ℕ} {f : ℕ → ℕ → EReal} (h : Sums sm n f) (c : Fin 512) :
    ∑ a : Fin 8, sm (ix2 a c) = ∑ s ∈ Finset.range (256 * n), f s c.val := by
  simp only [h _ c]
  rw [Finset.sum_comm]
  have key : ∀ k, (∑ a : Fin 8, ∑ g : Fin 32, f (256 * k + (g.val * 8 + a.val)) c.val)
      = ∑ x ∈ Finset.range 256, f (256 * k + x) c.val := by
    intro k
    rw [Finset.sum_comm, Finset.sum_range, ← Fintype.sum_prod_type', ← (finProdFinEquiv (m := 32) (n := 8)).sum_comp]
    exact Finset.sum_congr rfl fun p _ => by
      rw [show ((finProdFinEquiv p : Fin (32 * 8)) : ℕ) = p.2.val + 8 * p.1.val from rfl, show p.1.val * 8 + p.2.val = p.2.val + 8 * p.1.val by ring]
  simp only [key]
  clear h key
  induction n with
  | zero => simp
  | succ n ih => rw [Finset.sum_range_succ, ih, Nat.mul_succ, Finset.sum_range_add]

/-! ## A unit's result -/

/-- The transposed values' scratch: lane `l` of pair `pr`, key `s`. -/
def Vt (L : List (View.Piece (Elt Ideal) S2x128x2048 .bf16)) (x2 : Vec Ideal S1x2048x256 .bf16) : Prop :=
  ∀ (pr : Fin 2) (l : Fin 128) (s : Fin 2048), View.canon L (ix3 pr l s) = A3 x2 s.val (128 * pr.val + l.val)

/-- The two pieces of the transposed values hold the values. -/
theorem vt_canon {arg : Memref sig .tc .vmem S1x2048x256 .bf16} {harg : arg.IsWhole} {x2 : Vec Ideal S1x2048x256 .bf16}
    {i1 : ∀ a, (![1, 0, 0] : Fin 3 → ℕ) a + S1x128x2048.size a ≤ S2x128x2048.size a}
    {i0 : ∀ a, (![0, 0, 0] : Fin 3 → ℕ) a + S1x128x2048.size a ≤ S2x128x2048.size a}
    {j1 : ∀ a, (![0, 0, 128] : Fin 3 → ℕ) a + S1x2048x128.size a ≤ S1x2048x256.size a}
    {j0 : ∀ a, (![0, 0, 0] : Fin 3 → ℕ) a + S1x2048x128.size a ≤ S1x2048x256.size a} :
    Vt [⟨Rect.unit (s := S2x128x2048) ![1, 0, 0] S1x128x2048.size i1,
          k0_pay4 (View.readAt (Elt Ideal) arg.view (Rect.unit (s := S1x2048x256) ![0, 0, 128] S1x2048x128.size j1).toLoadRect (harg.unread x2))⟩,
        ⟨Rect.unit (s := S2x128x2048) ![0, 0, 0] S1x128x2048.size i0,
          k0_pay3 (View.readAt (Elt Ideal) arg.view (Rect.unit (s := S1x2048x256) ![0, 0, 0] S1x2048x128.size j0).toLoadRect (harg.unread x2))⟩] x2 := by
  intro pr l s
  have p4 : ∀ (v : Vec Ideal S1x2048x128 .bf16), k0_pay4 v (ix3 0 l s) = v (ix3 0 s l) := fun v => by pointwise [k0_pay4]
  have p3 : ∀ (v : Vec Ideal S1x2048x128 .bf16), k0_pay3 v (ix3 0 l s) = v (ix3 0 s l) := fun v => by pointwise [k0_pay3]
  have hc : pr = 0 ∨ pr = 1 := by omega
  rcases hc with rfl | rfl
  · rw [View.canon_cons_of_not_mem]
    · have e : (ix3 0 l s : S2x128x2048.Idx) = (Rect.unit (s := S2x128x2048) ![0, 0, 0] S1x128x2048.size i0).emb (ix3 0 l s) := by
        refine funext fun a => Fin.ext ?_
        fin_cases a
        · rfl
        · show l.val = 0 + 1 * l.val; omega
        · show s.val = 0 + 1 * s.val; omega
      rw [e, View.canon_cons_emb, p3, rdv]; rfl
    · rw [Rect.mem_set_unit]
      intro hall
      have h3 : 1 ≤ 0 := (hall 0).1
      omega
  · have e : (ix3 1 l s : S2x128x2048.Idx) = (Rect.unit (s := S2x128x2048) ![1, 0, 0] S1x128x2048.size i1).emb (ix3 0 l s) := by
      refine funext fun a => Fin.ext ?_
      fin_cases a
      · rfl
      · show l.val = 0 + 1 * l.val; omega
      · show s.val = 0 + 1 * s.val; omega
    rw [e, View.canon_cons_emb, p4, rdv]; rfl

/-- The value a unit leaves for lane `l` and row `r`: weighted values over weights. -/
def U (x2 : Vec Ideal S1x2048x256 .bf16) (f : ℕ → ℕ → EReal) (pr n r l : ℕ) : EReal :=
  Ideal.div (∑ s ∈ Finset.range (256 * n), A3 x2 s (128 * pr + l) * f s (256 * (l / 64) + r))
    (∑ s ∈ Finset.range (256 * n), f s (256 * (l / 64) + r))

/-- The end of a unit, from the product `o` and the column sums. -/
theorem pay41_apply (o : FVec Ideal S128x512 .f32) (sm : FVec Ideal S8x512 .f32) (r : Fin 256) (l : Fin 128) :
    k0_pay41 sm o (ix3 0 r l) = Ideal.div (o (ix2 l ⟨256 * (l.val / 64) + r.val, by omega⟩))
      (∑ a : Fin 8, sm (ix2 a ⟨256 * (l.val / 64) + r.val, by omega⟩)) := by
  pointwise [k0_pay41]
  by_cases h : l.val < 64
  · have e1 : l.val / 64 = 0 := by omega
    simp only [h, dif_pos, e1, Nat.mul_zero, Nat.zero_add]
  · have e1 : l.val / 64 = 1 := by omega
    have e2 : 64 + (l.val - 64) = l.val := by omega
    simp only [h, dif_neg, e1, Nat.mul_one, e2, not_false_iff]

/-- A unit's result from its product read as a sum over the keys, and its sums. -/
theorem unit_of {x2 : Vec Ideal S1x2048x256 .bf16} {f : ℕ → ℕ → EReal} {pr n : ℕ} {pay : FVec Ideal S1x256x128 .bf16}
    {o : FVec Ideal S128x512 .f32} {sm : FVec Ideal S8x512 .f32} (hp : pay = k0_pay41 sm o)
    (ho : ∀ (l : Fin 128) (c : Fin 512), o (ix2 l c) = ∑ s ∈ Finset.range (256 * n), A3 x2 s (128 * pr + l.val) * f s c.val)
    (hs : Sums sm n f) (r : Fin 256) (l : Fin 128) : pay (ix3 0 r l) = U x2 f pr n r.val l.val := by
  subst hp
  rw [pay41_apply, ho, sums_total hs]
  rfl

/-! ## The reads of the two scratches, and the product -/

/-- What is read of the transposed values. -/
theorem vt_read {sig : RefSig} (arg : Memref sig .tc .vmem S2x128x2048 .bf16) {L : List (View.Piece (Elt Ideal) S2x128x2048 .bf16)}
    {x2 : Vec Ideal S1x2048x256 .bf16} (hV : Vt L x2) {m pr : ℕ}
    {inb : ∀ a, (![pr, 0, 0] : Fin 3 → ℕ) a + (⟨3, ![1, 128, m]⟩ : Shape).size a ≤ S2x128x2048.size a} (l : Fin 128) (s : Fin m) :
    arg.view.readCov L (Rect.unit (s := S2x128x2048) ![pr, 0, 0] (⟨3, ![1, 128, m]⟩ : Shape).size inb).toLoadRect (ix3 0 l s)
      = A3 x2 s.val (128 * pr + l.val) := by
  have h0 : pr + 1 ≤ 2 := inb 0
  have h2 : 0 + m ≤ 2048 := inb 2
  rw [View.readCov_eq_canon']
  refine Eq.trans (congrArg (View.canon L) (funext fun a => Fin.ext ?_)) (hV ⟨pr, by omega⟩ l ⟨s.val, by omega⟩)
  fin_cases a
  · show pr + 1 * 0 = pr; omega
  · show 0 + 1 * l.val = l.val; omega
  · show 0 + 1 * s.val = s.val; omega

/-- What is read of the stored weights. -/
theorem rows_read {sig : RefSig} (arg : Memref sig .tc .vmem S2048x512 .bf16) {L : List (View.Piece (Elt Ideal) S2048x512 .bf16)}
    {n : ℕ} {f : ℕ → ℕ → EReal} (hR : Rows L n f) {m : ℕ} (hm : m = 256 * n)
    {inb : ∀ a, (![0, 0] : Fin 2 → ℕ) a + (⟨2, ![m, 512]⟩ : Shape).size a ≤ S2048x512.size a} (s : Fin m) (c : Fin 512) :
    arg.view.readCov L (Rect.unit (s := S2048x512) ![0, 0] (⟨2, ![m, 512]⟩ : Shape).size inb).toLoadRect (ix2 s c) = f s.val c.val := by
  have h2 : 0 + m ≤ 2048 := inb 0
  rw [View.readCov_eq_canon']
  refine Eq.trans (congrArg (View.canon L) (funext fun a => Fin.ext ?_)) (hR ⟨s.val, by omega⟩ c (by show s.val < _; omega))
  fin_cases a
  · show 0 + 1 * s.val = s.val; omega
  · show 0 + 1 * c.val = c.val; omega

/-- The product of the values with one chunk of weights. -/
theorem prod1 {x2 : Vec Ideal S1x2048x256 .bf16} {f : ℕ → ℕ → EReal} {pr : ℕ} {o : FVec Ideal S128x512 .f32}
    {a : Vec Ideal S1x128x256 .bf16} {b : Vec Ideal S256x512 .bf16}
    (ho : o = matmul (φ₁ := .bf16) (φ₂ := .bf16) dot_S128x256_S256x512_S128x512_1_0_0_1_n_n none (shapeCast (α := Ideal .bf16) S128x256 a shapeCasts_S1x128x256_S128x256) b
      (constant S128x512 .f32 0x00000000#32))
    (ha : ∀ (l : Fin 128) (s : Fin 256), a (ix3 0 l s) = A3 x2 s.val (128 * pr + l.val))
    (hb : ∀ (s : Fin 256) (c : Fin 512), b (ix2 s c) = f s.val c.val) (l : Fin 128) (c : Fin 512) :
    o (ix2 l c) = ∑ s ∈ Finset.range (256 * 1), A3 x2 s (128 * pr + l.val) * f s c.val := by
  subst ho
  pointwise
  simp only [ha, hb]
  exact (Finset.sum_range (fun s => A3 x2 s (128 * pr + l.val) * f s c.val) (n := 256)).symm

/-- The product of the values with 2 chunks of weights. -/
theorem prod2 {x2 : Vec Ideal S1x2048x256 .bf16} {f : ℕ → ℕ → EReal} {pr : ℕ} {o : FVec Ideal S128x512 .f32}
    {a : Vec Ideal S1x128x512 .bf16} {b : Vec Ideal S512x512 .bf16}
    (ho : o = matmul (φ₁ := .bf16) (φ₂ := .bf16) dot_S128x512_S512x512_S128x512_1_0_0_1_n_n none (shapeCast (α := Ideal .bf16) S128x512 a shapeCasts_S1x128x512_S128x512) b
      (constant S128x512 .f32 0x00000000#32))
    (ha : ∀ (l : Fin 128) (s : Fin 512), a (ix3 0 l s) = A3 x2 s.val (128 * pr + l.val))
    (hb : ∀ (s : Fin 512) (c : Fin 512), b (ix2 s c) = f s.val c.val) (l : Fin 128) (c : Fin 512) :
    o (ix2 l c) = ∑ s ∈ Finset.range (256 * 2), A3 x2 s (128 * pr + l.val) * f s c.val := by
  subst ho
  pointwise
  simp only [ha, hb]
  exact (Finset.sum_range (fun s => A3 x2 s (128 * pr + l.val) * f s c.val) (n := 512)).symm

/-- The product of the values with 3 chunks of weights. -/
theorem prod3 {x2 : Vec Ideal S1x2048x256 .bf16} {f : ℕ → ℕ → EReal} {pr : ℕ} {o : FVec Ideal S128x512 .f32}
    {a : Vec Ideal S1x128x768 .bf16} {b : Vec Ideal S768x512 .bf16}
    (ho : o = matmul (φ₁ := .bf16) (φ₂ := .bf16) dot_S128x768_S768x512_S128x512_1_0_0_1_n_n none (shapeCast (α := Ideal .bf16) S128x768 a shapeCasts_S1x128x768_S128x768) b
      (constant S128x512 .f32 0x00000000#32))
    (ha : ∀ (l : Fin 128) (s : Fin 768), a (ix3 0 l s) = A3 x2 s.val (128 * pr + l.val))
    (hb : ∀ (s : Fin 768) (c : Fin 512), b (ix2 s c) = f s.val c.val) (l : Fin 128) (c : Fin 512) :
    o (ix2 l c) = ∑ s ∈ Finset.range (256 * 3), A3 x2 s (128 * pr + l.val) * f s c.val := by
  subst ho
  pointwise
  simp only [ha, hb]
  exact (Finset.sum_range (fun s => A3 x2 s (128 * pr + l.val) * f s c.val) (n := 768)).symm

/-- The product of the values with 4 chunks of weights. -/
theorem prod4 {x2 : Vec Ideal S1x2048x256 .bf16} {f : ℕ → ℕ → EReal} {pr : ℕ} {o : FVec Ideal S128x512 .f32}
    {a : Vec Ideal S1x128x1024 .bf16} {b : Vec Ideal S1024x512 .bf16}
    (ho : o = matmul (φ₁ := .bf16) (φ₂ := .bf16) dot_S128x1024_S1024x512_S128x512_1_0_0_1_n_n none (shapeCast (α := Ideal .bf16) S128x1024 a shapeCasts_S1x128x1024_S128x1024) b
      (constant S128x512 .f32 0x00000000#32))
    (ha : ∀ (l : Fin 128) (s : Fin 1024), a (ix3 0 l s) = A3 x2 s.val (128 * pr + l.val))
    (hb : ∀ (s : Fin 1024) (c : Fin 512), b (ix2 s c) = f s.val c.val) (l : Fin 128) (c : Fin 512) :
    o (ix2 l c) = ∑ s ∈ Finset.range (256 * 4), A3 x2 s (128 * pr + l.val) * f s c.val := by
  subst ho
  pointwise
  simp only [ha, hb]
  exact (Finset.sum_range (fun s => A3 x2 s (128 * pr + l.val) * f s c.val) (n := 1024)).symm

/-- The product of the values with 5 chunks of weights. -/
theorem prod5 {x2 : Vec Ideal S1x2048x256 .bf16} {f : ℕ → ℕ → EReal} {pr : ℕ} {o : FVec Ideal S128x512 .f32}
    {a : Vec Ideal S1x128x1280 .bf16} {b : Vec Ideal S1280x512 .bf16}
    (ho : o = matmul (φ₁ := .bf16) (φ₂ := .bf16) dot_S128x1280_S1280x512_S128x512_1_0_0_1_n_n none (shapeCast (α := Ideal .bf16) S128x1280 a shapeCasts_S1x128x1280_S128x1280) b
      (constant S128x512 .f32 0x00000000#32))
    (ha : ∀ (l : Fin 128) (s : Fin 1280), a (ix3 0 l s) = A3 x2 s.val (128 * pr + l.val))
    (hb : ∀ (s : Fin 1280) (c : Fin 512), b (ix2 s c) = f s.val c.val) (l : Fin 128) (c : Fin 512) :
    o (ix2 l c) = ∑ s ∈ Finset.range (256 * 5), A3 x2 s (128 * pr + l.val) * f s c.val := by
  subst ho
  pointwise
  simp only [ha, hb]
  exact (Finset.sum_range (fun s => A3 x2 s (128 * pr + l.val) * f s c.val) (n := 1280)).symm

/-- The product of the values with 6 chunks of weights. -/
theorem prod6 {x2 : Vec Ideal S1x2048x256 .bf16} {f : ℕ → ℕ → EReal} {pr : ℕ} {o : FVec Ideal S128x512 .f32}
    {a : Vec Ideal S1x128x1536 .bf16} {b : Vec Ideal S1536x512 .bf16}
    (ho : o = matmul (φ₁ := .bf16) (φ₂ := .bf16) dot_S128x1536_S1536x512_S128x512_1_0_0_1_n_n none (shapeCast (α := Ideal .bf16) S128x1536 a shapeCasts_S1x128x1536_S128x1536) b
      (constant S128x512 .f32 0x00000000#32))
    (ha : ∀ (l : Fin 128) (s : Fin 1536), a (ix3 0 l s) = A3 x2 s.val (128 * pr + l.val))
    (hb : ∀ (s : Fin 1536) (c : Fin 512), b (ix2 s c) = f s.val c.val) (l : Fin 128) (c : Fin 512) :
    o (ix2 l c) = ∑ s ∈ Finset.range (256 * 6), A3 x2 s (128 * pr + l.val) * f s c.val := by
  subst ho
  pointwise
  simp only [ha, hb]
  exact (Finset.sum_range (fun s => A3 x2 s (128 * pr + l.val) * f s c.val) (n := 1536)).symm

/-- The product of the values with 7 chunks of weights. -/
theorem prod7 {x2 : Vec Ideal S1x2048x256 .bf16} {f : ℕ → ℕ → EReal} {pr : ℕ} {o : FVec Ideal S128x512 .f32}
    {a : Vec Ideal S1x128x1792 .bf16} {b : Vec Ideal S1792x512 .bf16}
    (ho : o = matmul (φ₁ := .bf16) (φ₂ := .bf16) dot_S128x1792_S1792x512_S128x512_1_0_0_1_n_n none (shapeCast (α := Ideal .bf16) S128x1792 a shapeCasts_S1x128x1792_S128x1792) b
      (constant S128x512 .f32 0x00000000#32))
    (ha : ∀ (l : Fin 128) (s : Fin 1792), a (ix3 0 l s) = A3 x2 s.val (128 * pr + l.val))
    (hb : ∀ (s : Fin 1792) (c : Fin 512), b (ix2 s c) = f s.val c.val) (l : Fin 128) (c : Fin 512) :
    o (ix2 l c) = ∑ s ∈ Finset.range (256 * 7), A3 x2 s (128 * pr + l.val) * f s c.val := by
  subst ho
  pointwise
  simp only [ha, hb]
  exact (Finset.sum_range (fun s => A3 x2 s (128 * pr + l.val) * f s c.val) (n := 1792)).symm

/-- The product of the values with 8 chunks of weights. -/
theorem prod8 {x2 : Vec Ideal S1x2048x256 .bf16} {f : ℕ → ℕ → EReal} {pr : ℕ} {o : FVec Ideal S128x512 .f32}
    {a : Vec Ideal S1x128x2048 .bf16} {b : Vec Ideal S2048x512 .bf16}
    (ho : o = matmul (φ₁ := .bf16) (φ₂ := .bf16) dot_S128x2048_S2048x512_S128x512_1_0_0_1_n_n none (shapeCast (α := Ideal .bf16) S128x2048 a shapeCasts_S1x128x2048_S128x2048) b
      (constant S128x512 .f32 0x00000000#32))
    (ha : ∀ (l : Fin 128) (s : Fin 2048), a (ix3 0 l s) = A3 x2 s.val (128 * pr + l.val))
    (hb : ∀ (s : Fin 2048) (c : Fin 512), b (ix2 s c) = f s.val c.val) (l : Fin 128) (c : Fin 512) :
    o (ix2 l c) = ∑ s ∈ Finset.range (256 * 8), A3 x2 s (128 * pr + l.val) * f s c.val := by
  subst ho
  pointwise
  simp only [ha, hb]
  exact (Finset.sum_range (fun s => A3 x2 s (128 * pr + l.val) * f s c.val) (n := 2048)).symm

/-- What the kernel leaves at an element of its output block. -/
def Spec (x0 x1 x2 : Vec Ideal S1x2048x256 .bf16) (x3 : Vec Ideal S2048x256 .f32) (y : S1x2048x256.Idx) : EReal :=
  U x2 (W x0 x1 x3 ((y 2).val / 128) ((y 1).val / 256)) ((y 2).val / 128) ((y 1).val / 256 + 1) ((y 1).val % 256) ((y 2).val % 128)

/-- A stored tile whose elements are a unit's values holds the specification. -/
theorem piece_of {x0 x1 x2 : Vec Ideal S1x2048x256 .bf16} {x3 : Vec Ideal S2048x256 .f32} {o p : ℕ} (pr i : ℕ)
    {inb : ∀ a, (![0, o, p] : Fin 3 → ℕ) a + (![1, 256, 128] : Fin 3 → ℕ) a ≤ S1x2048x256.size a}
    {pay : Vec Ideal S1x256x128 .bf16} (ho : o = 256 * i) (hp : p = 128 * pr)
    (h : ∀ (r : Fin 256) (l : Fin 128), pay (ix3 0 r l) = U x2 (W x0 x1 x3 pr i) pr (i + 1) r.val l.val)
    (x : S1x256x128.Idx) :
    pay x = Spec x0 x1 x2 x3 ((Rect.unit (s := S1x2048x256) ![0, o, p] ![1, 256, 128] inb).emb x) := by
  subst ho hp
  have hx : x = ix3 0 (x 1) (x 2) := by
    refine funext fun a => ?_
    fin_cases a
    · exact Fin.ext (by have : (x 0).val < 1 := (x 0).isLt; show (x 0).val = 0; omega)
    · rfl
    · rfl
  have h1 : (x 1).val < 256 := (x 1).isLt
  have h2 : (x 2).val < 128 := (x 2).isLt
  have e1 : (((Rect.unit (s := S1x2048x256) ![0, 256 * i, 128 * pr] ![1, 256, 128] inb).emb x) 1).val = 256 * i + (x 1).val := by
    show 256 * i + 1 * (x 1).val = _; omega
  have e2 : (((Rect.unit (s := S1x2048x256) ![0, 256 * i, 128 * pr] ![1, 256, 128] inb).emb x) 2).val = 128 * pr + (x 2).val := by
    show 128 * pr + 1 * (x 2).val = _; omega
  unfold Spec
  rw [e1, e2, show (128 * pr + (x 2).val) / 128 = pr by omega, show (256 * i + (x 1).val) / 256 = i by omega,
    show (128 * pr + (x 2).val) % 128 = (x 2).val by omega, show (256 * i + (x 1).val) % 256 = (x 1).val by omega, ← h (x 1) (x 2)]
  exact congrArg pay hx

end Cert.Attn
end
-- ==== Proof.Chunks.lean ====
module
public import proofs.«01_k».proof.Proof.Gen.KernelIdeal.Value
public import proofs.«01_k».proof.Proof.Unit
@[expose] public section
noncomputable section
namespace Cert.Attn
open Idealize.ShloMosaic Idealize.ShloMosaic.TcCoe Idealize.ShloMosaic.Tactic Cert.KernelIdeal Cert.KernelIdeal.Gen

/-! The chunks the body stores and sums, under the names the program gives their parts, are the one chunk of weights. -/

/-- A chunk of weights, under one of its names. -/
theorem row0 (q k : Vec Ideal S1x256x128 .bf16) (g : Vec Ideal S256x256 .f32) :
    k0_pay1 (k0_pay254 (k0_pay230 k0_pay5 k0_pay6 q) k g) = k0_pay36 (k0_pay12 k0_pay5 k0_pay6 q) k g := rfl
/-- A chunk of weights, under one of its names. -/
theorem row1 (q k : Vec Ideal S1x256x128 .bf16) (g : Vec Ideal S256x256 .f32) :
    k0_pay251 (k0_pay230 k0_pay5 k0_pay6 q) k g = k0_pay36 (k0_pay12 k0_pay5 k0_pay6 q) k g := rfl
/-- A chunk of weights, under one of its names. -/
theorem row2 (q k : Vec Ideal S1x256x128 .bf16) (g : Vec Ideal S256x256 .f32) :
    k0_pay248 (k0_pay230 k0_pay5 k0_pay6 q) k g = k0_pay36 (k0_pay12 k0_pay5 k0_pay6 q) k g := rfl
/-- A chunk of weights, under one of its names. -/
theorem row3 (q k : Vec Ideal S1x256x128 .bf16) (g : Vec Ideal S256x256 .f32) :
    k0_pay246 (k0_pay244 (k0_pay230 k0_pay5 k0_pay6 q) k g) = k0_pay36 (k0_pay12 k0_pay5 k0_pay6 q) k g := rfl
/-- A chunk of weights, under one of its names. -/
theorem row4 (q k : Vec Ideal S1x256x128 .bf16) (g : Vec Ideal S256x256 .f32) :
    k0_pay243 (k0_pay230 k0_pay5 k0_pay6 q) k g = k0_pay36 (k0_pay12 k0_pay5 k0_pay6 q) k g := rfl
/-- A chunk of weights, under one of its names. -/
theorem row5 (q k : Vec Ideal S1x256x128 .bf16) (g : Vec Ideal S256x256 .f32) :
    k0_pay240 (k0_pay230 k0_pay5 k0_pay6 q) (k0_pay238 k) (constant S256x512 FTy.f32 0#32) g = k0_pay36 (k0_pay12 k0_pay5 k0_pay6 q) k g := rfl
/-- A chunk of weights, under one of its names. -/
theorem row6 (q k : Vec Ideal S1x256x128 .bf16) (g : Vec Ideal S256x256 .f32) :
    k0_pay236 (k0_pay230 k0_pay5 k0_pay6 q) k g = k0_pay36 (k0_pay12 k0_pay5 k0_pay6 q) k g := rfl
/-- A chunk of weights, under one of its names. -/
theorem row7 (q k : Vec Ideal S1x256x128 .bf16) (g : Vec Ideal S256x256 .f32) :
    k0_pay233 k0_pay5 k0_pay6 q k g = k0_pay36 (k0_pay12 k0_pay5 k0_pay6 q) k g := rfl
/-- A chunk of weights, under one of its names. -/
theorem row8 (q k : Vec Ideal S1x256x128 .bf16) (g : Vec Ideal S256x256 .f32) :
    k0_pay206 (k0_pay187 k0_pay5 k0_pay6 q) k g = k0_pay36 (k0_pay12 k0_pay5 k0_pay6 q) k g := rfl
/-- A chunk of weights, under one of its names. -/
theorem row9 (q k : Vec Ideal S1x256x128 .bf16) (g : Vec Ideal S256x256 .f32) :
    k0_pay203 (k0_pay187 k0_pay5 k0_pay6 q) (k0_pay201 k) g = k0_pay36 (k0_pay12 k0_pay5 k0_pay6 q) k g := rfl
/-- A chunk of weights, under one of its names. -/
theorem row10 (q k : Vec Ideal S1x256x128 .bf16) (g : Vec Ideal S256x256 .f32) :
    k0_pay200 (k0_pay187 k0_pay5 k0_pay6 q) k g = k0_pay36 (k0_pay12 k0_pay5 k0_pay6 q) k g := rfl
/-- A chunk of weights, under one of its names. -/
theorem row11 (q k : Vec Ideal S1x256x128 .bf16) (g : Vec Ideal S256x256 .f32) :
    k0_pay197 (k0_pay187 k0_pay5 k0_pay6 q) k g = k0_pay36 (k0_pay12 k0_pay5 k0_pay6 q) k g := rfl
/-- A chunk of weights, under one of its names. -/
theorem row12 (q k : Vec Ideal S1x256x128 .bf16) (g : Vec Ideal S256x256 .f32) :
    k0_pay193 (k0_pay187 k0_pay5 k0_pay6 q) k g = k0_pay36 (k0_pay12 k0_pay5 k0_pay6 q) k g := rfl
/-- A chunk of weights, under one of its names. -/
theorem row13 (q k : Vec Ideal S1x256x128 .bf16) (g : Vec Ideal S256x256 .f32) :
    k0_pay190 (k0_pay188 k0_pay5 k0_pay6 q k g) = k0_pay36 (k0_pay12 k0_pay5 k0_pay6 q) k g := rfl
/-- A chunk of weights, under one of its names. -/
theorem row14 (q k : Vec Ideal S1x256x128 .bf16) (g : Vec Ideal S256x256 .f32) :
    k0_pay168 (k0_pay156 k0_pay5 k0_pay6 q) k g = k0_pay36 (k0_pay12 k0_pay5 k0_pay6 q) k g := rfl
/-- A chunk of weights, under one of its names. -/
theorem row15 (q k : Vec Ideal S1x256x128 .bf16) (g : Vec Ideal S256x256 .f32) :
    k0_pay165 (k0_pay156 k0_pay5 k0_pay6 q) k g = k0_pay36 (k0_pay12 k0_pay5 k0_pay6 q) k g := rfl
/-- A chunk of weights, under one of its names. -/
theorem row16 (q k : Vec Ideal S1x256x128 .bf16) (g : Vec Ideal S256x256 .f32) :
    k0_pay162 (k0_pay156 k0_pay5 k0_pay6 q) k g = k0_pay36 (k0_pay12 k0_pay5 k0_pay6 q) k g := rfl
/-- A chunk of weights, under one of its names. -/
theorem row17 (q k : Vec Ideal S1x256x128 .bf16) (g : Vec Ideal S256x256 .f32) :
    k0_pay159 k0_pay5 k0_pay6 q k g = k0_pay36 (k0_pay12 k0_pay5 k0_pay6 q) k g := rfl
/-- A chunk of weights, under one of its names. -/
theorem row18 (q k : Vec Ideal S1x256x128 .bf16) (g : Vec Ideal S256x256 .f32) :
    k0_pay142 k0_pay5 k0_pay6 (k0_pay136 q) k g = k0_pay36 (k0_pay12 k0_pay5 k0_pay6 q) k g := rfl
/-- A chunk of weights, under one of its names. -/
theorem row19 (q k : Vec Ideal S1x256x128 .bf16) (g : Vec Ideal S256x256 .f32) :
    k0_pay139 k0_pay5 k0_pay6 (k0_pay136 q) k g = k0_pay36 (k0_pay12 k0_pay5 k0_pay6 q) k g := rfl
/-- A chunk of weights, under one of its names. -/
theorem row20 (q k : Vec Ideal S1x256x128 .bf16) (g : Vec Ideal S256x256 .f32) :
    k0_pay130 (k0_pay106 k0_pay5 k0_pay6 q) k g = k0_pay36 (k0_pay12 k0_pay5 k0_pay6 q) k g := rfl
/-- A chunk of weights, under one of its names. -/
theorem row21 (q k : Vec Ideal S1x256x128 .bf16) (g : Vec Ideal S256x256 .f32) :
    k0_pay127 (k0_pay106 k0_pay5 k0_pay6 q) k g = k0_pay36 (k0_pay12 k0_pay5 k0_pay6 q) k g := rfl
/-- A chunk of weights, under one of its names. -/
theorem row22 (q k : Vec Ideal S1x256x128 .bf16) (g : Vec Ideal S256x256 .f32) :
    k0_pay125 (k0_pay106 k0_pay5 k0_pay6 q) k g = k0_pay36 (k0_pay12 k0_pay5 k0_pay6 q) k g := rfl
/-- A chunk of weights, under one of its names. -/
theorem row23 (q k : Vec Ideal S1x256x128 .bf16) (g : Vec Ideal S256x256 .f32) :
    k0_pay122 (k0_pay106 k0_pay5 k0_pay6 q) k g = k0_pay36 (k0_pay12 k0_pay5 k0_pay6 q) k g := rfl
/-- A chunk of weights, under one of its names. -/
theorem row24 (q k : Vec Ideal S1x256x128 .bf16) (g : Vec Ideal S256x256 .f32) :
    k0_pay120 (k0_pay118 (k0_pay106 k0_pay5 k0_pay6 q) k g) = k0_pay36 (k0_pay12 k0_pay5 k0_pay6 q) k g := rfl
/-- A chunk of weights, under one of its names. -/
theorem row25 (q k : Vec Ideal S1x256x128 .bf16) (g : Vec Ideal S256x256 .f32) :
    k0_pay117 (k0_pay106 k0_pay5 k0_pay6 q) k g = k0_pay36 (k0_pay12 k0_pay5 k0_pay6 q) k g := rfl
/-- A chunk of weights, under one of its names. -/
theorem row26 (q k : Vec Ideal S1x256x128 .bf16) (g : Vec Ideal S256x256 .f32) :
    k0_pay111 (k0_pay106 k0_pay5 k0_pay6 q) k g = k0_pay36 (k0_pay12 k0_pay5 k0_pay6 q) k g := rfl
/-- A chunk of weights, under one of its names. -/
theorem row27 (q k : Vec Ideal S1x256x128 .bf16) (g : Vec Ideal S256x256 .f32) :
    k0_pay108 (k0_pay106 k0_pay5 k0_pay6 q) k g = k0_pay36 (k0_pay12 k0_pay5 k0_pay6 q) k g := rfl
/-- A chunk of weights, under one of its names. -/
theorem row28 (q k : Vec Ideal S1x256x128 .bf16) (g : Vec Ideal S256x256 .f32) :
    k0_pay83 (k0_pay80 (k0_pay64 k0_pay5 k0_pay6 q) k g) = k0_pay36 (k0_pay12 k0_pay5 k0_pay6 q) k g := rfl
/-- A chunk of weights, under one of its names. -/
theorem row29 (q k : Vec Ideal S1x256x128 .bf16) (g : Vec Ideal S256x256 .f32) :
    k0_pay79 (k0_pay64 k0_pay5 k0_pay6 q) k g = k0_pay36 (k0_pay12 k0_pay5 k0_pay6 q) k g := rfl
/-- A chunk of weights, under one of its names. -/
theorem row30 (q k : Vec Ideal S1x256x128 .bf16) (g : Vec Ideal S256x256 .f32) :
    k0_pay76 (k0_pay64 k0_pay5 k0_pay6 q) (k0_pay74 k) (constant S256x512 FTy.f32 0#32) g = k0_pay36 (k0_pay12 k0_pay5 k0_pay6 q) k g := rfl
/-- A chunk of weights, under one of its names. -/
theorem row31 (q k : Vec Ideal S1x256x128 .bf16) (g : Vec Ideal S256x256 .f32) :
    k0_pay73 (k0_pay64 k0_pay5 k0_pay6 q) k g = k0_pay36 (k0_pay12 k0_pay5 k0_pay6 q) k g := rfl
/-- A chunk of weights, under one of its names. -/
theorem row32 (q k : Vec Ideal S1x256x128 .bf16) (g : Vec Ideal S256x256 .f32) :
    k0_pay69 k0_pay5 k0_pay6 q k g = k0_pay36 (k0_pay12 k0_pay5 k0_pay6 q) k g := rfl
/-- A chunk of weights, under one of its names. -/
theorem row33 (q k : Vec Ideal S1x256x128 .bf16) (g : Vec Ideal S256x256 .f32) :
    k0_pay66 k0_pay5 k0_pay6 q k g = k0_pay36 (k0_pay12 k0_pay5 k0_pay6 q) k g := rfl
/-- A chunk of weights, under one of its names. -/
theorem row34 (q k : Vec Ideal S1x256x128 .bf16) (g : Vec Ideal S256x256 .f32) :
    k0_pay48 (k0_pay45 (k0_pay34 k0_pay5 k0_pay6 q) k g) = k0_pay36 (k0_pay12 k0_pay5 k0_pay6 q) k g := rfl
/-- A chunk of weights, under one of its names. -/
theorem row35 (q k : Vec Ideal S1x256x128 .bf16) (g : Vec Ideal S256x256 .f32) :
    k0_pay44 (k0_pay34 k0_pay5 k0_pay6 q) k g = k0_pay36 (k0_pay12 k0_pay5 k0_pay6 q) k g := rfl
/-- A chunk of weights, under one of its names. -/
theorem row36 (q k : Vec Ideal S1x256x128 .bf16) (g : Vec Ideal S256x256 .f32) :
    k0_pay39 (k0_pay34 k0_pay5 k0_pay6 q) k g = k0_pay36 (k0_pay12 k0_pay5 k0_pay6 q) k g := rfl
/-- A chunk of weights, under one of its names. -/
theorem row37 (q k : Vec Ideal S1x256x128 .bf16) (g : Vec Ideal S256x256 .f32) :
    k0_pay36 (k0_pay34 k0_pay5 k0_pay6 q) k g = k0_pay36 (k0_pay12 k0_pay5 k0_pay6 q) k g := rfl
/-- A chunk of weights, under one of its names. -/
theorem row38 (q k : Vec Ideal S1x256x128 .bf16) (g : Vec Ideal S256x256 .f32) :
    k0_pay19 (k0_pay12 k0_pay5 k0_pay6 q) (k0_pay16 k) g = k0_pay36 (k0_pay12 k0_pay5 k0_pay6 q) k g := rfl
/-- A chunk of weights, under one of its names. -/
theorem row39 (q k : Vec Ideal S1x256x128 .bf16) (g : Vec Ideal S256x256 .f32) :
    k0_pay15 k0_pay5 k0_pay6 q k g = k0_pay36 (k0_pay12 k0_pay5 k0_pay6 q) k g := rfl
/-- A chunk of weights, under one of its names. -/
theorem row40 (q k : Vec Ideal S1x256x128 .bf16) (g : Vec Ideal S256x256 .f32) :
    k0_pay229 (k0_pay207 k0_pay5 k0_pay6 q) k g = k0_pay36 (k0_pay12 k0_pay5 k0_pay6 q) k g := rfl
/-- A chunk of weights, under one of its names. -/
theorem row41 (q k : Vec Ideal S1x256x128 .bf16) (g : Vec Ideal S256x256 .f32) :
    k0_pay226 (k0_pay207 k0_pay5 k0_pay6 q) k g = k0_pay36 (k0_pay12 k0_pay5 k0_pay6 q) k g := rfl
/-- A chunk of weights, under one of its names. -/
theorem row42 (q k : Vec Ideal S1x256x128 .bf16) (g : Vec Ideal S256x256 .f32) :
    k0_pay223 (k0_pay207 k0_pay5 k0_pay6 q) k g = k0_pay36 (k0_pay12 k0_pay5 k0_pay6 q) k g := rfl
/-- A chunk of weights, under one of its names. -/
theorem row43 (q k : Vec Ideal S1x256x128 .bf16) (g : Vec Ideal S256x256 .f32) :
    k0_pay221 (k0_pay219 (k0_pay207 k0_pay5 k0_pay6 q) k g) = k0_pay36 (k0_pay12 k0_pay5 k0_pay6 q) k g := rfl
/-- A chunk of weights, under one of its names. -/
theorem row44 (q k : Vec Ideal S1x256x128 .bf16) (g : Vec Ideal S256x256 .f32) :
    k0_pay218 (k0_pay207 k0_pay5 k0_pay6 q) k g = k0_pay36 (k0_pay12 k0_pay5 k0_pay6 q) k g := rfl
/-- A chunk of weights, under one of its names. -/
theorem row45 (q k : Vec Ideal S1x256x128 .bf16) (g : Vec Ideal S256x256 .f32) :
    k0_pay212 (k0_pay207 k0_pay5 k0_pay6 q) k g = k0_pay36 (k0_pay12 k0_pay5 k0_pay6 q) k g := rfl
/-- A chunk of weights, under one of its names. -/
theorem row46 (q k : Vec Ideal S1x256x128 .bf16) (g : Vec Ideal S256x256 .f32) :
    k0_pay209 (k0_pay207 k0_pay5 k0_pay6 q) k g = k0_pay36 (k0_pay12 k0_pay5 k0_pay6 q) k g := rfl
/-- A chunk of weights, under one of its names. -/
theorem row47 (q k : Vec Ideal S1x256x128 .bf16) (g : Vec Ideal S256x256 .f32) :
    k0_pay186 (k0_pay169 k0_pay5 k0_pay6 q) k g = k0_pay36 (k0_pay12 k0_pay5 k0_pay6 q) k g := rfl
/-- A chunk of weights, under one of its names. -/
theorem row48 (q k : Vec Ideal S1x256x128 .bf16) (g : Vec Ideal S256x256 .f32) :
    k0_pay183 (k0_pay181 (k0_pay169 k0_pay5 k0_pay6 q) k g) = k0_pay36 (k0_pay12 k0_pay5 k0_pay6 q) k g := rfl
/-- A chunk of weights, under one of its names. -/
theorem row49 (q k : Vec Ideal S1x256x128 .bf16) (g : Vec Ideal S256x256 .f32) :
    k0_pay180 (k0_pay169 k0_pay5 k0_pay6 q) k g = k0_pay36 (k0_pay12 k0_pay5 k0_pay6 q) k g := rfl
/-- A chunk of weights, under one of its names. -/
theorem row50 (q k : Vec Ideal S1x256x128 .bf16) (g : Vec Ideal S256x256 .f32) :
    k0_pay174 (k0_pay169 k0_pay5 k0_pay6 q) k g = k0_pay36 (k0_pay12 k0_pay5 k0_pay6 q) k g := rfl
/-- A chunk of weights, under one of its names. -/
theorem row51 (q k : Vec Ideal S1x256x128 .bf16) (g : Vec Ideal S256x256 .f32) :
    k0_pay171 (k0_pay169 k0_pay5 k0_pay6 q) k g = k0_pay36 (k0_pay12 k0_pay5 k0_pay6 q) k g := rfl
/-- A chunk of weights, under one of its names. -/
theorem row52 (q k : Vec Ideal S1x256x128 .bf16) (g : Vec Ideal S256x256 .f32) :
    k0_pay155 (k0_pay144 k0_pay5 k0_pay6 q) k g = k0_pay36 (k0_pay12 k0_pay5 k0_pay6 q) k g := rfl
/-- A chunk of weights, under one of its names. -/
theorem row53 (q k : Vec Ideal S1x256x128 .bf16) (g : Vec Ideal S256x256 .f32) :
    k0_pay151 (k0_pay144 k0_pay5 k0_pay6 q) k g = k0_pay36 (k0_pay12 k0_pay5 k0_pay6 q) k g := rfl
/-- A chunk of weights, under one of its names. -/
theorem row54 (q k : Vec Ideal S1x256x128 .bf16) (g : Vec Ideal S256x256 .f32) :
    k0_pay148 (k0_pay147 k0_pay5 k0_pay6 q k g) = k0_pay36 (k0_pay12 k0_pay5 k0_pay6 q) k g := rfl
/-- A chunk of weights, under one of its names. -/
theorem row55 (q k : Vec Ideal S1x256x128 .bf16) (g : Vec Ideal S256x256 .f32) :
    k0_pay134 (k0_pay131 k0_pay5 k0_pay6 q) k g = k0_pay36 (k0_pay12 k0_pay5 k0_pay6 q) k g := rfl
/-- A chunk of weights, under one of its names. -/
theorem row56 (q k : Vec Ideal S1x256x128 .bf16) (g : Vec Ideal S256x256 .f32) :
    k0_pay105 (k0_pay84 k0_pay5 k0_pay6 q) k g = k0_pay36 (k0_pay12 k0_pay5 k0_pay6 q) k g := rfl
/-- A chunk of weights, under one of its names. -/
theorem row57 (q k : Vec Ideal S1x256x128 .bf16) (g : Vec Ideal S256x256 .f32) :
    k0_pay102 (k0_pay84 k0_pay5 k0_pay6 q) k g = k0_pay36 (k0_pay12 k0_pay5 k0_pay6 q) k g := rfl
/-- A chunk of weights, under one of its names. -/
theorem row58 (q k : Vec Ideal S1x256x128 .bf16) (g : Vec Ideal S256x256 .f32) :
    k0_pay100 (k0_pay84 k0_pay5 k0_pay6 q) k g = k0_pay36 (k0_pay12 k0_pay5 k0_pay6 q) k g := rfl
/-- A chunk of weights, under one of its names. -/
theorem row59 (q k : Vec Ideal S1x256x128 .bf16) (g : Vec Ideal S256x256 .f32) :
    k0_pay97 (k0_pay84 k0_pay5 k0_pay6 q) k g = k0_pay36 (k0_pay12 k0_pay5 k0_pay6 q) k g := rfl
/-- A chunk of weights, under one of its names. -/
theorem row60 (q k : Vec Ideal S1x256x128 .bf16) (g : Vec Ideal S256x256 .f32) :
    k0_pay95 (k0_pay94 (k0_pay84 k0_pay5 k0_pay6 q) k g) = k0_pay36 (k0_pay12 k0_pay5 k0_pay6 q) k g := rfl
/-- A chunk of weights, under one of its names. -/
theorem row61 (q k : Vec Ideal S1x256x128 .bf16) (g : Vec Ideal S256x256 .f32) :
    k0_pay90 (k0_pay88 k0_pay5 k0_pay6 q k g) = k0_pay36 (k0_pay12 k0_pay5 k0_pay6 q) k g := rfl
/-- A chunk of weights, under one of its names. -/
theorem row62 (q k : Vec Ideal S1x256x128 .bf16) (g : Vec Ideal S256x256 .f32) :
    k0_pay87 k0_pay5 k0_pay6 q k g = k0_pay36 (k0_pay12 k0_pay5 k0_pay6 q) k g := rfl
/-- A chunk of weights, under one of its names. -/
theorem row63 (q k : Vec Ideal S1x256x128 .bf16) (g : Vec Ideal S256x256 .f32) :
    k0_pay63 (k0_pay49 k0_pay5 k0_pay6 q) k g = k0_pay36 (k0_pay12 k0_pay5 k0_pay6 q) k g := rfl
/-- A chunk of weights, under one of its names. -/
theorem row64 (q k : Vec Ideal S1x256x128 .bf16) (g : Vec Ideal S256x256 .f32) :
    k0_pay60 (k0_pay49 k0_pay5 k0_pay6 q) k g = k0_pay36 (k0_pay12 k0_pay5 k0_pay6 q) k g := rfl
/-- A chunk of weights, under one of its names. -/
theorem row65 (q k : Vec Ideal S1x256x128 .bf16) (g : Vec Ideal S256x256 .f32) :
    k0_pay58 (k0_pay56 (k0_pay49 k0_pay5 k0_pay6 q) k g) = k0_pay36 (k0_pay12 k0_pay5 k0_pay6 q) k g := rfl
/-- A chunk of weights, under one of its names. -/
theorem row66 (q k : Vec Ideal S1x256x128 .bf16) (g : Vec Ideal S256x256 .f32) :
    k0_pay54 (k0_pay53 k0_pay5 k0_pay6 q k g) = k0_pay36 (k0_pay12 k0_pay5 k0_pay6 q) k g := rfl
/-- A chunk of weights, under one of its names. -/
theorem row67 (q k : Vec Ideal S1x256x128 .bf16) (g : Vec Ideal S256x256 .f32) :
    k0_pay52 k0_pay5 k0_pay6 q k g = k0_pay36 (k0_pay12 k0_pay5 k0_pay6 q) k g := rfl
/-- A chunk of weights, under one of its names. -/
theorem row68 (q k : Vec Ideal S1x256x128 .bf16) (g : Vec Ideal S256x256 .f32) :
    k0_pay33 (k0_pay23 k0_pay6 (k0_pay21 q) (k0_pay22 k0_pay5 q) (FloatOps.ofBits FTy.bf16 0#16)) k g = k0_pay36 (k0_pay12 k0_pay5 k0_pay6 q) k g := rfl
/-- A chunk of weights, under one of its names. -/
theorem row69 (q k : Vec Ideal S1x256x128 .bf16) (g : Vec Ideal S256x256 .f32) :
    k0_pay28 k0_pay6 (k0_pay21 q) (k0_pay22 k0_pay5 q) (FloatOps.ofBits FTy.bf16 0#16) k g = k0_pay36 (k0_pay12 k0_pay5 k0_pay6 q) k g := rfl
/-- A chunk of weights, under one of its names. -/
theorem row70 (q k : Vec Ideal S1x256x128 .bf16) (g : Vec Ideal S256x256 .f32) :
    k0_pay25 k0_pay6 (k0_pay21 q) (k0_pay22 k0_pay5 q) (FloatOps.ofBits FTy.bf16 0#16) k g = k0_pay36 (k0_pay12 k0_pay5 k0_pay6 q) k g := rfl
/-- A chunk of weights, under one of its names. -/
theorem row71 (q k : Vec Ideal S1x256x128 .bf16) (g : Vec Ideal S256x256 .f32) :
    k0_pay11 (k0_pay7 q) (k0_pay8 k) g = k0_pay36 (k0_pay12 k0_pay5 k0_pay6 q) k g := rfl
/-- The partial sums and the product of a unit, under their names. -/
theorem sum0 (q k0 k1 k2 k3 k4 k5 k6 k7 : Vec Ideal S1x256x128 .bf16) (g0 g1 g2 g3 g4 g5 g6 g7 : Vec Ideal S256x256 .f32) (a : Vec Ideal S1x128x2048 .bf16) (b : Vec Ideal S2048x512 .bf16) :
    k0_pay2 (k0_pay253 (k0_pay230 k0_pay5 k0_pay6 q) (k0_pay250 (k0_pay230 k0_pay5 k0_pay6 q) (k0_pay242 (k0_pay230 k0_pay5 k0_pay6 q) (k0_pay235 (k0_pay230 k0_pay5 k0_pay6 q) (k0_pay232 k0_pay5 k0_pay6 q k0 g0) k1 g1) (k0_pay238 k2) (constant S256x512 FTy.f32 0#32) g2 k3 g3) (k0_pay245 (k0_pay230 k0_pay5 k0_pay6 q) k4 g4) k5 g5 k6 g6) k7 g7) a b = k0_pay41 (addf (addf (addf (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (colS (k0_pay35 (k0_pay12 k0_pay5 k0_pay6 q) k5 g5))) (colS (k0_pay35 (k0_pay12 k0_pay5 k0_pay6 q) k6 g6))) (colS (k0_pay35 (k0_pay12 k0_pay5 k0_pay6 q) k7 g7))) (matmul (φ₁ := .bf16) (φ₂ := .bf16) dot_S128x2048_S2048x512_S128x512_1_0_0_1_n_n none (shapeCast (α := Ideal .bf16) S128x2048 a shapeCasts_S1x128x2048_S128x2048) b (constant S128x512 .f32 0x00000000#32)) := rfl
/-- The partial sums and the product of a unit, under their names. -/
theorem sum1 (q k0 k1 k2 k3 k4 k5 k6 : Vec Ideal S1x256x128 .bf16) (g0 g1 g2 g3 g4 g5 g6 : Vec Ideal S256x256 .f32) (a : Vec Ideal S1x128x1792 .bf16) (b : Vec Ideal S1792x512 .bf16) :
    k0_pay237 (k0_pay228 (k0_pay207 k0_pay5 k0_pay6 q) (k0_pay225 (k0_pay207 k0_pay5 k0_pay6 q) (k0_pay220 (k0_pay207 k0_pay5 k0_pay6 q) (k0_pay211 (k0_pay207 k0_pay5 k0_pay6 q) k0 g0 k1 g1) k2 g2 k3 g3) k4 g4 k5 g5) k6 g6) a b = k0_pay41 (addf (addf (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (colS (k0_pay35 (k0_pay12 k0_pay5 k0_pay6 q) k5 g5))) (colS (k0_pay35 (k0_pay12 k0_pay5 k0_pay6 q) k6 g6))) (matmul (φ₁ := .bf16) (φ₂ := .bf16) dot_S128x1792_S1792x512_S128x512_1_0_0_1_n_n none (shapeCast (α := Ideal .bf16) S128x1792 a shapeCasts_S1x128x1792_S128x1792) b (constant S128x512 .f32 0x00000000#32)) := rfl
/-- The partial sums and the product of a unit, under their names. -/
theorem sum2 (q k0 k1 k2 k3 k4 k5 : Vec Ideal S1x256x128 .bf16) (g0 g1 g2 g3 g4 g5 : Vec Ideal S256x256 .f32) (a : Vec Ideal S1x128x1536 .bf16) (b : Vec Ideal S1536x512 .bf16) :
    k0_pay216 (k0_pay213 a b) (k0_pay214 (k0_pay205 (k0_pay187 k0_pay5 k0_pay6 q) (k0_pay199 (k0_pay187 k0_pay5 k0_pay6 q) (k0_pay192 (k0_pay187 k0_pay5 k0_pay6 q) (k0_pay189 k0_pay5 k0_pay6 q k0 g0) k1 g1) k2 g2 k3 g3) (k0_pay201 k4) g4 k5 g5)) (k0_pay215 a b) = k0_pay41 (addf (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (colS (k0_pay35 (k0_pay12 k0_pay5 k0_pay6 q) k5 g5))) (matmul (φ₁ := .bf16) (φ₂ := .bf16) dot_S128x1536_S1536x512_S128x512_1_0_0_1_n_n none (shapeCast (α := Ideal .bf16) S128x1536 a shapeCasts_S1x128x1536_S128x1536) b (constant S128x512 .f32 0x00000000#32)) := rfl
/-- The partial sums and the product of a unit, under their names. -/
theorem sum3 (q k0 k1 k2 k3 k4 : Vec Ideal S1x256x128 .bf16) (g0 g1 g2 g3 g4 : Vec Ideal S256x256 .f32) (a : Vec Ideal S1x128x1280 .bf16) (b : Vec Ideal S1280x512 .bf16) :
    k0_pay195 (k0_pay194 (k0_pay185 (k0_pay169 k0_pay5 k0_pay6 q) (k0_pay179 (k0_pay169 k0_pay5 k0_pay6 q) (k0_pay173 (k0_pay169 k0_pay5 k0_pay6 q) k0 g0 k1 g1) k2 g2) (k0_pay182 (k0_pay169 k0_pay5 k0_pay6 q) k3 g3) k4 g4) a b) = k0_pay41 (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (matmul (φ₁ := .bf16) (φ₂ := .bf16) dot_S128x1280_S1280x512_S128x512_1_0_0_1_n_n none (shapeCast (α := Ideal .bf16) S128x1280 a shapeCasts_S1x128x1280_S128x1280) b (constant S128x512 .f32 0x00000000#32)) := rfl
/-- The partial sums and the product of a unit, under their names. -/
theorem sum4 (q k0 k1 k2 k3 : Vec Ideal S1x256x128 .bf16) (g0 g1 g2 g3 : Vec Ideal S256x256 .f32) (a : Vec Ideal S1x128x1024 .bf16) (b : Vec Ideal S1024x512 .bf16) :
    k0_pay177 (k0_pay175 a b) (k0_pay176 (k0_pay167 (k0_pay156 k0_pay5 k0_pay6 q) (k0_pay161 (k0_pay156 k0_pay5 k0_pay6 q) (k0_pay158 k0_pay5 k0_pay6 q k0 g0) k1 g1) k2 g2 k3 g3)) = k0_pay41 (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (matmul (φ₁ := .bf16) (φ₂ := .bf16) dot_S128x1024_S1024x512_S128x512_1_0_0_1_n_n none (shapeCast (α := Ideal .bf16) S128x1024 a shapeCasts_S1x128x1024_S128x1024) b (constant S128x512 .f32 0x00000000#32)) := rfl
/-- The partial sums and the product of a unit, under their names. -/
theorem sum5 (q k0 k1 k2 : Vec Ideal S1x256x128 .bf16) (g0 g1 g2 : Vec Ideal S256x256 .f32) (a : Vec Ideal S1x128x768 .bf16) (b : Vec Ideal S768x512 .bf16) :
    k0_pay163 (k0_pay154 (k0_pay144 k0_pay5 k0_pay6 q) (k0_pay150 (k0_pay144 k0_pay5 k0_pay6 q) (k0_pay146 k0_pay5 k0_pay6 q k0 g0) k1 g1) k2 g2) a b = k0_pay41 (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (matmul (φ₁ := .bf16) (φ₂ := .bf16) dot_S128x768_S768x512_S128x512_1_0_0_1_n_n none (shapeCast (α := Ideal .bf16) S128x768 a shapeCasts_S1x128x768_S128x768) b (constant S128x512 .f32 0x00000000#32)) := rfl
/-- The partial sums and the product of a unit, under their names. -/
theorem sum6 (q k0 k1 : Vec Ideal S1x256x128 .bf16) (g0 g1 : Vec Ideal S256x256 .f32) (a : Vec Ideal S1x128x512 .bf16) (b : Vec Ideal S512x512 .bf16) :
    k0_pay152 (k0_pay141 k0_pay5 k0_pay6 (k0_pay136 q) k0 g0 k1 g1) a b = k0_pay41 (addf (colS (k0_pay35 (k0_pay12 k0_pay5 k0_pay6 q) k0 g0)) (colS (k0_pay35 (k0_pay12 k0_pay5 k0_pay6 q) k1 g1))) (matmul (φ₁ := .bf16) (φ₂ := .bf16) dot_S128x512_S512x512_S128x512_1_0_0_1_n_n none (shapeCast (α := Ideal .bf16) S128x512 a shapeCasts_S1x128x512_S128x512) b (constant S128x512 .f32 0x00000000#32)) := rfl
/-- The partial sums and the product of a unit, under their names. -/
theorem sum7 (q k0 : Vec Ideal S1x256x128 .bf16) (g0 : Vec Ideal S256x256 .f32) (a : Vec Ideal S1x128x256 .bf16) (b : Vec Ideal S256x512 .bf16) :
    k0_pay143 (k0_pay133 (k0_pay131 k0_pay5 k0_pay6 q) k0 g0) a b = k0_pay41 (colS (k0_pay35 (k0_pay12 k0_pay5 k0_pay6 q) k0 g0)) (matmul (φ₁ := .bf16) (φ₂ := .bf16) dot_S128x256_S256x512_S128x512_1_0_0_1_n_n none (shapeCast (α := Ideal .bf16) S128x256 a shapeCasts_S1x128x256_S128x256) b (constant S128x512 .f32 0x00000000#32)) := rfl
/-- The partial sums and the product of a unit, under their names. -/
theorem sum8 (q k0 k1 k2 k3 k4 k5 k6 k7 : Vec Ideal S1x256x128 .bf16) (g0 g1 g2 g3 g4 g5 g6 g7 : Vec Ideal S256x256 .f32) (a : Vec Ideal S1x128x2048 .bf16) (b : Vec Ideal S2048x512 .bf16) :
    k0_pay135 (k0_pay129 (k0_pay106 k0_pay5 k0_pay6 q) (k0_pay124 (k0_pay106 k0_pay5 k0_pay6 q) (k0_pay116 (k0_pay106 k0_pay5 k0_pay6 q) (k0_pay110 (k0_pay106 k0_pay5 k0_pay6 q) k0 g0 k1 g1) k2 g2) (k0_pay119 (k0_pay106 k0_pay5 k0_pay6 q) k3 g3) k4 g4 k5 g5) k6 g6 k7 g7) a b = k0_pay41 (addf (addf (addf (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (colS (k0_pay35 (k0_pay12 k0_pay5 k0_pay6 q) k5 g5))) (colS (k0_pay35 (k0_pay12 k0_pay5 k0_pay6 q) k6 g6))) (colS (k0_pay35 (k0_pay12 k0_pay5 k0_pay6 q) k7 g7))) (matmul (φ₁ := .bf16) (φ₂ := .bf16) dot_S128x2048_S2048x512_S128x512_1_0_0_1_n_n none (shapeCast (α := Ideal .bf16) S128x2048 a shapeCasts_S1x128x2048_S128x2048) b (constant S128x512 .f32 0x00000000#32)) := rfl
/-- The partial sums and the product of a unit, under their names. -/
theorem sum9 (q k0 k1 k2 k3 k4 k5 k6 : Vec Ideal S1x256x128 .bf16) (g0 g1 g2 g3 g4 g5 g6 : Vec Ideal S256x256 .f32) (a : Vec Ideal S1x128x1792 .bf16) (b : Vec Ideal S1792x512 .bf16) :
    k0_pay114 (k0_pay112 a b) (k0_pay113 (k0_pay104 (k0_pay84 k0_pay5 k0_pay6 q) (k0_pay99 (k0_pay84 k0_pay5 k0_pay6 q) (k0_pay93 (k0_pay84 k0_pay5 k0_pay6 q) (k0_pay86 k0_pay5 k0_pay6 q k0 g0) (k0_pay89 k0_pay5 k0_pay6 q k1 g1) k2 g2) k3 g3 k4 g4) k5 g5 k6 g6)) = k0_pay41 (addf (addf (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (colS (k0_pay35 (k0_pay12 k0_pay5 k0_pay6 q) k5 g5))) (colS (k0_pay35 (k0_pay12 k0_pay5 k0_pay6 q) k6 g6))) (matmul (φ₁ := .bf16) (φ₂ := .bf16) dot_S128x1792_S1792x512_S128x512_1_0_0_1_n_n none (shapeCast (α := Ideal .bf16) S128x1792 a shapeCasts_S1x128x1792_S128x1792) b (constant S128x512 .f32 0x00000000#32)) := rfl
/-- The partial sums and the product of a unit, under their names. -/
theorem sum10 (q k0 k1 k2 k3 k4 k5 : Vec Ideal S1x256x128 .bf16) (g0 g1 g2 g3 g4 g5 : Vec Ideal S256x256 .f32) (a : Vec Ideal S1x128x1536 .bf16) (b : Vec Ideal S1536x512 .bf16) :
    k0_pay91 (k0_pay82 (k0_pay78 (k0_pay64 k0_pay5 k0_pay6 q) (k0_pay72 (k0_pay64 k0_pay5 k0_pay6 q) (k0_pay68 k0_pay5 k0_pay6 q k0 g0 k1 g1) k2 g2) (k0_pay74 k3) (constant S256x512 FTy.f32 0#32) g3 k4 g4) (k0_pay81 (k0_pay64 k0_pay5 k0_pay6 q) k5 g5)) a b = k0_pay41 (addf (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (colS (k0_pay35 (k0_pay12 k0_pay5 k0_pay6 q) k5 g5))) (matmul (φ₁ := .bf16) (φ₂ := .bf16) dot_S128x1536_S1536x512_S128x512_1_0_0_1_n_n none (shapeCast (α := Ideal .bf16) S128x1536 a shapeCasts_S1x128x1536_S128x1536) b (constant S128x512 .f32 0x00000000#32)) := rfl
/-- The partial sums and the product of a unit, under their names. -/
theorem sum11 (q k0 k1 k2 k3 k4 : Vec Ideal S1x256x128 .bf16) (g0 g1 g2 g3 g4 : Vec Ideal S256x256 .f32) (a : Vec Ideal S1x128x1280 .bf16) (b : Vec Ideal S1280x512 .bf16) :
    k0_pay70 (k0_pay62 (k0_pay49 k0_pay5 k0_pay6 q) (k0_pay57 (k0_pay49 k0_pay5 k0_pay6 q) (k0_pay51 k0_pay5 k0_pay6 q k0 g0) (k0_pay53 k0_pay5 k0_pay6 q k1 g1) k2 g2) k3 g3 k4 g4) a b = k0_pay41 (addf (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (colS (k0_pay35 (k0_pay12 k0_pay5 k0_pay6 q) k4 g4))) (matmul (φ₁ := .bf16) (φ₂ := .bf16) dot_S128x1280_S1280x512_S128x512_1_0_0_1_n_n none (shapeCast (α := Ideal .bf16) S128x1280 a shapeCasts_S1x128x1280_S128x1280) b (constant S128x512 .f32 0x00000000#32)) := rfl
/-- The partial sums and the product of a unit, under their names. -/
theorem sum12 (q k0 k1 k2 k3 : Vec Ideal S1x256x128 .bf16) (g0 g1 g2 g3 : Vec Ideal S256x256 .f32) (a : Vec Ideal S1x128x1024 .bf16) (b : Vec Ideal S1024x512 .bf16) :
    k0_pay55 (k0_pay47 (k0_pay43 (k0_pay34 k0_pay5 k0_pay6 q) (k0_pay38 (k0_pay34 k0_pay5 k0_pay6 q) k0 g0 k1 g1) k2 g2) (k0_pay46 (k0_pay34 k0_pay5 k0_pay6 q) k3 g3)) a b = k0_pay41 (addf (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (colS (k0_pay35 (k0_pay12 k0_pay5 k0_pay6 q) k3 g3))) (matmul (φ₁ := .bf16) (φ₂ := .bf16) dot_S128x1024_S1024x512_S128x512_1_0_0_1_n_n none (shapeCast (α := Ideal .bf16) S128x1024 a shapeCasts_S1x128x1024_S128x1024) b (constant S128x512 .f32 0x00000000#32)) := rfl
/-- The partial sums and the product of a unit, under their names. -/
theorem sum13 (q k0 k1 k2 : Vec Ideal S1x256x128 .bf16) (g0 g1 g2 : Vec Ideal S256x256 .f32) (a : Vec Ideal S1x128x768 .bf16) (b : Vec Ideal S768x512 .bf16) :
    k0_pay41 (k0_pay32 (k0_pay23 k0_pay6 (k0_pay21 q) (k0_pay22 k0_pay5 q) (FloatOps.ofBits FTy.bf16 0#16)) (k0_pay27 k0_pay6 (k0_pay21 q) (k0_pay22 k0_pay5 q) (FloatOps.ofBits FTy.bf16 0#16) k0 g0 k1 g1) k2 g2) (k0_pay40 a b) = k0_pay41 (addf (addf (colS (k0_pay35 (k0_pay12 k0_pay5 k0_pay6 q) k0 g0)) (colS (k0_pay35 (k0_pay12 k0_pay5 k0_pay6 q) k1 g1))) (colS (k0_pay35 (k0_pay12 k0_pay5 k0_pay6 q) k2 g2))) (matmul (φ₁ := .bf16) (φ₂ := .bf16) dot_S128x768_S768x512_S128x512_1_0_0_1_n_n none (shapeCast (α := Ideal .bf16) S128x768 a shapeCasts_S1x128x768_S128x768) b (constant S128x512 .f32 0x00000000#32)) := rfl
/-- The partial sums and the product of a unit, under their names. -/
theorem sum14 (q k0 k1 : Vec Ideal S1x256x128 .bf16) (g0 g1 : Vec Ideal S256x256 .f32) (a : Vec Ideal S1x128x512 .bf16) (b : Vec Ideal S512x512 .bf16) :
    k0_pay30 (k0_pay18 (k0_pay12 k0_pay5 k0_pay6 q) (k0_pay14 k0_pay5 k0_pay6 q k0 g0) (k0_pay16 k1) g1) (k0_pay29 a) b = k0_pay41 (addf (colS (k0_pay35 (k0_pay12 k0_pay5 k0_pay6 q) k0 g0)) (colS (k0_pay35 (k0_pay12 k0_pay5 k0_pay6 q) k1 g1))) (matmul (φ₁ := .bf16) (φ₂ := .bf16) dot_S128x512_S512x512_S128x512_1_0_0_1_n_n none (shapeCast (α := Ideal .bf16) S128x512 a shapeCasts_S1x128x512_S128x512) b (constant S128x512 .f32 0x00000000#32)) := rfl
/-- The partial sums and the product of a unit, under their names. -/
theorem sum15 (q k0 : Vec Ideal S1x256x128 .bf16) (g0 : Vec Ideal S256x256 .f32) (a : Vec Ideal S1x128x256 .bf16) (b : Vec Ideal S256x512 .bf16) :
    k0_pay20 (k0_pay10 (k0_pay7 q) (k0_pay8 k0) g0) a b = k0_pay41 (colS (k0_pay35 (k0_pay12 k0_pay5 k0_pay6 q) k0 g0)) (matmul (φ₁ := .bf16) (φ₂ := .bf16) dot_S128x256_S256x512_S128x512_1_0_0_1_n_n none (shapeCast (α := Ideal .bf16) S128x256 a shapeCasts_S1x128x256_S128x256) b (constant S128x512 .f32 0x00000000#32)) := rfl

end Cert.Attn
end
-- ==== Proof.Block.lean ====
module
public import proofs.«01_k».proof.Proof.Gen.KernelIdeal.Value
public import proofs.«01_k».proof.Proof.Chunks
/-! The body's stores of its output, unit by unit, hold the attention's values. -/

@[expose] public section
set_option maxRecDepth 16384
noncomputable section
namespace Cert.Attn
open Idealize.ShloMosaic Idealize.ShloMosaic.TcCoe Idealize.ShloMosaic.Tactic Cert.KernelIdeal Cert.KernelIdeal.Gen

set_option maxHeartbeats 4000000 in
/-- Every piece that the body stores of its output holds the attention's values there. -/
theorem pieces_val (c : Dev nD) (i : grid0.Coords) (arg2 : Memref sig .tc .vmem S1x2048x256 .bf16) (harg2 : arg2.IsWhole)
    (arg3 : Memref sig .tc .vmem S1x2048x256 .bf16) (harg3 : arg3.IsWhole) (arg4 : Memref sig .tc .vmem S1x2048x256 .bf16) (harg4 : arg4.IsWhole)
    (arg5 : Memref sig .tc .vmem S2048x256 .f32) (harg5 : arg5.IsWhole) (arg6 : Memref sig .tc .vmem S1x2048x256 .bf16) (harg6 : arg6.IsWhole)
    (arg7 : Memref sig .tc .vmem S2x128x2048 .bf16) (harg7 : arg7.IsWhole) (arg8 : Memref sig .tc .vmem S2048x512 .bf16) (harg8 : arg8.IsWhole)
    (arg9 : Memref sig .tc .vmem S2048x512 .bf16) (harg9 : arg9.IsWhole)
    (x0 x1 x2 : Vec Ideal S1x2048x256 .bf16) (x3 : Vec Ideal S2048x256 .f32) :
    ∀ p ∈ (kernelRun0_A (F := Ideal) c i arg2 harg2 arg3 harg3 arg4 harg4 arg5 harg5 arg6 harg6 arg7 harg7 arg8 harg8 arg9 harg9 x0 x1 x2 x3).1,
      ∀ x, p.2 x = Spec x0 x1 x2 x3 (p.1.emb x) := by
  unfold kernelRun0_A
  dsimp only
  sl_unfold_words
  simp only [List.forall_mem_cons, List.not_mem_nil, false_imp_iff, implies_true, and_true]
  refine ⟨?_, ?_, ?_, ?_, ?_, ?_, ?_, ?_, ?_, ?_, ?_, ?_, ?_, ?_, ?_, ?_⟩
  · refine piece_of 1 7 rfl rfl (unit_of (sum0 _ _ _ _ _ _ _ _ _ _ _ _ _ _ _ _ _ _ _) (prod8 rfl (vt_read _ vt_canon) (rows_read (n := 8) (m := 2048) _ ?_ rfl)) ?_)
    · exact rows_cons rfl (row0 _ _ _) (chunk_val' 1 7 7 (rd3 _ _ _ _) (rd3 _ _ _ _) (rd2 _ _ _ _)) (rows_cons rfl (row1 _ _ _) (chunk_val' 1 7 6 (rd3 _ _ _ _) (rd3 _ _ _ _) (rd2 _ _ _ _)) (rows_cons rfl (row2 _ _ _) (chunk_val' 1 7 5 (rd3 _ _ _ _) (rd3 _ _ _ _) (rd2 _ _ _ _)) (rows_cons rfl (row3 _ _ _) (chunk_val' 1 7 4 (rd3 _ _ _ _) (rd3 _ _ _ _) (rd2 _ _ _ _)) (rows_cons rfl (row4 _ _ _) (chunk_val' 1 7 3 (rd3 _ _ _ _) (rd3 _ _ _ _) (rd2 _ _ _ _)) (rows_cons rfl (row5 _ _ _) (chunk_val' 1 7 2 (rd3 _ _ _ _) (rd3 _ _ _ _) (rd2 _ _ _ _)) (rows_cons rfl (row6 _ _ _) (chunk_val' 1 7 1 (rd3 _ _ _ _) (rd3 _ _ _ _) (rd2 _ _ _ _)) (rows_cons rfl (row7 _ _ _) (chunk_val' 1 7 0 (rd3 _ _ _ _) (rd3 _ _ _ _) (rd2 _ _ _ _)) (rows_zero _ _))))))))
    · exact sums_cons rfl (chunk_val 1 7 7 (rd3 _ _ _ _) (rd3 _ _ _ _) (rd2 _ _ _ _)) (sums_cons rfl (chunk_val 1 7 6 (rd3 _ _ _ _) (rd3 _ _ _ _) (rd2 _ _ _ _)) (sums_cons rfl (chunk_val 1 7 5 (rd3 _ _ _ _) (rd3 _ _ _ _) (rd2 _ _ _ _)) (sums_cons rfl (chunk_val 1 7 4 (rd3 _ _ _ _) (rd3 _ _ _ _) (rd2 _ _ _ _)) (sums_cons rfl (chunk_val 1 7 3 (rd3 _ _ _ _) (rd3 _ _ _ _) (rd2 _ _ _ _)) (sums_cons rfl (chunk_val 1 7 2 (rd3 _ _ _ _) (rd3 _ _ _ _) (rd2 _ _ _ _)) (sums_cons rfl (chunk_val 1 7 1 (rd3 _ _ _ _) (rd3 _ _ _ _) (rd2 _ _ _ _)) (sums_one rfl (chunk_val 1 7 0 (rd3 _ _ _ _) (rd3 _ _ _ _) (rd2 _ _ _ _)))))))))
  · refine piece_of 1 6 rfl rfl (unit_of (sum1 _ _ _ _ _ _ _ _ _ _ _ _ _ _ _ _ _) (prod7 rfl (vt_read _ vt_canon) (rows_read (n := 7) (m := 1792) _ ?_ rfl)) ?_)
    · exact rows_cons rfl (row40 _ _ _) (chunk_val' 1 6 6 (rd3 _ _ _ _) (rd3 _ _ _ _) (rd2 _ _ _ _)) (rows_cons rfl (row41 _ _ _) (chunk_val' 1 6 5 (rd3 _ _ _ _) (rd3 _ _ _ _) (rd2 _ _ _ _)) (rows_cons rfl (row42 _ _ _) (chunk_val' 1 6 4 (rd3 _ _ _ _) (rd3 _ _ _ _) (rd2 _ _ _ _)) (rows_cons rfl (row43 _ _ _) (chunk_val' 1 6 3 (rd3 _ _ _ _) (rd3 _ _ _ _) (rd2 _ _ _ _)) (rows_cons rfl (row44 _ _ _) (chunk_val' 1 6 2 (rd3 _ _ _ _) (rd3 _ _ _ _) (rd2 _ _ _ _)) (rows_cons rfl (row45 _ _ _) (chunk_val' 1 6 1 (rd3 _ _ _ _) (rd3 _ _ _ _) (rd2 _ _ _ _)) (rows_cons rfl (row46 _ _ _) (chunk_val' 1 6 0 (rd3 _ _ _ _) (rd3 _ _ _ _) (rd2 _ _ _ _)) (rows_zero _ _)))))))
    · exact sums_cons rfl (chunk_val 1 6 6 (rd3 _ _ _ _) (rd3 _ _ _ _) (rd2 _ _ _ _)) (sums_cons rfl (chunk_val 1 6 5 (rd3 _ _ _ _) (rd3 _ _ _ _) (rd2 _ _ _ _)) (sums_cons rfl (chunk_val 1 6 4 (rd3 _ _ _ _) (rd3 _ _ _ _) (rd2 _ _ _ _)) (sums_cons rfl (chunk_val 1 6 3 (rd3 _ _ _ _) (rd3 _ _ _ _) (rd2 _ _ _ _)) (sums_cons rfl (chunk_val 1 6 2 (rd3 _ _ _ _) (rd3 _ _ _ _) (rd2 _ _ _ _)) (sums_cons rfl (chunk_val 1 6 1 (rd3 _ _ _ _) (rd3 _ _ _ _) (rd2 _ _ _ _)) (sums_one rfl (chunk_val 1 6 0 (rd3 _ _ _ _) (rd3 _ _ _ _) (rd2 _ _ _ _))))))))
  · refine piece_of 1 5 rfl rfl (unit_of (sum2 _ _ _ _ _ _ _ _ _ _ _ _ _ _ _) (prod6 rfl (vt_read _ vt_canon) (rows_read (n := 6) (m := 1536) _ ?_ rfl)) ?_)
    · exact rows_cons rfl (row8 _ _ _) (chunk_val' 1 5 5 (rd3 _ _ _ _) (rd3 _ _ _ _) (rd2 _ _ _ _)) (rows_cons rfl (row9 _ _ _) (chunk_val' 1 5 4 (rd3 _ _ _ _) (rd3 _ _ _ _) (rd2 _ _ _ _)) (rows_cons rfl (row10 _ _ _) (chunk_val' 1 5 3 (rd3 _ _ _ _) (rd3 _ _ _ _) (rd2 _ _ _ _)) (rows_cons rfl (row11 _ _ _) (chunk_val' 1 5 2 (rd3 _ _ _ _) (rd3 _ _ _ _) (rd2 _ _ _ _)) (rows_cons rfl (row12 _ _ _) (chunk_val' 1 5 1 (rd3 _ _ _ _) (rd3 _ _ _ _) (rd2 _ _ _ _)) (rows_cons rfl (row13 _ _ _) (chunk_val' 1 5 0 (rd3 _ _ _ _) (rd3 _ _ _ _) (rd2 _ _ _ _)) (rows_zero _ _))))))
    · exact sums_cons rfl (chunk_val 1 5 5 (rd3 _ _ _ _) (rd3 _ _ _ _) (rd2 _ _ _ _)) (sums_cons rfl (chunk_val 1 5 4 (rd3 _ _ _ _) (rd3 _ _ _ _) (rd2 _ _ _ _)) (sums_cons rfl (chunk_val 1 5 3 (rd3 _ _ _ _) (rd3 _ _ _ _) (rd2 _ _ _ _)) (sums_cons rfl (chunk_val 1 5 2 (rd3 _ _ _ _) (rd3 _ _ _ _) (rd2 _ _ _ _)) (sums_cons rfl (chunk_val 1 5 1 (rd3 _ _ _ _) (rd3 _ _ _ _) (rd2 _ _ _ _)) (sums_one rfl (chunk_val 1 5 0 (rd3 _ _ _ _) (rd3 _ _ _ _) (rd2 _ _ _ _)))))))
  · refine piece_of 1 4 rfl rfl (unit_of (sum3 _ _ _ _ _ _ _ _ _ _ _ _ _) (prod5 rfl (vt_read _ vt_canon) (rows_read (n := 5) (m := 1280) _ ?_ rfl)) ?_)
    · exact rows_cons rfl (row47 _ _ _) (chunk_val' 1 4 4 (rd3 _ _ _ _) (rd3 _ _ _ _) (rd2 _ _ _ _)) (rows_cons rfl (row48 _ _ _) (chunk_val' 1 4 3 (rd3 _ _ _ _) (rd3 _ _ _ _) (rd2 _ _ _ _)) (rows_cons rfl (row49 _ _ _) (chunk_val' 1 4 2 (rd3 _ _ _ _) (rd3 _ _ _ _) (rd2 _ _ _ _)) (rows_cons rfl (row50 _ _ _) (chunk_val' 1 4 1 (rd3 _ _ _ _) (rd3 _ _ _ _) (rd2 _ _ _ _)) (rows_cons rfl (row51 _ _ _) (chunk_val' 1 4 0 (rd3 _ _ _ _) (rd3 _ _ _ _) (rd2 _ _ _ _)) (rows_zero _ _)))))
    · exact sums_cons rfl (chunk_val 1 4 4 (rd3 _ _ _ _) (rd3 _ _ _ _) (rd2 _ _ _ _)) (sums_cons rfl (chunk_val 1 4 3 (rd3 _ _ _ _) (rd3 _ _ _ _) (rd2 _ _ _ _)) (sums_cons rfl (chunk_val 1 4 2 (rd3 _ _ _ _) (rd3 _ _ _ _) (rd2 _ _ _ _)) (sums_cons rfl (chunk_val 1 4 1 (rd3 _ _ _ _) (rd3 _ _ _ _) (rd2 _ _ _ _)) (sums_one rfl (chunk_val 1 4 0 (rd3 _ _ _ _) (rd3 _ _ _ _) (rd2 _ _ _ _))))))
  · refine piece_of 1 3 rfl rfl (unit_of (sum4 _ _ _ _ _ _ _ _ _ _ _) (prod4 rfl (vt_read _ vt_canon) (rows_read (n := 4) (m := 1024) _ ?_ rfl)) ?_)
    · exact rows_cons rfl (row14 _ _ _) (chunk_val' 1 3 3 (rd3 _ _ _ _) (rd3 _ _ _ _) (rd2 _ _ _ _)) (rows_cons rfl (row15 _ _ _) (chunk_val' 1 3 2 (rd3 _ _ _ _) (rd3 _ _ _ _) (rd2 _ _ _ _)) (rows_cons rfl (row16 _ _ _) (chunk_val' 1 3 1 (rd3 _ _ _ _) (rd3 _ _ _ _) (rd2 _ _ _ _)) (rows_cons rfl (row17 _ _ _) (chunk_val' 1 3 0 (rd3 _ _ _ _) (rd3 _ _ _ _) (rd2 _ _ _ _)) (rows_zero _ _))))
    · exact sums_cons rfl (chunk_val 1 3 3 (rd3 _ _ _ _) (rd3 _ _ _ _) (rd2 _ _ _ _)) (sums_cons rfl (chunk_val 1 3 2 (rd3 _ _ _ _) (rd3 _ _ _ _) (rd2 _ _ _ _)) (sums_cons rfl (chunk_val 1 3 1 (rd3 _ _ _ _) (rd3 _ _ _ _) (rd2 _ _ _ _)) (sums_one rfl (chunk_val 1 3 0 (rd3 _ _ _ _) (rd3 _ _ _ _) (rd2 _ _ _ _)))))
  · refine piece_of 1 2 rfl rfl (unit_of (sum5 _ _ _ _ _ _ _ _ _) (prod3 rfl (vt_read _ vt_canon) (rows_read (n := 3) (m := 768) _ ?_ rfl)) ?_)
    · exact rows_cons rfl (row52 _ _ _) (chunk_val' 1 2 2 (rd3 _ _ _ _) (rd3 _ _ _ _) (rd2 _ _ _ _)) (rows_cons rfl (row53 _ _ _) (chunk_val' 1 2 1 (rd3 _ _ _ _) (rd3 _ _ _ _) (rd2 _ _ _ _)) (rows_cons rfl (row54 _ _ _) (chunk_val' 1 2 0 (rd3 _ _ _ _) (rd3 _ _ _ _) (rd2 _ _ _ _)) (rows_zero _ _)))
    · exact sums_cons rfl (chunk_val 1 2 2 (rd3 _ _ _ _) (rd3 _ _ _ _) (rd2 _ _ _ _)) (sums_cons rfl (chunk_val 1 2 1 (rd3 _ _ _ _) (rd3 _ _ _ _) (rd2 _ _ _ _)) (sums_one rfl (chunk_val 1 2 0 (rd3 _ _ _ _) (rd3 _ _ _ _) (rd2 _ _ _ _))))
  · refine piece_of 1 1 rfl rfl (unit_of (sum6 _ _ _ _ _ _ _) (prod2 rfl (vt_read _ vt_canon) (rows_read (n := 2) (m := 512) _ ?_ rfl)) ?_)
    · exact rows_cons rfl (row18 _ _ _) (chunk_val' 1 1 1 (rd3 _ _ _ _) (rd3 _ _ _ _) (rd2 _ _ _ _)) (rows_cons rfl (row19 _ _ _) (chunk_val' 1 1 0 (rd3 _ _ _ _) (rd3 _ _ _ _) (rd2 _ _ _ _)) (rows_zero _ _))
    · exact sums_cons rfl (chunk_val 1 1 1 (rd3 _ _ _ _) (rd3 _ _ _ _) (rd2 _ _ _ _)) (sums_one rfl (chunk_val 1 1 0 (rd3 _ _ _ _) (rd3 _ _ _ _) (rd2 _ _ _ _)))
  · refine piece_of 1 0 rfl rfl (unit_of (sum7 _ _ _ _ _) (prod1 rfl (vt_read _ vt_canon) (rows_read (n := 1) (m := 256) _ ?_ rfl)) ?_)
    · exact rows_cons rfl (row55 _ _ _) (chunk_val' 1 0 0 (rd3 _ _ _ _) (rd3 _ _ _ _) (rd2 _ _ _ _)) (rows_zero _ _)
    · exact sums_one rfl (chunk_val 1 0 0 (rd3 _ _ _ _) (rd3 _ _ _ _) (rd2 _ _ _ _))
  · refine piece_of 0 7 rfl rfl (unit_of (sum8 _ _ _ _ _ _ _ _ _ _ _ _ _ _ _ _ _ _ _) (prod8 rfl (vt_read _ vt_canon) (rows_read (n := 8) (m := 2048) _ ?_ rfl)) ?_)
    · exact rows_cons rfl (row20 _ _ _) (chunk_val' 0 7 7 (rd3 _ _ _ _) (rd3 _ _ _ _) (rd2 _ _ _ _)) (rows_cons rfl (row21 _ _ _) (chunk_val' 0 7 6 (rd3 _ _ _ _) (rd3 _ _ _ _) (rd2 _ _ _ _)) (rows_cons rfl (row22 _ _ _) (chunk_val' 0 7 5 (rd3 _ _ _ _) (rd3 _ _ _ _) (rd2 _ _ _ _)) (rows_cons rfl (row23 _ _ _) (chunk_val' 0 7 4 (rd3 _ _ _ _) (rd3 _ _ _ _) (rd2 _ _ _ _)) (rows_cons rfl (row24 _ _ _) (chunk_val' 0 7 3 (rd3 _ _ _ _) (rd3 _ _ _ _) (rd2 _ _ _ _)) (rows_cons rfl (row25 _ _ _) (chunk_val' 0 7 2 (rd3 _ _ _ _) (rd3 _ _ _ _) (rd2 _ _ _ _)) (rows_cons rfl (row26 _ _ _) (chunk_val' 0 7 1 (rd3 _ _ _ _) (rd3 _ _ _ _) (rd2 _ _ _ _)) (rows_cons rfl (row27 _ _ _) (chunk_val' 0 7 0 (rd3 _ _ _ _) (rd3 _ _ _ _) (rd2 _ _ _ _)) (rows_zero _ _))))))))
    · exact sums_cons rfl (chunk_val 0 7 7 (rd3 _ _ _ _) (rd3 _ _ _ _) (rd2 _ _ _ _)) (sums_cons rfl (chunk_val 0 7 6 (rd3 _ _ _ _) (rd3 _ _ _ _) (rd2 _ _ _ _)) (sums_cons rfl (chunk_val 0 7 5 (rd3 _ _ _ _) (rd3 _ _ _ _) (rd2 _ _ _ _)) (sums_cons rfl (chunk_val 0 7 4 (rd3 _ _ _ _) (rd3 _ _ _ _) (rd2 _ _ _ _)) (sums_cons rfl (chunk_val 0 7 3 (rd3 _ _ _ _) (rd3 _ _ _ _) (rd2 _ _ _ _)) (sums_cons rfl (chunk_val 0 7 2 (rd3 _ _ _ _) (rd3 _ _ _ _) (rd2 _ _ _ _)) (sums_cons rfl (chunk_val 0 7 1 (rd3 _ _ _ _) (rd3 _ _ _ _) (rd2 _ _ _ _)) (sums_one rfl (chunk_val 0 7 0 (rd3 _ _ _ _) (rd3 _ _ _ _) (rd2 _ _ _ _)))))))))
  · refine piece_of 0 6 rfl rfl (unit_of (sum9 _ _ _ _ _ _ _ _ _ _ _ _ _ _ _ _ _) (prod7 rfl (vt_read _ vt_canon) (rows_read (n := 7) (m := 1792) _ ?_ rfl)) ?_)
    · exact rows_cons rfl (row56 _ _ _) (chunk_val' 0 6 6 (rd3 _ _ _ _) (rd3 _ _ _ _) (rd2 _ _ _ _)) (rows_cons rfl (row57 _ _ _) (chunk_val' 0 6 5 (rd3 _ _ _ _) (rd3 _ _ _ _) (rd2 _ _ _ _)) (rows_cons rfl (row58 _ _ _) (chunk_val' 0 6 4 (rd3 _ _ _ _) (rd3 _ _ _ _) (rd2 _ _ _ _)) (rows_cons rfl (row59 _ _ _) (chunk_val' 0 6 3 (rd3 _ _ _ _) (rd3 _ _ _ _) (rd2 _ _ _ _)) (rows_cons rfl (row60 _ _ _) (chunk_val' 0 6 2 (rd3 _ _ _ _) (rd3 _ _ _ _) (rd2 _ _ _ _)) (rows_cons rfl (row61 _ _ _) (chunk_val' 0 6 1 (rd3 _ _ _ _) (rd3 _ _ _ _) (rd2 _ _ _ _)) (rows_cons rfl (row62 _ _ _) (chunk_val' 0 6 0 (rd3 _ _ _ _) (rd3 _ _ _ _) (rd2 _ _ _ _)) (rows_zero _ _)))))))
    · exact sums_cons rfl (chunk_val 0 6 6 (rd3 _ _ _ _) (rd3 _ _ _ _) (rd2 _ _ _ _)) (sums_cons rfl (chunk_val 0 6 5 (rd3 _ _ _ _) (rd3 _ _ _ _) (rd2 _ _ _ _)) (sums_cons rfl (chunk_val 0 6 4 (rd3 _ _ _ _) (rd3 _ _ _ _) (rd2 _ _ _ _)) (sums_cons rfl (chunk_val 0 6 3 (rd3 _ _ _ _) (rd3 _ _ _ _) (rd2 _ _ _ _)) (sums_cons rfl (chunk_val 0 6 2 (rd3 _ _ _ _) (rd3 _ _ _ _) (rd2 _ _ _ _)) (sums_cons rfl (chunk_val 0 6 1 (rd3 _ _ _ _) (rd3 _ _ _ _) (rd2 _ _ _ _)) (sums_one rfl (chunk_val 0 6 0 (rd3 _ _ _ _) (rd3 _ _ _ _) (rd2 _ _ _ _))))))))
  · refine piece_of 0 5 rfl rfl (unit_of (sum10 _ _ _ _ _ _ _ _ _ _ _ _ _ _ _) (prod6 rfl (vt_read _ vt_canon) (rows_read (n := 6) (m := 1536) _ ?_ rfl)) ?_)
    · exact rows_cons rfl (row28 _ _ _) (chunk_val' 0 5 5 (rd3 _ _ _ _) (rd3 _ _ _ _) (rd2 _ _ _ _)) (rows_cons rfl (row29 _ _ _) (chunk_val' 0 5 4 (rd3 _ _ _ _) (rd3 _ _ _ _) (rd2 _ _ _ _)) (rows_cons rfl (row30 _ _ _) (chunk_val' 0 5 3 (rd3 _ _ _ _) (rd3 _ _ _ _) (rd2 _ _ _ _)) (rows_cons rfl (row31 _ _ _) (chunk_val' 0 5 2 (rd3 _ _ _ _) (rd3 _ _ _ _) (rd2 _ _ _ _)) (rows_cons rfl (row32 _ _ _) (chunk_val' 0 5 1 (rd3 _ _ _ _) (rd3 _ _ _ _) (rd2 _ _ _ _)) (rows_cons rfl (row33 _ _ _) (chunk_val' 0 5 0 (rd3 _ _ _ _) (rd3 _ _ _ _) (rd2 _ _ _ _)) (rows_zero _ _))))))
    · exact sums_cons rfl (chunk_val 0 5 5 (rd3 _ _ _ _) (rd3 _ _ _ _) (rd2 _ _ _ _)) (sums_cons rfl (chunk_val 0 5 4 (rd3 _ _ _ _) (rd3 _ _ _ _) (rd2 _ _ _ _)) (sums_cons rfl (chunk_val 0 5 3 (rd3 _ _ _ _) (rd3 _ _ _ _) (rd2 _ _ _ _)) (sums_cons rfl (chunk_val 0 5 2 (rd3 _ _ _ _) (rd3 _ _ _ _) (rd2 _ _ _ _)) (sums_cons rfl (chunk_val 0 5 1 (rd3 _ _ _ _) (rd3 _ _ _ _) (rd2 _ _ _ _)) (sums_one rfl (chunk_val 0 5 0 (rd3 _ _ _ _) (rd3 _ _ _ _) (rd2 _ _ _ _)))))))
  · refine piece_of 0 4 rfl rfl (unit_of (sum11 _ _ _ _ _ _ _ _ _ _ _ _ _) (prod5 rfl (vt_read _ vt_canon) (rows_read (n := 5) (m := 1280) _ ?_ rfl)) ?_)
    · exact rows_cons rfl (row63 _ _ _) (chunk_val' 0 4 4 (rd3 _ _ _ _) (rd3 _ _ _ _) (rd2 _ _ _ _)) (rows_cons rfl (row64 _ _ _) (chunk_val' 0 4 3 (rd3 _ _ _ _) (rd3 _ _ _ _) (rd2 _ _ _ _)) (rows_cons rfl (row65 _ _ _) (chunk_val' 0 4 2 (rd3 _ _ _ _) (rd3 _ _ _ _) (rd2 _ _ _ _)) (rows_cons rfl (row66 _ _ _) (chunk_val' 0 4 1 (rd3 _ _ _ _) (rd3 _ _ _ _) (rd2 _ _ _ _)) (rows_cons rfl (row67 _ _ _) (chunk_val' 0 4 0 (rd3 _ _ _ _) (rd3 _ _ _ _) (rd2 _ _ _ _)) (rows_zero _ _)))))
    · exact sums_cons rfl (chunk_val 0 4 4 (rd3 _ _ _ _) (rd3 _ _ _ _) (rd2 _ _ _ _)) (sums_cons rfl (chunk_val 0 4 3 (rd3 _ _ _ _) (rd3 _ _ _ _) (rd2 _ _ _ _)) (sums_cons rfl (chunk_val 0 4 2 (rd3 _ _ _ _) (rd3 _ _ _ _) (rd2 _ _ _ _)) (sums_cons rfl (chunk_val 0 4 1 (rd3 _ _ _ _) (rd3 _ _ _ _) (rd2 _ _ _ _)) (sums_one rfl (chunk_val 0 4 0 (rd3 _ _ _ _) (rd3 _ _ _ _) (rd2 _ _ _ _))))))
  · refine piece_of 0 3 rfl rfl (unit_of (sum12 _ _ _ _ _ _ _ _ _ _ _) (prod4 rfl (vt_read _ vt_canon) (rows_read (n := 4) (m := 1024) _ ?_ rfl)) ?_)
    · exact rows_cons rfl (row34 _ _ _) (chunk_val' 0 3 3 (rd3 _ _ _ _) (rd3 _ _ _ _) (rd2 _ _ _ _)) (rows_cons rfl (row35 _ _ _) (chunk_val' 0 3 2 (rd3 _ _ _ _) (rd3 _ _ _ _) (rd2 _ _ _ _)) (rows_cons rfl (row36 _ _ _) (chunk_val' 0 3 1 (rd3 _ _ _ _) (rd3 _ _ _ _) (rd2 _ _ _ _)) (rows_cons rfl (row37 _ _ _) (chunk_val' 0 3 0 (rd3 _ _ _ _) (rd3 _ _ _ _) (rd2 _ _ _ _)) (rows_zero _ _))))
    · exact sums_cons rfl (chunk_val 0 3 3 (rd3 _ _ _ _) (rd3 _ _ _ _) (rd2 _ _ _ _)) (sums_cons rfl (chunk_val 0 3 2 (rd3 _ _ _ _) (rd3 _ _ _ _) (rd2 _ _ _ _)) (sums_cons rfl (chunk_val 0 3 1 (rd3 _ _ _ _) (rd3 _ _ _ _) (rd2 _ _ _ _)) (sums_one rfl (chunk_val 0 3 0 (rd3 _ _ _ _) (rd3 _ _ _ _) (rd2 _ _ _ _)))))
  · refine piece_of 0 2 rfl rfl (unit_of (sum13 _ _ _ _ _ _ _ _ _) (prod3 rfl (vt_read _ vt_canon) (rows_read (n := 3) (m := 768) _ ?_ rfl)) ?_)
    · exact rows_cons rfl (row68 _ _ _) (chunk_val' 0 2 2 (rd3 _ _ _ _) (rd3 _ _ _ _) (rd2 _ _ _ _)) (rows_cons rfl (row69 _ _ _) (chunk_val' 0 2 1 (rd3 _ _ _ _) (rd3 _ _ _ _) (rd2 _ _ _ _)) (rows_cons rfl (row70 _ _ _) (chunk_val' 0 2 0 (rd3 _ _ _ _) (rd3 _ _ _ _) (rd2 _ _ _ _)) (rows_zero _ _)))
    · exact sums_cons rfl (chunk_val 0 2 2 (rd3 _ _ _ _) (rd3 _ _ _ _) (rd2 _ _ _ _)) (sums_cons rfl (chunk_val 0 2 1 (rd3 _ _ _ _) (rd3 _ _ _ _) (rd2 _ _ _ _)) (sums_one rfl (chunk_val 0 2 0 (rd3 _ _ _ _) (rd3 _ _ _ _) (rd2 _ _ _ _))))
  · refine piece_of 0 1 rfl rfl (unit_of (sum14 _ _ _ _ _ _ _) (prod2 rfl (vt_read _ vt_canon) (rows_read (n := 2) (m := 512) _ ?_ rfl)) ?_)
    · exact rows_cons rfl (row38 _ _ _) (chunk_val' 0 1 1 (rd3 _ _ _ _) (rd3 _ _ _ _) (rd2 _ _ _ _)) (rows_cons rfl (row39 _ _ _) (chunk_val' 0 1 0 (rd3 _ _ _ _) (rd3 _ _ _ _) (rd2 _ _ _ _)) (rows_zero _ _))
    · exact sums_cons rfl (chunk_val 0 1 1 (rd3 _ _ _ _) (rd3 _ _ _ _) (rd2 _ _ _ _)) (sums_one rfl (chunk_val 0 1 0 (rd3 _ _ _ _) (rd3 _ _ _ _) (rd2 _ _ _ _)))
  · refine piece_of 0 0 rfl rfl (unit_of (sum15 _ _ _ _ _) (prod1 rfl (vt_read _ vt_canon) (rows_read (n := 1) (m := 256) _ ?_ rfl)) ?_)
    · exact rows_cons rfl (row71 _ _ _) (chunk_val' 0 0 0 (rd3 _ _ _ _) (rd3 _ _ _ _) (rd2 _ _ _ _)) (rows_zero _ _)
    · exact sums_one rfl (chunk_val 0 0 0 (rd3 _ _ _ _) (rd3 _ _ _ _) (rd2 _ _ _ _))

end Cert.Attn
end
-- ==== Proof.Out.lean ====
module
public import proofs.«01_k».proof.Proof.Block
public import Idealize.ShloMosaic.Lib.Pipeline.ValueKit.Tiles
/-! What a grid point of the dilated attention reads, and what it leaves in its output. -/

@[expose] public section
set_option maxRecDepth 16384
noncomputable section
namespace Cert.Attn
open Idealize.ShloMosaic Idealize.ShloMosaic.TcCoe Idealize.ShloMosaic.Tactic Cert.KernelIdeal Cert.KernelIdeal.Gen

variable (m : (ℓ : Loc nD τ sig) → Buf (Elt Ideal) ℓ)

/-- What the body leaves in the output's staging buffer, element by element. -/
theorem outsAt_val (c : Dev nD) (t : Fin cfg0.N) (y : S1x2048x256.Idx) :
    outsAt0 m c t y = Spec (iblk m c 0 t) (iblk m c 1 t) (iblk m c 2 t) (iblk m c 3 t) y := by
  unfold outsAt0 out0_A_4
  rw [View.read_writes_eq_canon _ _ _ (cover0_A_4 c _ _ _ _ _ _ _ _ _ _ _ _ _ _ _ _ _ _ _ _ _)]
  refine View.canon_eq_of_allAt _ y _ (cover0_A_4 c _ _ _ _ _ _ _ _ _ _ _ _ _ _ _ _ _ _ _ _ _ y) fun p hp x hx => ?_
  subst hx
  exact pieces_val c _ _ _ _ _ _ _ _ _ _ _ _ _ _ _ _ _ _ _ _ _ p hp x

/-- The grid point of batch `b` and pair of pairs `p`. -/
def pt (b : Fin 32) (p : Fin 2) : Fin cfg0.N := ⟨2 * b.val + p.val, by rw [show cfg0.N = 64 from N_0]; omega⟩

/-- Which block of the queries each grid point takes. -/
theorem idx0 : ∀ t : Fin grid0.N, win0_0.index t = ![t.val / 2, 0, t.val % 2] := by decide +kernel
/-- Which block of the keys each grid point takes. -/
theorem idx1 : ∀ t : Fin grid0.N, win0_1.index t = ![t.val / 2, 0, t.val % 2] := by decide +kernel
/-- Which block of the values each grid point takes. -/
theorem idx2 : ∀ t : Fin grid0.N, win0_2.index t = ![t.val / 2, 0, t.val % 2] := by decide +kernel
/-- Which block of the bias table each grid point takes. -/
theorem idx3 : ∀ t : Fin grid0.N, win0_3.index t = ![0, 0] := by decide +kernel
/-- Which block of the output each grid point takes. -/
theorem idx4 : ∀ t : Fin grid0.N, win0_4.index t = ![t.val / 2, 0, t.val % 2] := by decide +kernel

/-- What a grid point reads of the queries. -/
theorem iblk0 (c : Dev nD) (b : Fin 32) (p : Fin 2) (r : Fin 2048) (l : Fin 256) :
    (iblk m c 0 (pt b p) : Vec Ideal S1x2048x256 .bf16) (ix3 0 r l) = V m c main_v70 (ix3 b r ⟨256 * p.val + l.val, by omega⟩) := by
  unfold iblk
  rw [View.read_apply]
  show V m c main_v70 _ = V m c main_v70 _
  congr 1
  funext a
  apply Fin.ext
  have hb : (2 * b.val + p.val) / 2 = b.val := by omega
  have hp : (2 * b.val + p.val) % 2 = p.val := by omega
  match a with
  | ⟨0, _⟩ => show win0_0.index (pt b p) 0 * 1 + 1 * 0 = b.val; rw [idx0]; show (2 * b.val + p.val) / 2 * 1 + 1 * 0 = _; omega
  | ⟨1, _⟩ => show win0_0.index (pt b p) 1 * 2048 + 1 * r.val = r.val; rw [idx0]; show 0 * 2048 + 1 * r.val = _; omega
  | ⟨2, _⟩ => show win0_0.index (pt b p) 2 * 256 + 1 * l.val = 256 * p.val + l.val; rw [idx0]; show (2 * b.val + p.val) % 2 * 256 + 1 * l.val = _; omega

/-- What a grid point reads of the keys. -/
theorem iblk1 (c : Dev nD) (b : Fin 32) (p : Fin 2) (r : Fin 2048) (l : Fin 256) :
    (iblk m c 1 (pt b p) : Vec Ideal S1x2048x256 .bf16) (ix3 0 r l) = V m c main_v71 (ix3 b r ⟨256 * p.val + l.val, by omega⟩) := by
  unfold iblk
  rw [View.read_apply]
  show V m c main_v71 _ = V m c main_v71 _
  congr 1
  funext a
  apply Fin.ext
  match a with
  | ⟨0, _⟩ => show win0_1.index (pt b p) 0 * 1 + 1 * 0 = b.val; rw [idx1]; show (2 * b.val + p.val) / 2 * 1 + 1 * 0 = _; omega
  | ⟨1, _⟩ => show win0_1.index (pt b p) 1 * 2048 + 1 * r.val = r.val; rw [idx1]; show 0 * 2048 + 1 * r.val = _; omega
  | ⟨2, _⟩ => show win0_1.index (pt b p) 2 * 256 + 1 * l.val = 256 * p.val + l.val; rw [idx1]; show (2 * b.val + p.val) % 2 * 256 + 1 * l.val = _; omega

/-- What a grid point reads of the values. -/
theorem iblk2 (c : Dev nD) (b : Fin 32) (p : Fin 2) (r : Fin 2048) (l : Fin 256) :
    (iblk m c 2 (pt b p) : Vec Ideal S1x2048x256 .bf16) (ix3 0 r l) = V m c main_v72 (ix3 b r ⟨256 * p.val + l.val, by omega⟩) := by
  unfold iblk
  rw [View.read_apply]
  show V m c main_v72 _ = V m c main_v72 _
  congr 1
  funext a
  apply Fin.ext
  match a with
  | ⟨0, _⟩ => show win0_2.index (pt b p) 0 * 1 + 1 * 0 = b.val; rw [idx2]; show (2 * b.val + p.val) / 2 * 1 + 1 * 0 = _; omega
  | ⟨1, _⟩ => show win0_2.index (pt b p) 1 * 2048 + 1 * r.val = r.val; rw [idx2]; show 0 * 2048 + 1 * r.val = _; omega
  | ⟨2, _⟩ => show win0_2.index (pt b p) 2 * 256 + 1 * l.val = 256 * p.val + l.val; rw [idx2]; show (2 * b.val + p.val) % 2 * 256 + 1 * l.val = _; omega

/-- What a grid point reads of the bias table. -/
theorem iblk3 (c : Dev nD) (t : Fin cfg0.N) (r : Fin 2048) (l : Fin 256) :
    (iblk m c 3 t : Vec Ideal S2048x256 .f32) (ix2 r l) = V m c main_v75 (ix2 r l) := by
  unfold iblk
  rw [View.read_apply]
  show V m c main_v75 _ = V m c main_v75 _
  congr 1
  funext a
  apply Fin.ext
  match a with
  | ⟨0, _⟩ => show win0_3.index t 0 * 2048 + 1 * r.val = r.val; rw [idx3]; show 0 * 2048 + 1 * r.val = _; omega
  | ⟨1, _⟩ => show win0_3.index t 1 * 256 + 1 * l.val = l.val; rw [idx3]; show 0 * 256 + 1 * l.val = _; omega

/-- The kernel's result array at a batch, a position and a lane. -/
theorem arr_val (c : Dev nD) (b : Fin 32) (t : Fin 2048) (l : Fin 512) :
    (dats m 0 c).arrAt 4 cfg0.N (ix3 b t l) = Spec (iblk m c 0 (pt b ⟨l.val / 256, by omega⟩)) (iblk m c 1 (pt b ⟨l.val / 256, by omega⟩))
      (iblk m c 2 (pt b ⟨l.val / 256, by omega⟩)) (iblk m c 3 (pt b ⟨l.val / 256, by omega⟩)) (ix3 0 t ⟨l.val % 256, Nat.mod_lt _ (by norm_num)⟩) := by
  rw [← outsAt_val]
  have h := congrFun (Cert.KernelIdeal.Value.blocks4 m c (pt b ⟨l.val / 256, by omega⟩) (flush0_4 _)) (ix3 0 t ⟨l.val % 256, Nat.mod_lt _ (by norm_num)⟩)
  rw [Cert.KernelIdeal.Value.flushed4] at h
  rw [View.read_apply] at h
  refine Eq.trans ?_ h
  show (dats m 0 c).arrAt 4 cfg0.N _ = (dats m 0 c).arrAt 4 cfg0.N _
  congr 1
  funext a
  apply Fin.ext
  match a with
  | ⟨0, _⟩ => show b.val = win0_4.index (pt b ⟨l.val / 256, by omega⟩) 0 * 1 + 1 * 0; rw [idx4]; show _ = (2 * b.val + l.val / 256) / 2 * 1 + 1 * 0; omega
  | ⟨1, _⟩ => show t.val = win0_4.index (pt b ⟨l.val / 256, by omega⟩) 1 * 2048 + 1 * t.val; rw [idx4]; show _ = 0 * 2048 + 1 * t.val; omega
  | ⟨2, _⟩ => show l.val = win0_4.index (pt b ⟨l.val / 256, by omega⟩) 2 * 256 + 1 * (l.val % 256); rw [idx4]; show _ = (2 * b.val + l.val / 256) % 2 * 256 + 1 * (l.val % 256); omega
end Cert.Attn
end
-- ==== Proof.Host.lean ====
module
public import proofs.«01_k».proof.Proof.Gen.KernelIdeal.Value
public import Idealize.ShloMosaic.Lib.Pointwise
public import Idealize.ShloMosaic.Lib.IdealHost
/-! The arrays that the dilated attention's call is given, as the host prepares them. -/

@[expose] public section
set_option maxRecDepth 16384
noncomputable section
namespace Cert.Attn
open Idealize.ShloMosaic Idealize.ShloMosaic.TcCoe Idealize.ShloMosaic.Tactic Cert.KernelIdeal Cert.KernelIdeal.Gen

variable (m : (ℓ : Loc nD τ sig) → Buf (Elt Ideal) ℓ)

/-- The distance from query to key that the bias table's row `jp` and column `r` stand for, as the host computes it. -/
def dlt (jp r : ℕ) : BitVec 32 := IntOp.addi (IntOp.subi (BitVec.ofNat 32 r) (BitVec.ofNat 32 jp)) 1792#32

/-- Whether one branch attends at a distance, as the host computes it. -/
def indB (d w k : BitVec 32) : BitVec 32 :=
  BitVec.setWidth 32 (IntOp.andi (IntOp.andi (IntOp.cmpi CmpIPredicate.sge d 0#32) (IntOp.cmpi CmpIPredicate.sle d w))
    (IntOp.cmpi CmpIPredicate.eq (IntOp.andi d k) 0#32))

/-- How many branches attend at a distance, as the host computes it. -/
def multB (d : BitVec 32) : BitVec 32 :=
  IntOp.addi (IntOp.addi (IntOp.addi 0#32 (indB d 128#32 0#32)) (indB d 512#32 3#32)) (indB d 2048#32 15#32)

/-- The factor that turns a logit into an exponent of two. -/
def scal : EReal := Ideal.div (Ideal.ofBits FTy.f32 1040187392#32) (Ideal.log (Ideal.ofBits FTy.f32 1073741824#32))

/-- The logarithm to base two of a multiplicity, minus infinity where it is zero. -/
def logB (b : BitVec 32) : EReal :=
  Scalar.select (IntOp.cmpi CmpIPredicate.sgt b 0#32)
    (Ideal.div (Ideal.log (FloatOps.sitofp (F := Ideal) FTy.f32 (IntOp.maxsi b 1#32))) (Ideal.log (Ideal.ofBits FTy.f32 1073741824#32)))
    (Ideal.ofBits FTy.f32 4286578688#32)

/-- The largest magnitude of a vector of gains. -/
def amax (g : Vec Ideal ⟨1, ![64]⟩ .f32) : EReal :=
  Finset.fold max (Ideal.ofBits FTy.f32 4286578688#32) (fun k => FloatOps.absf (F := Ideal) (φ := .f32) (g (ix1 k))) Finset.univ

/-- The constant every logit is shifted by. -/
def shift (g h : Vec Ideal ⟨1, ![64]⟩ .f32) : EReal :=
  Ideal.ofBits FTy.f32 1115684864#32 * scal * Ideal.ofBits FTy.f32 1065520988#32 * amax g * amax h
    + Ideal.div (Ideal.log (Ideal.ofBits FTy.f32 1077936128#32)) (Ideal.log (Ideal.ofBits FTy.f32 1073741824#32))

set_option maxHeartbeats 2000000 in
/-- The kernel's queries are the layer's, scaled. -/
theorem V_q (c : Dev nD) (b : Fin 32) (t : Fin 2048) (l : Fin 512) :
    V m c main_v70 (ix3 b t l) = @HMul.hMul EReal EReal EReal _ (m (c, Proc.tc.devRef main_arg0) (ix3 b t l)) scal := by
  unfold_abbrev_sides
  simp only [List.flatten_cons, List.flatten_nil, List.append_nil, List.cons_append, List.nil_append]
  after_results
  pointwise []
  rfl

set_option maxHeartbeats 2000000 in
/-- The kernel's keys are the layer's. -/
theorem V_k (c : Dev nD) (b : Fin 32) (t : Fin 2048) (l : Fin 512) :
    V m c main_v71 (ix3 b t l) = (m (c, Proc.tc.devRef main_arg1) (ix3 b t l) : EReal) := by
  unfold_abbrev_sides
  simp only [List.flatten_cons, List.flatten_nil, List.append_nil, List.cons_append, List.nil_append]
  after_results
  pointwise []

set_option maxHeartbeats 2000000 in
/-- The kernel's values are the layer's. -/
theorem V_v (c : Dev nD) (b : Fin 32) (t : Fin 2048) (l : Fin 512) :
    V m c main_v72 (ix3 b t l) = (m (c, Proc.tc.devRef main_arg2) (ix3 b t l) : EReal) := by
  unfold_abbrev_sides
  simp only [List.flatten_cons, List.flatten_nil, List.append_nil, List.cons_append, List.nil_append]
  after_results
  pointwise []

set_option maxHeartbeats 4000000 in
/-- The kernel's bias table, element by element. -/
theorem V_bias (c : Dev nD) (jp : Fin 2048) (r : Fin 256) :
    V m c main_v75 (ix2 jp r) = (logB (multB (dlt jp.val r.val))
      - shift (m (c, Proc.tc.devRef main_arg3)) (m (c, Proc.tc.devRef main_arg4)) : EReal) := by
  unfold_abbrev_sides
  simp only [List.flatten_cons, List.flatten_nil, List.append_nil, List.cons_append, List.nil_append]
  after_results
  simp only [StableHlo.TRef.ofBuf_toBuf, StableHlo.TRef.ofBuf, StableHlo.TRef.toBuf, cast_eq]
  pointwise []
  rfl

end Cert.Attn
end
-- ==== Proof.Pure.lean ====
module
public import Idealize.ShloMosaic.PureOps.Ideal.Laws
public import Mathlib.Analysis.SpecialFunctions.Pow.Real
/-! The mathematics of the dilated attention: three softmaxes merged by their log-sums are one softmax with multiplicities. -/

@[expose] public section
noncomputable section
namespace Cert.Attn
open Idealize.ShloMosaic

/-- Whether the branch of this window and dilation attends key `s` from query `t`: one or zero. -/
def ind (w d t s : ℕ) : ℕ := if s ≤ t ∧ t - s ≤ w ∧ (t - s) % d = 0 then 1 else 0

/-- How many of the three branches attend key `s` from query `t`. -/
def mul (t s : ℕ) : ℕ := ind 128 1 t s + ind 512 4 t s + ind 2048 16 t s

/-- The softmax denominator all branches share. -/
def Den (t : ℕ) (x : ℕ → ℝ) : ℝ := ∑ s ∈ Finset.range 2048, (mul t s : ℝ) * Real.exp (x s)

/-- The attention's output: the values averaged by the weights of all branches together. -/
def Att (t : ℕ) (x : ℕ → ℝ) (V : ℕ → EReal) : EReal :=
  ∑ s ∈ Finset.range 2048, V s * (((mul t s : ℝ) * Real.exp (x s) / Den t x : ℝ) : EReal)

/-- A sum of reals, read as an extended real, is the sum of the terms so read. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves into a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- All three branches attend a token's own key. -/
theorem mul_self (t : ℕ) : mul t t = 3 := by simp [mul, ind]

/-- The softmax's denominator is positive. -/
theorem den_pos (t : ℕ) (ht : t < 2048) (x : ℕ → ℝ) : 0 < Den t x := by
  refine Finset.sum_pos' (fun s _ => by positivity) ⟨t, Finset.mem_range.2 ht, ?_⟩
  rw [mul_self]; positivity

/-- No branch attends a later key. -/
theorem mul_future (t s : ℕ) (h : t < s) : mul t s = 0 := by
  have : ¬ s ≤ t := by omega
  simp [mul, ind, this]

/-- The kernel's quotient of sums over the blocks up to the query's is the attention's output. -/
theorem kern_row (t : ℕ) (ht : t < 2048) (x : ℕ → ℝ) (V W : ℕ → EReal) (κ : ℝ) (hκ : 0 < κ)
    (hW : ∀ s, s < 2048 → W s = ((κ * ((mul t s : ℝ) * Real.exp (x s)) : ℝ) : EReal)) :
    Ideal.div (∑ s ∈ Finset.range (256 * (t / 256 + 1)), V s * W s) (∑ s ∈ Finset.range (256 * (t / 256 + 1)), W s) = Att t x V := by
  have hle : 256 * (t / 256 + 1) ≤ 2048 := by omega
  have hz : ∀ s, s < 2048 → s ∉ Finset.range (256 * (t / 256 + 1)) → W s = 0 := by
    intro s hs hn
    rw [Finset.mem_range] at hn
    rw [hW s hs, mul_future t s (by omega)]; simp
  have hsub : Finset.range (256 * (t / 256 + 1)) ⊆ Finset.range 2048 := Finset.range_subset_range.2 hle
  rw [Finset.sum_subset hsub (fun s hs hn => by rw [hz s (Finset.mem_range.1 hs) hn, mul_zero]),
    Finset.sum_subset hsub (fun s hs hn => hz s (Finset.mem_range.1 hs) hn)]
  have hD : (∑ s ∈ Finset.range 2048, W s) = ((κ * Den t x : ℝ) : EReal) := by
    unfold Den
    rw [Finset.mul_sum, coe_sum]
    exact Finset.sum_congr rfl fun s hs => hW s (Finset.mem_range.1 hs)
  have hp := den_pos t ht x
  rw [hD, Ideal.div_coe (by positivity), mul_comm, coe_mul_sum _ _ (by positivity)]
  refine Finset.sum_congr rfl fun s hs => ?_
  rw [hW s (Finset.mem_range.1 hs), mul_left_comm, ← EReal.coe_mul]
  congr 2
  field_simp

/-- A maximum of entries that are nowhere infinite and somewhere real is real. -/
theorem fold_real {ι : Type} [Fintype ι] (f : ι → EReal) (htop : ∀ i, f i ≠ ⊤) (j : ι) (hj : f j ≠ ⊥) :
    ∃ M : ℝ, Finset.fold max ⊥ f Finset.univ = (M : EReal) := by
  have h1 : Finset.fold max ⊥ f Finset.univ ≠ ⊤ := by
    refine ne_of_lt ((Finset.fold_max_lt _).2 ⟨bot_lt_top, fun i _ => lt_top_iff_ne_top.2 (htop i)⟩)
  have h2 : Finset.fold max ⊥ f Finset.univ ≠ ⊥ := by
    refine ne_of_gt (lt_of_lt_of_le (bot_lt_iff_ne_bot.2 hj) ?_)
    exact (Finset.le_fold_max _).2 (Or.inr ⟨j, Finset.mem_univ j, le_rfl⟩)
  exact ⟨_, (EReal.coe_toReal h1 h2).symm⟩

/-- The log of the sum of exponentials of a row, as the reference computes it. -/
def lse (sc : Fin 256 → EReal) : EReal :=
  Ideal.log (∑ j, Ideal.exp (sc j - Finset.fold max ⊥ sc Finset.univ)) + Finset.fold max ⊥ sc Finset.univ

variable (act : Fin 256 → Prop) [DecidablePred act] (xr : Fin 256 → ℝ) (sc : Fin 256 → EReal)

/-- A row's weight before normalisation. -/
def gb (j : Fin 256) : ℝ := if act j then Real.exp (xr j) else 0

/-- The exponential of a masked score less a real shift. -/
theorem exp_row (hsc : ∀ j, sc j = if act j then ((xr j : ℝ) : EReal) else ⊥) (M : ℝ) (j : Fin 256) :
    Ideal.exp (sc j - (M : EReal)) = ((gb act xr j * Real.exp (-M) : ℝ) : EReal) := by
  rw [hsc, gb]
  by_cases h : act j
  · rw [if_pos h, if_pos h, ← EReal.coe_sub, Ideal.exp_coe, ← Real.exp_add, sub_eq_add_neg]
  · rw [if_neg h, if_neg h]; simp

/-- The weights' sum is positive where one key is attended. -/
theorem gb_sum_pos (j : Fin 256) (hj : act j) : 0 < ∑ j, gb act xr j :=
  Finset.sum_pos' (fun i _ => by unfold gb; split_ifs <;> positivity) ⟨j, Finset.mem_univ _, by rw [gb, if_pos hj]; positivity⟩

/-- The log-sum of a row's masked scores. -/
theorem lse_row (hsc : ∀ j, sc j = if act j then ((xr j : ℝ) : EReal) else ⊥) (j : Fin 256) (hj : act j) :
    lse sc = ((Real.log (∑ j, gb act xr j) : ℝ) : EReal) := by
  obtain ⟨M, hM⟩ := fold_real sc (fun i => by rw [hsc]; split_ifs <;> simp) j (by rw [hsc, if_pos hj]; simp)
  have hp := gb_sum_pos act xr j hj
  unfold lse
  rw [hM, Finset.sum_congr rfl fun j _ => exp_row act xr sc hsc M j, ← coe_sum, ← Finset.sum_mul, Ideal.log_coe,
    if_neg (by push Not; positivity), Real.log_mul hp.ne' (Real.exp_pos _).ne', Real.log_exp, ← EReal.coe_add]
  congr 1; ring

/-- A probability of a branch: its weight over the weights' sum. -/
theorem prob_row (hsc : ∀ j, sc j = if act j then ((xr j : ℝ) : EReal) else ⊥) (j : Fin 256) (hj : act j) (i : Fin 256) :
    Ideal.exp (sc i - lse sc) = ((gb act xr i / (∑ j, gb act xr j) : ℝ) : EReal) := by
  rw [lse_row act xr sc hsc j hj, exp_row act xr sc hsc, Real.exp_neg, Real.exp_log (gb_sum_pos act xr j hj), div_eq_mul_inv]

/-- The weight of a branch: a softmax of logarithms is a quotient of their arguments. -/
theorem soft (L : Fin 3 → EReal) (D : Fin 3 → ℝ) (hD : ∀ i, 0 < D i) (hL : ∀ i, L i = ((Real.log (D i) : ℝ) : EReal)) (i : Fin 3) :
    Ideal.div (Ideal.exp (L i - max ⊥ (Finset.fold max ⊥ L Finset.univ)))
      (∑ k, Ideal.exp (L k - max ⊥ (Finset.fold max ⊥ L Finset.univ))) = ((D i / (∑ k, D k) : ℝ) : EReal) := by
  obtain ⟨M, hM⟩ := fold_real L (fun i => by rw [hL]; simp) 0 (by rw [hL]; simp)
  have h : ∀ k, Ideal.exp (L k - (M : EReal)) = ((D k * Real.exp (-M) : ℝ) : EReal) := fun k => by
    rw [hL, ← EReal.coe_sub, Ideal.exp_coe, sub_eq_add_neg, Real.exp_add, Real.exp_log (hD k)]
  have hp : 0 < ∑ k, D k := Finset.sum_pos (fun k _ => hD k) Finset.univ_nonempty
  rw [hM, max_eq_right bot_le, h, Finset.sum_congr rfl fun k _ => h k, ← coe_sum, ← Finset.sum_mul,
    Ideal.div_coe (by positivity), ← EReal.coe_mul]
  congr 1
  field_simp

/-- Branch of dilation `d`: entry `j` of the window of query `t` is attended. -/
def live (d t : ℕ) (j : Fin 256) : Prop := t / d % 128 ≤ j.val ∧ j.val ≤ t / d % 128 + 128 ∧ 128 ≤ 128 * (t / d / 128) + j.val
instance (d t : ℕ) : DecidablePred (live d t) := fun j => by unfold live; infer_instance

/-- The key entry `j` of the window of query `t` stands for. -/
def keyOf (d t : ℕ) (j : Fin 256) : ℕ := (128 * (t / d / 128) + j.val - 128) * d + t % d

/-- A sum over a window's attended entries is a sum over the attended keys. -/
theorem window_sum {M : Type} [AddCommMonoid M] (F : ℕ → M) (d t : ℕ) (ht : t < 2048) (hd : d = 1 ∨ d = 4 ∨ d = 16) :
    (∑ j : Fin 256, if live d t j then F (keyOf d t j) else 0)
      = ∑ s ∈ Finset.range 2048, if ind (128 * d) d t s = 1 then F s else 0 := by
  rw [← Finset.sum_filter, ← Finset.sum_filter]
  refine Finset.sum_bij (fun j _ => keyOf d t j) ?_ ?_ ?_ (fun _ _ => rfl)
  · intro j hj
    rw [Finset.mem_filter] at hj ⊢
    have h := hj.2
    unfold live at h
    have hj' := j.isLt
    rw [Finset.mem_range]
    unfold keyOf ind
    rcases hd with rfl | rfl | rfl
    · rw [if_pos (by omega)]; omega
    · rw [if_pos (by omega)]; omega
    · rw [if_pos (by omega)]; omega
  · intro j hj k hk h
    rw [Finset.mem_filter] at hj hk
    have h1 := hj.2
    have h2 := hk.2
    unfold live at h1 h2
    unfold keyOf at h
    apply Fin.ext
    rcases hd with rfl | rfl | rfl <;> omega
  · intro s hs
    rw [Finset.mem_filter, Finset.mem_range] at hs
    obtain ⟨hs, h⟩ := hs
    unfold ind at h
    split_ifs at h with hc
    refine ⟨⟨s / d + 128 - 128 * (t / d / 128), by rcases hd with rfl | rfl | rfl <;> omega⟩, ?_, ?_⟩
    · rw [Finset.mem_filter]
      refine ⟨Finset.mem_univ _, ?_⟩
      unfold live
      dsimp only
      rcases hd with rfl | rfl | rfl <;> omega
    · unfold keyOf
      dsimp only
      rcases hd with rfl | rfl | rfl <;> omega

/-- The dilation of each branch. -/
def dil : Fin 3 → ℕ := ![1, 4, 16]

/-- The three dilations. -/
theorem dil_mem (br : Fin 3) : dil br = 1 ∨ dil br = 4 ∨ dil br = 16 := by fin_cases br <;> simp [dil]

/-- A token's own key is in its window. -/
theorem live_self (d t : ℕ) (ht : t < 2048) : live d t ⟨t / d % 128 + 128, by omega⟩ := by unfold live; dsimp only; omega

/-- The branches' indicators of a key, added. -/
theorem sum_ind {M : Type} [AddCommMonoid M] (t s : ℕ) (a : M) :
    (∑ br : Fin 3, if ind (128 * dil br) (dil br) t s = 1 then a else 0) = mul t s • a := by
  have h : ∀ w d, (if ind w d t s = 1 then a else 0) = ind w d t s • a := fun w d => by
    unfold ind; split_ifs <;> simp_all
  simp only [h]
  rw [Fin.sum_univ_three, ← add_nsmul, ← add_nsmul]
  rfl

/-- A multiple of a value with a nonnegative weight is the value with the multiple of the weight. -/
theorem nsmul_val (v : EReal) (r : ℝ) (hr : 0 ≤ r) (n : ℕ) : n • (v * (r : EReal)) = v * ((n * r : ℝ) : EReal) := by
  induction n with
  | zero => simp
  | succ n ih =>
    rw [succ_nsmul, ih, Nat.cast_succ, add_mul, one_mul, EReal.coe_add,
      EReal.left_distrib_of_nonneg (by exact_mod_cast (by positivity : 0 ≤ (n : ℝ) * r)) (by exact_mod_cast hr)]

/-- The reference's combination of the three branches is the attention's output. -/
theorem ref_row (t : ℕ) (ht : t < 2048) (x : ℕ → ℝ) (V : ℕ → EReal) (sc vv : Fin 3 → Fin 256 → EReal)
    (hsc : ∀ br j, sc br j = if live (dil br) t j then ((x (keyOf (dil br) t j) : ℝ) : EReal) else ⊥)
    (hv : ∀ br j, live (dil br) t j → vv br j = V (keyOf (dil br) t j)) :
    (∑ br, Ideal.div (Ideal.exp (lse (sc br) - max ⊥ (Finset.fold max ⊥ (fun k => lse (sc k)) Finset.univ)))
        (∑ k, Ideal.exp (lse (sc k) - max ⊥ (Finset.fold max ⊥ (fun k => lse (sc k)) Finset.univ)))
      * ∑ j, vv br j * Ideal.exp (sc br j - lse (sc br))) = Att t x V := by
  set D : Fin 3 → ℝ := fun br => ∑ j, gb (live (dil br) t) (fun j => x (keyOf (dil br) t j)) j with hDdef
  have hD : ∀ br, 0 < D br := fun br => gb_sum_pos _ _ _ (live_self (dil br) t ht)
  have hL : ∀ br, lse (sc br) = ((Real.log (D br) : ℝ) : EReal) := fun br =>
    lse_row (live (dil br) t) (fun j => x (keyOf (dil br) t j)) (sc br) (hsc br) _ (live_self (dil br) t ht)
  have hP : ∀ br j, Ideal.exp (sc br j - lse (sc br)) = _ := fun br j =>
    prob_row (live (dil br) t) (fun j => x (keyOf (dil br) t j)) (sc br) (hsc br) _ (live_self (dil br) t ht) j
  have hT : (∑ k, D k) = Den t x := by
    simp only [hDdef, gb]
    rw [Finset.sum_congr rfl fun br _ => window_sum (fun s => Real.exp (x s)) (dil br) t ht (dil_mem br), Finset.sum_comm]
    refine Finset.sum_congr rfl fun s _ => ?_
    rw [sum_ind, nsmul_eq_mul]
  have hDen := den_pos t ht x
  rw [Finset.sum_congr rfl fun br _ => congrArg (· * _) (soft (fun k => lse (sc k)) D hD hL br)]
  rw [hT]
  have hrow : ∀ br, ((D br / Den t x : ℝ) : EReal) * ∑ j, vv br j * Ideal.exp (sc br j - lse (sc br))
      = ∑ s ∈ Finset.range 2048, if ind (128 * dil br) (dil br) t s = 1 then V s * ((Real.exp (x s) / Den t x : ℝ) : EReal) else 0 := by
    intro br
    rw [← window_sum (fun s => V s * ((Real.exp (x s) / Den t x : ℝ) : EReal)) (dil br) t ht (dil_mem br),
      coe_mul_sum _ _ (div_nonneg (hD br).le hDen.le)]
    refine Finset.sum_congr rfl fun j _ => ?_
    rw [hP, mul_left_comm, ← EReal.coe_mul]
    by_cases h : live (dil br) t j
    · rw [if_pos h, hv br j h]
      have hne := (hD br).ne'
      congr 2
      show D br / Den t x * (gb _ _ j / D br) = _
      rw [gb, if_pos h]
      field_simp
    · rw [if_neg h, gb, if_neg h]; simp
  rw [Finset.sum_congr rfl fun br _ => hrow br, Finset.sum_comm]
  refine Finset.sum_congr rfl fun s _ => ?_
  rw [sum_ind, nsmul_val _ _ (by positivity), mul_div_assoc]

end Cert.Attn
end
-- ==== Proof.Bias.lean ====
module
public import proofs.«01_k».proof.Proof.Host
public import proofs.«01_k».proof.Proof.Pure
/-! The bias table: how many of the dilated attention's branches attend a key, as the host counts it and as a number. -/

@[expose] public section
set_option maxRecDepth 16384
noncomputable section
namespace Cert.Attn
open Idealize.ShloMosaic

/-- The multiplicity by distance plus 255. -/
def mulD (k : ℕ) : ℕ := if k < 255 then 0 else mul (k - 255) 0

/-- The host's count of the branches that attend a key, for every distance, is `mulD`. -/
theorem multB_table : ∀ k : Fin 2303, multB (BitVec.ofNat 32 k.val - 255#32) = BitVec.ofNat 32 (mulD k.val) := by decide +kernel

/-- The count depends on the distance alone. -/
theorem mul_shift (t s : ℕ) (h : s ≤ t) : mul t s = mul (t - s) 0 := by
  simp [mul, ind, h]

/-- At most three branches attend a key. -/
theorem mul_le (t s : ℕ) : mul t s ≤ 3 := by
  unfold mul ind; split_ifs <;> omega

/-- The distance as the host computes it, at a place of the table. -/
theorem dlt_eq (jp r : ℕ) (hj : jp < 2048) (hr : r < 256) : dlt jp r = BitVec.ofNat 32 (r + 2047 - jp) - 255#32 := by
  unfold dlt IntOp.addi IntOp.subi
  apply BitVec.eq_of_toNat_eq
  simp only [BitVec.toNat_add, BitVec.toNat_sub, BitVec.toNat_ofNat]
  omega

/-- The table's multiplicity at query `t` and key `s`. -/
theorem multB_val (t s : ℕ) (ht : t < 2048) (hs : s < 256 * (t / 256 + 1)) :
    multB (dlt (256 * (7 - t / 256) + s) (t % 256)) = BitVec.ofNat 32 (mul t s) := by
  rw [dlt_eq _ _ (by omega) (by omega), show t % 256 + 2047 - (256 * (7 - t / 256) + s) = t + 255 - s by omega,
    multB_table ⟨t + 255 - s, by omega⟩]
  congr 1
  unfold mulD
  dsimp only
  by_cases h : s ≤ t
  · rw [if_neg (by omega), mul_shift t s h]; congr 1; omega
  · rw [if_pos (by omega), mul_future t s (by omega)]

/-- The constant 2. -/
theorem two_val : Ideal.ofBits FTy.f32 1073741824#32 = ((2 : ℝ) : EReal) := by
  simp [Ideal.ofBits, Ideal.ieee, -EReal.coe_mul]; norm_num
/-- The constant 3. -/
theorem three_val : Ideal.ofBits FTy.f32 1077936128#32 = ((3 : ℝ) : EReal) := by
  simp [Ideal.ofBits, Ideal.ieee, -EReal.coe_mul]; norm_num
/-- The constant 1/8. -/
theorem eighth_val : Ideal.ofBits FTy.f32 1040187392#32 = ((1 / 8 : ℝ) : EReal) := by
  simp [Ideal.ofBits, Ideal.ieee, -EReal.coe_mul]; norm_num
/-- The constant −∞. -/
theorem ninf_val : Ideal.ofBits FTy.f32 4286578688#32 = ⊥ := by
  simp [Ideal.ofBits, Ideal.ieee, -EReal.coe_mul]
/-- The constant ∞. -/
theorem pinf_val : Ideal.ofBits FTy.f32 2139095040#32 = ⊤ := by
  simp [Ideal.ofBits, Ideal.ieee, -EReal.coe_mul]
/-- The constant 0. -/
theorem zero_val : Ideal.ofBits FTy.f32 0#32 = 0 := by
  simp [Ideal.ofBits, Ideal.ieee, -EReal.coe_mul]
/-- The constant 64 is real. -/
theorem c64_real : ∃ r : ℝ, Ideal.ofBits FTy.f32 1115684864#32 = (r : EReal) := by
  simp [Ideal.ofBits, Ideal.ieee, -EReal.coe_mul]
/-- The bound's slack is real. -/
theorem slack_real : ∃ r : ℝ, Ideal.ofBits FTy.f32 1065520988#32 = (r : EReal) := by
  simp [Ideal.ofBits, Ideal.ieee, -EReal.coe_mul]

/-- The logarithm of 2 is positive. -/
theorem log2_pos : 0 < Real.log 2 := Real.log_pos (by norm_num)

/-- The logarithm of a positive real is the real one. -/
theorem log_of_pos {r : ℝ} (h : 0 < r) : Ideal.log (r : EReal) = ((Real.log r : ℝ) : EReal) := by
  rw [Ideal.log_coe, if_neg (by push Not; exact h)]

/-- The scale of the queries. -/
theorem scal_val : scal = ((1 / 8 / Real.log 2 : ℝ) : EReal) := by
  unfold scal
  rw [two_val, eighth_val, log_of_pos (by norm_num), Ideal.div_coe log2_pos.ne', ← EReal.coe_mul]
  congr 1; field_simp

/-- The bias of a key that `n` branches attend: log2 of `n`, and −∞ for none. -/
theorem logB_val (n : ℕ) (hn : n ≤ 3) : logB (BitVec.ofNat 32 n) = if n = 0 then ⊥ else ((Real.log n / Real.log 2 : ℝ) : EReal) := by
  unfold logB
  rw [two_val, ninf_val, log_of_pos (by norm_num : (0 : ℝ) < 2)]
  have key : ∀ k : BitVec 32, ∀ z : ℕ, 0 < z → k.toInt = z →
      Ideal.div (Ideal.log (FloatOps.sitofp (F := Ideal) FTy.f32 k)) ((Real.log 2 : ℝ) : EReal) = ((Real.log z / Real.log 2 : ℝ) : EReal) := by
    intro k z hz h
    show Ideal.div (Ideal.log ((k.toInt : ℝ) : EReal)) _ = _
    rw [h, Int.cast_natCast, log_of_pos (by exact_mod_cast hz), Ideal.div_coe log2_pos.ne', ← EReal.coe_mul]
    congr 1; field_simp
  interval_cases n
  · rfl
  · exact key _ 1 (by norm_num) rfl
  · exact key _ 2 (by norm_num) rfl
  · exact key _ 3 (by norm_num) rfl

/-- The largest magnitude of real gains is real. -/
theorem amax_real (g : Vec Ideal ⟨1, ![64]⟩ .f32) (h : ∀ k, ∃ r : ℝ, g (ix1 k) = (r : EReal)) : ∃ r : ℝ, amax g = (r : EReal) := by
  unfold amax
  rw [ninf_val]
  have e : ∀ k, ∃ r : ℝ, FloatOps.absf (F := Ideal) (φ := .f32) (g (ix1 k)) = (r : EReal) := fun k => by
    obtain ⟨r, hr⟩ := h k
    refine ⟨max r (-r), ?_⟩
    show max (g (ix1 k)) (-(g (ix1 k))) = _
    rw [hr, ← EReal.coe_neg]
    exact (EReal.coe_strictMono.monotone.map_max).symm
  obtain ⟨r, hr⟩ := e 0
  exact fold_real _ (fun k => by obtain ⟨r, hr⟩ := e k; rw [hr]; exact EReal.coe_ne_top r) 0 (by rw [hr]; exact EReal.coe_ne_bot r)

/-- The shift is real where the gains are. -/
theorem shift_real (g h : Vec Ideal ⟨1, ![64]⟩ .f32) (hg : ∀ k, ∃ r : ℝ, g (ix1 k) = (r : EReal))
    (hh : ∀ k, ∃ r : ℝ, h (ix1 k) = (r : EReal)) : ∃ C : ℝ, shift g h = (C : EReal) := by
  obtain ⟨a, ha⟩ := amax_real g hg
  obtain ⟨b, hb⟩ := amax_real h hh
  obtain ⟨u, hu⟩ := c64_real
  obtain ⟨v, hv⟩ := slack_real
  unfold shift
  rw [ha, hb, hu, hv, scal_val, three_val, two_val, log_of_pos (by norm_num), log_of_pos (by norm_num), Ideal.div_coe log2_pos.ne']
  refine ⟨u * (1 / 8 / Real.log 2) * v * a * b + Real.log 3 * (1 / Real.log 2), ?_⟩
  push_cast
  rfl

/-- The kernel's weight: an exponential of two of the biased logit is the multiplicity times the exponential, up to a factor
    that depends on neither query nor key. -/
theorem weight_val (n : ℕ) (hn : n ≤ 3) (C y : ℝ) :
    Ideal.exp2 (((y / Real.log 2 : ℝ) : EReal) + (logB (BitVec.ofNat 32 n) - (C : EReal)))
      = ((Real.exp (-C * Real.log 2) * ((n : ℝ) * Real.exp y) : ℝ) : EReal) := by
  rw [logB_val n hn]
  split_ifs with h
  · subst h
    simp
  · rw [← EReal.coe_sub, ← EReal.coe_add, Ideal.exp2_coe]
    congr 1
    have hn0 : (0 : ℝ) < n := by exact_mod_cast Nat.pos_of_ne_zero h
    show (2 : ℝ) ^ (_ : ℝ) = _
    rw [Real.rpow_def_of_pos (by norm_num)]
    have hl := log2_pos.ne'
    rw [show Real.log 2 * (y / Real.log 2 + (Real.log n / Real.log 2 - C)) = -C * Real.log 2 + (Real.log n + y) by field_simp; ring,
      Real.exp_add, Real.exp_add, Real.exp_log hn0]

end Cert.Attn
end
-- ==== Proof.KVal.lean ====
module
public import proofs.«01_k».proof.Proof.Out
public import proofs.«01_k».proof.Proof.Bias
/-! The dilated attention's result array, from its arguments. -/

@[expose] public section
set_option maxRecDepth 16384
noncomputable section
namespace Cert.Attn
open Idealize.ShloMosaic Idealize.ShloMosaic.TcCoe Cert.KernelIdeal Cert.KernelIdeal.Gen

/-- The logit of query `t` and key `s` in head `h`. -/
def score (Q K : Fin 32 → Fin 2048 → Fin 512 → ℝ) (b : Fin 32) (t : Fin 2048) (h : Fin 8) (s : ℕ) : ℝ :=
  (∑ e : Fin 64, Q b t ⟨64 * h.val + e.val, by omega⟩ * K b ⟨s % 2048, Nat.mod_lt _ (by norm_num)⟩ ⟨64 * h.val + e.val, by omega⟩) / 8

/-- A lane of the values, by position. -/
def lane (v : Vec Ideal ⟨3, ![32, 2048, 512]⟩ .f32) (b : Fin 32) (l : Fin 512) (s : ℕ) : EReal :=
  v (ix3 b ⟨s % 2048, Nat.mod_lt _ (by norm_num)⟩ l)

/-- What the body computes from blocks holding the scaled queries, the keys, the values and the bias table. -/
theorem spec_val (Q K : Fin 32 → Fin 2048 → Fin 512 → ℝ) (v : Vec Ideal ⟨3, ![32, 2048, 512]⟩ .f32) (C : ℝ)
    (b : Fin 32) (t : Fin 2048) (l : Fin 512) (x0 x1 x2 : Vec Ideal S1x2048x256 .bf16) (x3 : Vec Ideal S2048x256 .f32)
    (h0 : ∀ (r : Fin 2048) (j : Fin 256), x0 (ix3 0 r j) = @HMul.hMul EReal EReal EReal _ (Q b r ⟨256 * (l.val / 256) + j.val, by omega⟩ : ℝ) scal)
    (h1 : ∀ (r : Fin 2048) (j : Fin 256), x1 (ix3 0 r j) = ((K b r ⟨256 * (l.val / 256) + j.val, by omega⟩ : ℝ) : EReal))
    (h2 : ∀ (r : Fin 2048) (j : Fin 256), x2 (ix3 0 r j) = v (ix3 b r ⟨256 * (l.val / 256) + j.val, by omega⟩))
    (h3 : ∀ (r : Fin 2048) (j : Fin 256), x3 (ix2 r j) = @HSub.hSub EReal EReal EReal _ (logB (multB (dlt r.val j.val))) (C : EReal)) :
    Spec x0 x1 x2 x3 (ix3 0 t ⟨l.val % 256, Nat.mod_lt _ (by norm_num)⟩)
      = Att t.val (score Q K b t ⟨l.val / 64, by omega⟩) (lane v b l) := by
  have ht := t.isLt
  have hl := l.isLt
  show U _ (W _ _ _ (l.val % 256 / 128) (t.val / 256)) (l.val % 256 / 128) (t.val / 256 + 1) (t.val % 256) (l.val % 256 % 128) = _
  unfold U
  refine Eq.trans ?_ (kern_row t.val t.isLt (score Q K b t ⟨l.val / 64, by omega⟩) (lane v b l)
    (fun s => ((Real.exp (-C * Real.log 2) * ((mul t.val s : ℝ) * Real.exp (score Q K b t ⟨l.val / 64, by omega⟩ s)) : ℝ) : EReal))
    (Real.exp (-C * Real.log 2)) (Real.exp_pos _) (fun s _ => rfl))
  have hW : ∀ s ∈ Finset.range (256 * (t.val / 256 + 1)),
      W x0 x1 x3 (l.val % 256 / 128) (t.val / 256) s (256 * (l.val % 256 % 128 / 64) + t.val % 256)
      = ((Real.exp (-C * Real.log 2) * ((mul t.val s : ℝ) * Real.exp (score Q K b t ⟨l.val / 64, by omega⟩ s)) : ℝ) : EReal) := by
    intro s hs
    rw [Finset.mem_range] at hs
    unfold W
    rw [← weight_val _ (mul_le t.val s), ← multB_val t.val s t.isLt hs]
    refine congrArg Ideal.exp2 ?_
    have hb : A2 x3 (256 * (7 - t.val / 256) + s) ((256 * (l.val % 256 % 128 / 64) + t.val % 256) % 256)
        = (logB (multB (dlt (256 * (7 - t.val / 256) + s) (t.val % 256))) - (C : EReal) : EReal) := by
      unfold A2
      rw [h3]
      dsimp only
      rw [show (256 * (7 - t.val / 256) + s) % 2048 = 256 * (7 - t.val / 256) + s by omega,
        show (256 * (l.val % 256 % 128 / 64) + t.val % 256) % 256 % 256 = t.val % 256 by omega]
    rw [hb]
    refine congrArg (· + _) ?_
    have hs' : score Q K b t ⟨l.val / 64, by omega⟩ s / Real.log 2
        = ∑ e : Fin 64, K b ⟨s % 2048, Nat.mod_lt _ (by norm_num)⟩ ⟨64 * (l.val / 64) + e.val, by omega⟩
          * (Q b t ⟨64 * (l.val / 64) + e.val, by omega⟩ * (1 / 8 / Real.log 2)) := by
      unfold score
      rw [Finset.sum_div, Finset.sum_div]
      refine Finset.sum_congr rfl fun e _ => ?_
      have := log2_pos.ne'
      field_simp
    rw [hs', coe_sum]
    refine Finset.sum_congr rfl fun e _ => ?_
    rw [EReal.coe_mul, EReal.coe_mul, ← scal_val]
    unfold A3
    rw [h0, h1]
    have he := e.isLt
    have e1 : ∀ p, (⟨256 * (l.val / 256) + (128 * (l.val % 256 / 128) + (64 * ((256 * (l.val % 256 % 128 / 64) + t.val % 256) / 256) + e.val)) % 256, p⟩ : Fin 512)
        = ⟨64 * (l.val / 64) + e.val, by omega⟩ := fun p => Fin.ext (by dsimp only; omega)
    have e2 : ∀ p, (⟨(256 * (t.val / 256) + (256 * (l.val % 256 % 128 / 64) + t.val % 256) % 256) % 2048, p⟩ : Fin 2048) = t :=
      fun p => Fin.ext (by dsimp only; omega)
    simp only [e1, e2]
  congr 1
  · refine Finset.sum_congr rfl fun s hs => ?_
    rw [hW s hs]
    refine congrArg (· * _) ?_
    unfold A3 lane
    rw [h2]
    have e1 : ∀ p, (⟨256 * (l.val / 256) + (128 * (l.val % 256 / 128) + l.val % 256 % 128) % 256, p⟩ : Fin 512) = l :=
      fun p => Fin.ext (by dsimp only; omega)
    simp only [e1]
  · exact Finset.sum_congr rfl hW

variable (m : (ℓ : Loc nD τ sig) → Buf (Elt Ideal) ℓ)

/-- The kernel's result is the attention's output. -/
theorem kernel_val (c : Dev nD) (Q K : Fin 32 → Fin 2048 → Fin 512 → ℝ)
    (hQ : ∀ b t l, m (c, Proc.tc.devRef main_arg0) (ix3 b t l) = (Q b t l : EReal))
    (hK : ∀ b t l, m (c, Proc.tc.devRef main_arg1) (ix3 b t l) = (K b t l : EReal))
    (hg : ∀ k, ∃ r : ℝ, (m (c, Proc.tc.devRef main_arg3) : Vec Ideal ⟨1, ![64]⟩ .f32) (ix1 k) = (r : EReal))
    (hh : ∀ k, ∃ r : ℝ, (m (c, Proc.tc.devRef main_arg4) : Vec Ideal ⟨1, ![64]⟩ .f32) (ix1 k) = (r : EReal))
    (b : Fin 32) (t : Fin 2048) (l : Fin 512) :
    (dats m 0 c).arrAt 4 cfg0.N (ix3 b t l) =
      Att t.val (score Q K b t ⟨l.val / 64, by omega⟩) (lane (m (c, Proc.tc.devRef main_arg2)) b l) := by
  obtain ⟨C, hC⟩ := shift_real _ _ hg hh
  refine (arr_val m c b t l).trans (spec_val Q K _ C b t l _ _ _ _ ?_ ?_ ?_ ?_)
  · intro r j; exact (iblk0 m c b _ r j).trans ((V_q m c b r _).trans (congrArg (· * scal) (hQ b r _)))
  · intro r j; exact (iblk1 m c b _ r j).trans ((V_k m c b r _).trans (hK b r _))
  · intro r j; exact (iblk2 m c b _ r j).trans (V_v m c b r _)
  · intro r j; exact (iblk3 m c _ r j).trans ((V_bias m c r j).trans (congrArg (_ - ·) hC))

end Cert.Attn
end
-- ==== Proof.Stages.lean ====
module

public import proofs.«01_k».proof.Proof.Gen.ReferenceIdeal.Run
public import Idealize.ShloMosaic.Lib.Pipeline.Value
public import Idealize.ShloMosaic.Lib.ValueIdx
public import Idealize.ShloMosaic.PureOps.Ideal.Laws

/-! The reference's values, one definition for each of its operations. -/

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S32x2048x512, .f32⟩ : BufTy).Contents (Elt F)) : (⟨S32x2048x8x64, .f32⟩ : BufTy).Contents (Elt F) :=
  shapeCast _ (x0) shapeCasts_S32x2048x512_S32x2048x8x64

def val_main_v1 (x1 : (⟨S32x2048x512, .f32⟩ : BufTy).Contents (Elt F)) : (⟨S32x2048x8x64, .f32⟩ : BufTy).Contents (Elt F) :=
  shapeCast _ (x1) shapeCasts_S32x2048x512_S32x2048x8x64

def val_main_v2 (x2 : (⟨S32x2048x512, .f32⟩ : BufTy).Contents (Elt F)) : (⟨S32x2048x8x64, .f32⟩ : BufTy).Contents (Elt F) :=
  shapeCast _ (x2) shapeCasts_S32x2048x512_S32x2048x8x64

def val_main_v3 (x0 : (⟨S32x2048x512, .f32⟩ : BufTy).Contents (Elt F)) : (⟨S32x16x128x1x8x64, .f32⟩ : BufTy).Contents (Elt F) :=
  shapeCast _ (val_main_v0 (F := F) x0) shapeCasts_S32x2048x8x64_S32x16x128x1x8x64

def val_main_v4 (x1 : (⟨S32x2048x512, .f32⟩ : BufTy).Contents (Elt F)) : (⟨S32x2048x1x8x64, .f32⟩ : BufTy).Contents (Elt F) :=
  shapeCast _ (val_main_v1 (F := F) x1) shapeCasts_S32x2048x8x64_S32x2048x1x8x64

def val_main_c : (⟨S_, .i32⟩ : BufTy).Contents (Elt F) :=
  constantI S_ 32 0#32

def val_main_call0_v0 : (⟨S_, .f32⟩ : BufTy).Contents (Elt F) :=
  sitofp .f32 (val_main_c (F := F))

def val_main_v5 (x1 : (⟨S32x2048x512, .f32⟩ : BufTy).Contents (Elt F)) : (⟨S32x2176x1x8x64, .f32⟩ : BufTy).Contents (Elt F) :=
  pad S32x2176x1x8x64 ![0, 128, 0, 0, 0] ![0, 0, 0, 0, 0] ![0, 0, 0, 0, 0] (val_main_v4 (F := F) x1) (val_main_call0_v0 (F := F)) pads_S32x2048x1x8x64_S32x2176x1x8x64_000_12800_000_000_000 h_S_

def val_main_v6 (x2 : (⟨S32x2048x512, .f32⟩ : BufTy).Contents (Elt F)) : (⟨S32x2048x1x8x64, .f32⟩ : BufTy).Contents (Elt F) :=
  shapeCast _ (val_main_v2 (F := F) x2) shapeCasts_S32x2048x8x64_S32x2048x1x8x64

def val_main_c_0 : (⟨S_, .i32⟩ : BufTy).Contents (Elt F) :=
  constantI S_ 32 0#32

def val_main_call1_v0 : (⟨S_, .f32⟩ : BufTy).Contents (Elt F) :=
  sitofp .f32 (val_main_c_0 (F := F))

def val_main_v7 (x2 : (⟨S32x2048x512, .f32⟩ : BufTy).Contents (Elt F)) : (⟨S32x2176x1x8x64, .f32⟩ : BufTy).Contents (Elt F) :=
  pad S32x2176x1x8x64 ![0, 128, 0, 0, 0] ![0, 0, 0, 0, 0] ![0, 0, 0, 0, 0] (val_main_v6 (F := F) x2) (val_main_call1_v0 (F := F)) pads_S32x2048x1x8x64_S32x2176x1x8x64_000_12800_000_000_000 h_S_

def val_main_v8 : (⟨S16, .i32⟩ : BufTy).Contents (Elt F) :=
  iotaInDim S16 32 0

def val_main_c_1 : (⟨S_, .i32⟩ : BufTy).Contents (Elt F) :=
  constantI S_ 32 128#32

def val_main_v9 : (⟨S16, .i32⟩ : BufTy).Contents (Elt F) :=
  broadcastInDim S16 ![] bcast_S_S16 (val_main_c_1 (F := F))

def val_main_v10 : (⟨S16, .i32⟩ : BufTy).Contents (Elt F) :=
  muli (val_main_v8 (F := F)) (val_main_v9 (F := F))

def val_main_v11 : (⟨S16x1, .i32⟩ : BufTy).Contents (Elt F) :=
  broadcastInDim S16x1 ![0] bcast_S16_S16x1_0 (val_main_v10 (F := F))

def val_main_v12 : (⟨S256, .i32⟩ : BufTy).Contents (Elt F) :=
  iotaInDim S256 32 0

def val_main_v13 : (⟨S1x256, .i32⟩ : BufTy).Contents (Elt F) :=
  broadcastInDim S1x256 ![1] bcast_S256_S1x256_1 (val_main_v12 (F := F))

def val_main_v14 : (⟨S16x256, .i32⟩ : BufTy).Contents (Elt F) :=
  broadcastInDim S16x256 ![0, 1] bcast_S16x1_S16x256_0_1 (val_main_v11 (F := F))

def val_main_v15 : (⟨S16x256, .i32⟩ : BufTy).Contents (Elt F) :=
  broadcastInDim S16x256 ![0, 1] bcast_S1x256_S16x256_0_1 (val_main_v13 (F := F))

def val_main_v16 : (⟨S16x256, .i32⟩ : BufTy).Contents (Elt F) :=
  addi (val_main_v14 (F := F)) (val_main_v15 (F := F))

def val_main_v17 : (⟨S16x256x1, .i32⟩ : BufTy).Contents (Elt F) :=
  broadcastInDim S16x256x1 ![0, 1] bcast_S16x256_S16x256x1_0_1 (val_main_v16 (F := F))

def val_main_v18 (x1 : (⟨S32x2048x512, .f32⟩ : BufTy).Contents (Elt F)) : (⟨S32x16x256x1x8x64, .f32⟩ : BufTy).Contents (Elt F) :=
  Host.gather gather_S32x2176x1x8x64_S16x256x1_S32x16x256x1x8x64_0345_1_n_n_1_2_3211864 (val_main_v5 (F := F) x1) (val_main_v17 (F := F))

def val_main_v19 : (⟨S16x256x1, .i32⟩ : BufTy).Contents (Elt F) :=
  broadcastInDim S16x256x1 ![0, 1] bcast_S16x256_S16x256x1_0_1 (val_main_v16 (F := F))

def val_main_v20 (x2 : (⟨S32x2048x512, .f32⟩ : BufTy).Contents (Elt F)) : (⟨S32x16x256x1x8x64, .f32⟩ : BufTy).Contents (Elt F) :=
  Host.gather gather_S32x2176x1x8x64_S16x256x1_S32x16x256x1x8x64_0345_1_n_n_1_2_3211864 (val_main_v7 (F := F) x2) (val_main_v19 (F := F))

def val_main_v21 (x0 x1 : (⟨S32x2048x512, .f32⟩ : BufTy).Contents (Elt F)) : (⟨S32x16x1x8x128x256, .f32⟩ : BufTy).Contents (Elt F) :=
  Host.dotGeneral dot_S32x16x128x1x8x64_S32x16x256x1x8x64_S32x16x1x8x128x256_5_5_2_2_0134_0134 none (val_main_v3 (F := F) x0) (val_main_v18 (F := F) x1)

def val_main_cst : (⟨S_, .f32⟩ : BufTy).Contents (Elt F) :=
  constant S_ .f32 0x3E000000#32

def val_main_v22 : (⟨S32x16x1x8x128x256, .f32⟩ : BufTy).Contents (Elt F) :=
  broadcastInDim S32x16x1x8x128x256 ![] bcast_S_S32x16x1x8x128x256 (val_main_cst (F := F))

def val_main_v23 (x0 x1 : (⟨S32x2048x512, .f32⟩ : BufTy).Contents (Elt F)) : (⟨S32x16x1x8x128x256, .f32⟩ : BufTy).Contents (Elt F) :=
  mulf (val_main_v21 (F := F) x0 x1) (val_main_v22 (F := F))

def val_main_v24 : (⟨S128, .i32⟩ : BufTy).Contents (Elt F) :=
  iotaInDim S128 32 0

def val_main_v25 : (⟨S128x1, .i32⟩ : BufTy).Contents (Elt F) :=
  broadcastInDim S128x1 ![0] bcast_S128_S128x1_0 (val_main_v24 (F := F))

def val_main_v26 : (⟨S256, .i32⟩ : BufTy).Contents (Elt F) :=
  iotaInDim S256 32 0

def val_main_v27 : (⟨S1x256, .i32⟩ : BufTy).Contents (Elt F) :=
  broadcastInDim S1x256 ![1] bcast_S256_S1x256_1 (val_main_v26 (F := F))

def val_main_c_2 : (⟨S_, .i32⟩ : BufTy).Contents (Elt F) :=
  constantI S_ 32 128#32

def val_main_v28 : (⟨S128x1, .i32⟩ : BufTy).Contents (Elt F) :=
  broadcastInDim S128x1 ![] bcast_S_S128x1 (val_main_c_2 (F := F))

def val_main_v29 : (⟨S128x1, .i32⟩ : BufTy).Contents (Elt F) :=
  addi (val_main_v25 (F := F)) (val_main_v28 (F := F))

def val_main_v30 : (⟨S128x256, .i32⟩ : BufTy).Contents (Elt F) :=
  broadcastInDim S128x256 ![0, 1] bcast_S128x1_S128x256_0_1 (val_main_v29 (F := F))

def val_main_v31 : (⟨S128x256, .i32⟩ : BufTy).Contents (Elt F) :=
  broadcastInDim S128x256 ![0, 1] bcast_S1x256_S128x256_0_1 (val_main_v27 (F := F))

def val_main_v32 : (⟨S128x256, .i32⟩ : BufTy).Contents (Elt F) :=
  subi (val_main_v30 (F := F)) (val_main_v31 (F := F))

def val_main_v33 : (⟨S16x1x1, .i32⟩ : BufTy).Contents (Elt F) :=
  broadcastInDim S16x1x1 ![0] bcast_S16_S16x1x1_0 (val_main_v10 (F := F))

def val_main_v34 : (⟨S1x1x256, .i32⟩ : BufTy).Contents (Elt F) :=
  broadcastInDim S1x1x256 ![1, 2] bcast_S1x256_S1x1x256_1_2 (val_main_v27 (F := F))

def val_main_v35 : (⟨S16x1x256, .i32⟩ : BufTy).Contents (Elt F) :=
  broadcastInDim S16x1x256 ![0, 1, 2] bcast_S16x1x1_S16x1x256_0_1_2 (val_main_v33 (F := F))

def val_main_v36 : (⟨S16x1x256, .i32⟩ : BufTy).Contents (Elt F) :=
  broadcastInDim S16x1x256 ![0, 1, 2] bcast_S1x1x256_S16x1x256_0_1_2 (val_main_v34 (F := F))

def val_main_v37 : (⟨S16x1x256, .i32⟩ : BufTy).Contents (Elt F) :=
  addi (val_main_v35 (F := F)) (val_main_v36 (F := F))

def val_main_c_3 : (⟨S_, .i32⟩ : BufTy).Contents (Elt F) :=
  constantI S_ 32 128#32

def val_main_v38 : (⟨S16x1x256, .i32⟩ : BufTy).Contents (Elt F) :=
  broadcastInDim S16x1x256 ![] bcast_S_S16x1x256 (val_main_c_3 (F := F))

def val_main_v39 : (⟨S16x1x256, .i32⟩ : BufTy).Contents (Elt F) :=
  subi (val_main_v37 (F := F)) (val_main_v38 (F := F))

def val_main_c_4 : (⟨S_, .i32⟩ : BufTy).Contents (Elt F) :=
  constantI S_ 32 0#32

def val_main_v40 : (⟨S128x256, .i32⟩ : BufTy).Contents (Elt F) :=
  broadcastInDim S128x256 ![] bcast_S_S128x256 (val_main_c_4 (F := F))

def val_main_v41 : (⟨S128x256, .i1⟩ : BufTy).Contents (Elt F) :=
  cmpi .sge (val_main_v32 (F := F)) (val_main_v40 (F := F))

def val_main_v42 : (⟨S1x128x256, .i1⟩ : BufTy).Contents (Elt F) :=
  broadcastInDim S1x128x256 ![1, 2] bcast_S128x256_S1x128x256_1_2 (val_main_v41 (F := F))

def val_main_c_5 : (⟨S_, .i32⟩ : BufTy).Contents (Elt F) :=
  constantI S_ 32 128#32

def val_main_v43 : (⟨S128x256, .i32⟩ : BufTy).Contents (Elt F) :=
  broadcastInDim S128x256 ![] bcast_S_S128x256 (val_main_c_5 (F := F))

def val_main_v44 : (⟨S128x256, .i1⟩ : BufTy).Contents (Elt F) :=
  cmpi .sle (val_main_v32 (F := F)) (val_main_v43 (F := F))

def val_main_v45 : (⟨S1x128x256, .i1⟩ : BufTy).Contents (Elt F) :=
  broadcastInDim S1x128x256 ![1, 2] bcast_S128x256_S1x128x256_1_2 (val_main_v44 (F := F))

def val_main_v46 : (⟨S1x128x256, .i1⟩ : BufTy).Contents (Elt F) :=
  andi (val_main_v42 (F := F)) (val_main_v45 (F := F))

def val_main_c_6 : (⟨S_, .i32⟩ : BufTy).Contents (Elt F) :=
  constantI S_ 32 0#32

def val_main_v47 : (⟨S16x1x256, .i32⟩ : BufTy).Contents (Elt F) :=
  broadcastInDim S16x1x256 ![] bcast_S_S16x1x256 (val_main_c_6 (F := F))

def val_main_v48 : (⟨S16x1x256, .i1⟩ : BufTy).Contents (Elt F) :=
  cmpi .sge (val_main_v39 (F := F)) (val_main_v47 (F := F))

def val_main_v49 : (⟨S16x128x256, .i1⟩ : BufTy).Contents (Elt F) :=
  broadcastInDim S16x128x256 ![0, 1, 2] bcast_S1x128x256_S16x128x256_0_1_2 (val_main_v46 (F := F))

def val_main_v50 : (⟨S16x128x256, .i1⟩ : BufTy).Contents (Elt F) :=
  broadcastInDim S16x128x256 ![0, 1, 2] bcast_S16x1x256_S16x128x256_0_1_2 (val_main_v48 (F := F))

def val_main_v51 : (⟨S16x128x256, .i1⟩ : BufTy).Contents (Elt F) :=
  andi (val_main_v49 (F := F)) (val_main_v50 (F := F))

def val_main_v52 : (⟨S1x16x1x1x128x256, .i1⟩ : BufTy).Contents (Elt F) :=
  broadcastInDim S1x16x1x1x128x256 ![1, 4, 5] bcast_S16x128x256_S1x16x1x1x128x256_1_4_5 (val_main_v51 (F := F))

def val_main_cst_7 : (⟨S_, .f32⟩ : BufTy).Contents (Elt F) :=
  constant S_ .f32 0xFF800000#32

def val_main_call2_v0 : (⟨S_, .f32⟩ : BufTy).Contents (Elt F) :=
  id (val_main_cst_7 (F := F))

def val_main_call2_v1 : (⟨S32x16x1x8x128x256, .i1⟩ : BufTy).Contents (Elt F) :=
  broadcastInDim S32x16x1x8x128x256 ![0, 1, 2, 3, 4, 5] bcast_S1x16x1x1x128x256_S32x16x1x8x128x256_0_1_2_3_4_5 (val_main_v52 (F := F))

def val_main_call2_v2 : (⟨S32x16x1x8x128x256, .f32⟩ : BufTy).Contents (Elt F) :=
  broadcastInDim S32x16x1x8x128x256 ![] bcast_S_S32x16x1x8x128x256 (val_main_call2_v0 (F := F))

def val_main_v53 (x0 x1 : (⟨S32x2048x512, .f32⟩ : BufTy).Contents (Elt F)) : (⟨S32x16x1x8x128x256, .f32⟩ : BufTy).Contents (Elt F) :=
  select (val_main_call2_v1 (F := F)) (val_main_v23 (F := F) x0 x1) (val_main_call2_v2 (F := F))

def val_main_cst_8 : (⟨S_, .f32⟩ : BufTy).Contents (Elt F) :=
  constant S_ .f32 0xFF800000#32

def val_main_v54 (x0 x1 : (⟨S32x2048x512, .f32⟩ : BufTy).Contents (Elt F)) : (⟨S32x16x1x8x128, .f32⟩ : BufTy).Contents (Elt F) :=
  Host.reduce FloatOps.maximumf (val_main_v53 (F := F) x0 x1) (val_main_cst_8 (F := F)) reducesTo_S32x16x1x8x128x256_S32x16x1x8x128_d5 h_S_

def val_main_v55 (x0 x1 : (⟨S32x2048x512, .f32⟩ : BufTy).Contents (Elt F)) : (⟨S32x16x1x8x128x1, .f32⟩ : BufTy).Contents (Elt F) :=
  broadcastInDim S32x16x1x8x128x1 ![0, 1, 2, 3, 4] bcast_S32x16x1x8x128_S32x16x1x8x128x1_0_1_2_3_4 (val_main_v54 (F := F) x0 x1)

def val_main_v56 (x0 x1 : (⟨S32x2048x512, .f32⟩ : BufTy).Contents (Elt F)) : (⟨S32x16x1x8x128x256, .f32⟩ : BufTy).Contents (Elt F) :=
  broadcastInDim S32x16x1x8x128x256 ![0, 1, 2, 3, 4, 5] bcast_S32x16x1x8x128x1_S32x16x1x8x128x256_0_1_2_3_4_5 (val_main_v55 (F := F) x0 x1)

def val_main_v57 (x0 x1 : (⟨S32x2048x512, .f32⟩ : BufTy).Contents (Elt F)) : (⟨S32x16x1x8x128x256, .f32⟩ : BufTy).Contents (Elt F) :=
  subf (val_main_v53 (F := F) x0 x1) (val_main_v56 (F := F) x0 x1)

def val_main_v58 (x0 x1 : (⟨S32x2048x512, .f32⟩ : BufTy).Contents (Elt F)) : (⟨S32x16x1x8x128x256, .f32⟩ : BufTy).Contents (Elt F) :=
  Host.exp (val_main_v57 (F := F) x0 x1)

def val_main_cst_9 : (⟨S_, .f32⟩ : BufTy).Contents (Elt F) :=
  constant S_ .f32 0x00000000#32

def val_main_v59 (x0 x1 : (⟨S32x2048x512, .f32⟩ : BufTy).Contents (Elt F)) : (⟨S32x16x1x8x128, .f32⟩ : BufTy).Contents (Elt F) :=
  Host.reduceAdd (val_main_v58 (F := F) x0 x1) (val_main_cst_9 (F := F)) reducesTo_S32x16x1x8x128x256_S32x16x1x8x128_d5 h_S_

def val_main_v60 (x0 x1 : (⟨S32x2048x512, .f32⟩ : BufTy).Contents (Elt F)) : (⟨S32x16x1x8x128, .f32⟩ : BufTy).Contents (Elt F) :=
  Host.log (val_main_v59 (F := F) x0 x1)

def val_main_v61 (x0 x1 : (⟨S32x2048x512, .f32⟩ : BufTy).Contents (Elt F)) : (⟨S32x16x1x8x128, .f32⟩ : BufTy).Contents (Elt F) :=
  addf (val_main_v60 (F := F) x0 x1) (val_main_v54 (F := F) x0 x1)

def val_main_v62 (x0 x1 : (⟨S32x2048x512, .f32⟩ : BufTy).Contents (Elt F)) : (⟨S32x16x1x8x128x1, .f32⟩ : BufTy).Contents (Elt F) :=
  broadcastInDim S32x16x1x8x128x1 ![0, 1, 2, 3, 4] bcast_S32x16x1x8x128_S32x16x1x8x128x1_0_1_2_3_4 (val_main_v61 (F := F) x0 x1)

def val_main_v63 (x0 x1 : (⟨S32x2048x512, .f32⟩ : BufTy).Contents (Elt F)) : (⟨S32x16x1x8x128x256, .f32⟩ : BufTy).Contents (Elt F) :=
  broadcastInDim S32x16x1x8x128x256 ![0, 1, 2, 3, 4, 5] bcast_S32x16x1x8x128x1_S32x16x1x8x128x256_0_1_2_3_4_5 (val_main_v62 (F := F) x0 x1)

def val_main_v64 (x0 x1 : (⟨S32x2048x512, .f32⟩ : BufTy).Contents (Elt F)) : (⟨S32x16x1x8x128x256, .f32⟩ : BufTy).Contents (Elt F) :=
  subf (val_main_v53 (F := F) x0 x1) (val_main_v63 (F := F) x0 x1)

def val_main_v65 (x0 x1 : (⟨S32x2048x512, .f32⟩ : BufTy).Contents (Elt F)) : (⟨S32x16x1x8x128x256, .f32⟩ : BufTy).Contents (Elt F) :=
  Host.exp (val_main_v64 (F := F) x0 x1)

def val_main_v66 (x0 x1 x2 : (⟨S32x2048x512, .f32⟩ : BufTy).Contents (Elt F)) : (⟨S32x16x1x8x64x128, .f32⟩ : BufTy).Contents (Elt F) :=
  Host.dotGeneral dot_S32x16x256x1x8x64_S32x16x1x8x128x256_S32x16x1x8x64x128_2_5_5_4_0134_0123 none (val_main_v20 (F := F) x2) (val_main_v65 (F := F) x0 x1)

def val_main_v67 (x0 x1 x2 : (⟨S32x2048x512, .f32⟩ : BufTy).Contents (Elt F)) : (⟨S32x16x128x1x8x64, .f32⟩ : BufTy).Contents (Elt F) :=
  transpose S32x16x128x1x8x64 [0, 1, 5, 2, 3, 4] (val_main_v66 (F := F) x0 x1 x2) transposes_S32x16x1x8x64x128_S32x16x128x1x8x64_0_1_5_2_3_4

def val_main_v68 (x0 x1 x2 : (⟨S32x2048x512, .f32⟩ : BufTy).Contents (Elt F)) : (⟨S32x2048x8x64, .f32⟩ : BufTy).Contents (Elt F) :=
  shapeCast _ (val_main_v67 (F := F) x0 x1 x2) shapeCasts_S32x16x128x1x8x64_S32x2048x8x64

def val_main_v69 (x0 x1 : (⟨S32x2048x512, .f32⟩ : BufTy).Contents (Elt F)) : (⟨S32x16x128x1x8, .f32⟩ : BufTy).Contents (Elt F) :=
  transpose S32x16x128x1x8 [0, 1, 4, 2, 3] (val_main_v61 (F := F) x0 x1) transposes_S32x16x1x8x128_S32x16x128x1x8_0_1_4_2_3

def val_main_v70 (x0 x1 : (⟨S32x2048x512, .f32⟩ : BufTy).Contents (Elt F)) : (⟨S32x2048x8, .f32⟩ : BufTy).Contents (Elt F) :=
  shapeCast _ (val_main_v69 (F := F) x0 x1) shapeCasts_S32x16x128x1x8_S32x2048x8

def val_main_v71 (x0 : (⟨S32x2048x512, .f32⟩ : BufTy).Contents (Elt F)) : (⟨S32x4x128x4x8x64, .f32⟩ : BufTy).Contents (Elt F) :=
  shapeCast _ (val_main_v0 (F := F) x0) shapeCasts_S32x2048x8x64_S32x4x128x4x8x64

def val_main_v72 (x1 : (⟨S32x2048x512, .f32⟩ : BufTy).Contents (Elt F)) : (⟨S32x512x4x8x64, .f32⟩ : BufTy).Contents (Elt F) :=
  shapeCast _ (val_main_v1 (F := F) x1) shapeCasts_S32x2048x8x64_S32x512x4x8x64

def val_main_c_10 : (⟨S_, .i32⟩ : BufTy).Contents (Elt F) :=
  constantI S_ 32 0#32

def val_main_call3_v0 : (⟨S_, .f32⟩ : BufTy).Contents (Elt F) :=
  sitofp .f32 (val_main_c_10 (F := F))

def val_main_v73 (x1 : (⟨S32x2048x512, .f32⟩ : BufTy).Contents (Elt F)) : (⟨S32x640x4x8x64, .f32⟩ : BufTy).Contents (Elt F) :=
  pad S32x640x4x8x64 ![0, 128, 0, 0, 0] ![0, 0, 0, 0, 0] ![0, 0, 0, 0, 0] (val_main_v72 (F := F) x1) (val_main_call3_v0 (F := F)) pads_S32x512x4x8x64_S32x640x4x8x64_000_12800_000_000_000 h_S_

def val_main_v74 (x2 : (⟨S32x2048x512, .f32⟩ : BufTy).Contents (Elt F)) : (⟨S32x512x4x8x64, .f32⟩ : BufTy).Contents (Elt F) :=
  shapeCast _ (val_main_v2 (F := F) x2) shapeCasts_S32x2048x8x64_S32x512x4x8x64

def val_main_c_11 : (⟨S_, .i32⟩ : BufTy).Contents (Elt F) :=
  constantI S_ 32 0#32

def val_main_call4_v0 : (⟨S_, .f32⟩ : BufTy).Contents (Elt F) :=
  sitofp .f32 (val_main_c_11 (F := F))

def val_main_v75 (x2 : (⟨S32x2048x512, .f32⟩ : BufTy).Contents (Elt F)) : (⟨S32x640x4x8x64, .f32⟩ : BufTy).Contents (Elt F) :=
  pad S32x640x4x8x64 ![0, 128, 0, 0, 0] ![0, 0, 0, 0, 0] ![0, 0, 0, 0, 0] (val_main_v74 (F := F) x2) (val_main_call4_v0 (F := F)) pads_S32x512x4x8x64_S32x640x4x8x64_000_12800_000_000_000 h_S_

def val_main_v76 : (⟨S4, .i32⟩ : BufTy).Contents (Elt F) :=
  iotaInDim S4 32 0

def val_main_c_12 : (⟨S_, .i32⟩ : BufTy).Contents (Elt F) :=
  constantI S_ 32 128#32

def val_main_v77 : (⟨S4, .i32⟩ : BufTy).Contents (Elt F) :=
  broadcastInDim S4 ![] bcast_S_S4 (val_main_c_12 (F := F))

def val_main_v78 : (⟨S4, .i32⟩ : BufTy).Contents (Elt F) :=
  muli (val_main_v76 (F := F)) (val_main_v77 (F := F))

def val_main_v79 : (⟨S4x1, .i32⟩ : BufTy).Contents (Elt F) :=
  broadcastInDim S4x1 ![0] bcast_S4_S4x1_0 (val_main_v78 (F := F))

def val_main_v80 : (⟨S256, .i32⟩ : BufTy).Contents (Elt F) :=
  iotaInDim S256 32 0

def val_main_v81 : (⟨S1x256, .i32⟩ : BufTy).Contents (Elt F) :=
  broadcastInDim S1x256 ![1] bcast_S256_S1x256_1 (val_main_v80 (F := F))

def val_main_v82 : (⟨S4x256, .i32⟩ : BufTy).Contents (Elt F) :=
  broadcastInDim S4x256 ![0, 1] bcast_S4x1_S4x256_0_1 (val_main_v79 (F := F))

def val_main_v83 : (⟨S4x256, .i32⟩ : BufTy).Contents (Elt F) :=
  broadcastInDim S4x256 ![0, 1] bcast_S1x256_S4x256_0_1 (val_main_v81 (F := F))

def val_main_v84 : (⟨S4x256, .i32⟩ : BufTy).Contents (Elt F) :=
  addi (val_main_v82 (F := F)) (val_main_v83 (F := F))

def val_main_v85 : (⟨S4x256x1, .i32⟩ : BufTy).Contents (Elt F) :=
  broadcastInDim S4x256x1 ![0, 1] bcast_S4x256_S4x256x1_0_1 (val_main_v84 (F := F))

def val_main_v86 (x1 : (⟨S32x2048x512, .f32⟩ : BufTy).Contents (Elt F)) : (⟨S32x4x256x4x8x64, .f32⟩ : BufTy).Contents (Elt F) :=
  Host.gather gather_S32x640x4x8x64_S4x256x1_S32x4x256x4x8x64_0345_1_n_n_1_2_3214864 (val_main_v73 (F := F) x1) (val_main_v85 (F := F))

def val_main_v87 : (⟨S4x256x1, .i32⟩ : BufTy).Contents (Elt F) :=
  broadcastInDim S4x256x1 ![0, 1] bcast_S4x256_S4x256x1_0_1 (val_main_v84 (F := F))

def val_main_v88 (x2 : (⟨S32x2048x512, .f32⟩ : BufTy).Contents (Elt F)) : (⟨S32x4x256x4x8x64, .f32⟩ : BufTy).Contents (Elt F) :=
  Host.gather gather_S32x640x4x8x64_S4x256x1_S32x4x256x4x8x64_0345_1_n_n_1_2_3214864 (val_main_v75 (F := F) x2) (val_main_v87 (F := F))

def val_main_v89 (x0 x1 : (⟨S32x2048x512, .f32⟩ : BufTy).Contents (Elt F)) : (⟨S32x4x4x8x128x256, .f32⟩ : BufTy).Contents (Elt F) :=
  Host.dotGeneral dot_S32x4x128x4x8x64_S32x4x256x4x8x64_S32x4x4x8x128x256_5_5_2_2_0134_0134 none (val_main_v71 (F := F) x0) (val_main_v86 (F := F) x1)

def val_main_cst_13 : (⟨S_, .f32⟩ : BufTy).Contents (Elt F) :=
  constant S_ .f32 0x3E000000#32

def val_main_v90 : (⟨S32x4x4x8x128x256, .f32⟩ : BufTy).Contents (Elt F) :=
  broadcastInDim S32x4x4x8x128x256 ![] bcast_S_S32x4x4x8x128x256 (val_main_cst_13 (F := F))

def val_main_v91 (x0 x1 : (⟨S32x2048x512, .f32⟩ : BufTy).Contents (Elt F)) : (⟨S32x4x4x8x128x256, .f32⟩ : BufTy).Contents (Elt F) :=
  mulf (val_main_v89 (F := F) x0 x1) (val_main_v90 (F := F))

def val_main_v92 : (⟨S128, .i32⟩ : BufTy).Contents (Elt F) :=
  iotaInDim S128 32 0

def val_main_v93 : (⟨S128x1, .i32⟩ : BufTy).Contents (Elt F) :=
  broadcastInDim S128x1 ![0] bcast_S128_S128x1_0 (val_main_v92 (F := F))

def val_main_v94 : (⟨S256, .i32⟩ : BufTy).Contents (Elt F) :=
  iotaInDim S256 32 0

def val_main_v95 : (⟨S1x256, .i32⟩ : BufTy).Contents (Elt F) :=
  broadcastInDim S1x256 ![1] bcast_S256_S1x256_1 (val_main_v94 (F := F))

def val_main_c_14 : (⟨S_, .i32⟩ : BufTy).Contents (Elt F) :=
  constantI S_ 32 128#32

def val_main_v96 : (⟨S128x1, .i32⟩ : BufTy).Contents (Elt F) :=
  broadcastInDim S128x1 ![] bcast_S_S128x1 (val_main_c_14 (F := F))

def val_main_v97 : (⟨S128x1, .i32⟩ : BufTy).Contents (Elt F) :=
  addi (val_main_v93 (F := F)) (val_main_v96 (F := F))

def val_main_v98 : (⟨S128x256, .i32⟩ : BufTy).Contents (Elt F) :=
  broadcastInDim S128x256 ![0, 1] bcast_S128x1_S128x256_0_1 (val_main_v97 (F := F))

def val_main_v99 : (⟨S128x256, .i32⟩ : BufTy).Contents (Elt F) :=
  broadcastInDim S128x256 ![0, 1] bcast_S1x256_S128x256_0_1 (val_main_v95 (F := F))

def val_main_v100 : (⟨S128x256, .i32⟩ : BufTy).Contents (Elt F) :=
  subi (val_main_v98 (F := F)) (val_main_v99 (F := F))

def val_main_v101 : (⟨S4x1x1, .i32⟩ : BufTy).Contents (Elt F) :=
  broadcastInDim S4x1x1 ![0] bcast_S4_S4x1x1_0 (val_main_v78 (F := F))

def val_main_v102 : (⟨S1x1x256, .i32⟩ : BufTy).Contents (Elt F) :=
  broadcastInDim S1x1x256 ![1, 2] bcast_S1x256_S1x1x256_1_2 (val_main_v95 (F := F))

def val_main_v103 : (⟨S4x1x256, .i32⟩ : BufTy).Contents (Elt F) :=
  broadcastInDim S4x1x256 ![0, 1, 2] bcast_S4x1x1_S4x1x256_0_1_2 (val_main_v101 (F := F))

def val_main_v104 : (⟨S4x1x256, .i32⟩ : BufTy).Contents (Elt F) :=
  broadcastInDim S4x1x256 ![0, 1, 2] bcast_S1x1x256_S4x1x256_0_1_2 (val_main_v102 (F := F))

def val_main_v105 : (⟨S4x1x256, .i32⟩ : BufTy).Contents (Elt F) :=
  addi (val_main_v103 (F := F)) (val_main_v104 (F := F))

def val_main_c_15 : (⟨S_, .i32⟩ : BufTy).Contents (Elt F) :=
  constantI S_ 32 128#32

def val_main_v106 : (⟨S4x1x256, .i32⟩ : BufTy).Contents (Elt F) :=
  broadcastInDim S4x1x256 ![] bcast_S_S4x1x256 (val_main_c_15 (F := F))

def val_main_v107 : (⟨S4x1x256, .i32⟩ : BufTy).Contents (Elt F) :=
  subi (val_main_v105 (F := F)) (val_main_v106 (F := F))

def val_main_c_16 : (⟨S_, .i32⟩ : BufTy).Contents (Elt F) :=
  constantI S_ 32 0#32

def val_main_v108 : (⟨S128x256, .i32⟩ : BufTy).Contents (Elt F) :=
  broadcastInDim S128x256 ![] bcast_S_S128x256 (val_main_c_16 (F := F))

def val_main_v109 : (⟨S128x256, .i1⟩ : BufTy).Contents (Elt F) :=
  cmpi .sge (val_main_v100 (F := F)) (val_main_v108 (F := F))

def val_main_v110 : (⟨S1x128x256, .i1⟩ : BufTy).Contents (Elt F) :=
  broadcastInDim S1x128x256 ![1, 2] bcast_S128x256_S1x128x256_1_2 (val_main_v109 (F := F))

def val_main_c_17 : (⟨S_, .i32⟩ : BufTy).Contents (Elt F) :=
  constantI S_ 32 128#32

def val_main_v111 : (⟨S128x256, .i32⟩ : BufTy).Contents (Elt F) :=
  broadcastInDim S128x256 ![] bcast_S_S128x256 (val_main_c_17 (F := F))

def val_main_v112 : (⟨S128x256, .i1⟩ : BufTy).Contents (Elt F) :=
  cmpi .sle (val_main_v100 (F := F)) (val_main_v111 (F := F))

def val_main_v113 : (⟨S1x128x256, .i1⟩ : BufTy).Contents (Elt F) :=
  broadcastInDim S1x128x256 ![1, 2] bcast_S128x256_S1x128x256_1_2 (val_main_v112 (F := F))

def val_main_v114 : (⟨S1x128x256, .i1⟩ : BufTy).Contents (Elt F) :=
  andi (val_main_v110 (F := F)) (val_main_v113 (F := F))

def val_main_c_18 : (⟨S_, .i32⟩ : BufTy).Contents (Elt F) :=
  constantI S_ 32 0#32

def val_main_v115 : (⟨S4x1x256, .i32⟩ : BufTy).Contents (Elt F) :=
  broadcastInDim S4x1x256 ![] bcast_S_S4x1x256 (val_main_c_18 (F := F))

def val_main_v116 : (⟨S4x1x256, .i1⟩ : BufTy).Contents (Elt F) :=
  cmpi .sge (val_main_v107 (F := F)) (val_main_v115 (F := F))

def val_main_v117 : (⟨S4x128x256, .i1⟩ : BufTy).Contents (Elt F) :=
  broadcastInDim S4x128x256 ![0, 1, 2] bcast_S1x128x256_S4x128x256_0_1_2 (val_main_v114 (F := F))

def val_main_v118 : (⟨S4x128x256, .i1⟩ : BufTy).Contents (Elt F) :=
  broadcastInDim S4x128x256 ![0, 1, 2] bcast_S4x1x256_S4x128x256_0_1_2 (val_main_v116 (F := F))

def val_main_v119 : (⟨S4x128x256, .i1⟩ : BufTy).Contents (Elt F) :=
  andi (val_main_v117 (F := F)) (val_main_v118 (F := F))

def val_main_v120 : (⟨S1x4x1x1x128x256, .i1⟩ : BufTy).Contents (Elt F) :=
  broadcastInDim S1x4x1x1x128x256 ![1, 4, 5] bcast_S4x128x256_S1x4x1x1x128x256_1_4_5 (val_main_v119 (F := F))

def val_main_cst_19 : (⟨S_, .f32⟩ : BufTy).Contents (Elt F) :=
  constant S_ .f32 0xFF800000#32

def val_main_call5_v0 : (⟨S_, .f32⟩ : BufTy).Contents (Elt F) :=
  id (val_main_cst_19 (F := F))

def val_main_call5_v1 : (⟨S32x4x4x8x128x256, .i1⟩ : BufTy).Contents (Elt F) :=
  broadcastInDim S32x4x4x8x128x256 ![0, 1, 2, 3, 4, 5] bcast_S1x4x1x1x128x256_S32x4x4x8x128x256_0_1_2_3_4_5 (val_main_v120 (F := F))

def val_main_call5_v2 : (⟨S32x4x4x8x128x256, .f32⟩ : BufTy).Contents (Elt F) :=
  broadcastInDim S32x4x4x8x128x256 ![] bcast_S_S32x4x4x8x128x256 (val_main_call5_v0 (F := F))

def val_main_v121 (x0 x1 : (⟨S32x2048x512, .f32⟩ : BufTy).Contents (Elt F)) : (⟨S32x4x4x8x128x256, .f32⟩ : BufTy).Contents (Elt F) :=
  select (val_main_call5_v1 (F := F)) (val_main_v91 (F := F) x0 x1) (val_main_call5_v2 (F := F))

def val_main_cst_20 : (⟨S_, .f32⟩ : BufTy).Contents (Elt F) :=
  constant S_ .f32 0xFF800000#32

def val_main_v122 (x0 x1 : (⟨S32x2048x512, .f32⟩ : BufTy).Contents (Elt F)) : (⟨S32x4x4x8x128, .f32⟩ : BufTy).Contents (Elt F) :=
  Host.reduce FloatOps.maximumf (val_main_v121 (F := F) x0 x1) (val_main_cst_20 (F := F)) reducesTo_S32x4x4x8x128x256_S32x4x4x8x128_d5 h_S_

def val_main_v123 (x0 x1 : (⟨S32x2048x512, .f32⟩ : BufTy).Contents (Elt F)) : (⟨S32x4x4x8x128x1, .f32⟩ : BufTy).Contents (Elt F) :=
  broadcastInDim S32x4x4x8x128x1 ![0, 1, 2, 3, 4] bcast_S32x4x4x8x128_S32x4x4x8x128x1_0_1_2_3_4 (val_main_v122 (F := F) x0 x1)

def val_main_v124 (x0 x1 : (⟨S32x2048x512, .f32⟩ : BufTy).Contents (Elt F)) : (⟨S32x4x4x8x128x256, .f32⟩ : BufTy).Contents (Elt F) :=
  broadcastInDim S32x4x4x8x128x256 ![0, 1, 2, 3, 4, 5] bcast_S32x4x4x8x128x1_S32x4x4x8x128x256_0_1_2_3_4_5 (val_main_v123 (F := F) x0 x1)

def val_main_v125 (x0 x1 : (⟨S32x2048x512, .f32⟩ : BufTy).Contents (Elt F)) : (⟨S32x4x4x8x128x256, .f32⟩ : BufTy).Contents (Elt F) :=
  subf (val_main_v121 (F := F) x0 x1) (val_main_v124 (F := F) x0 x1)

def val_main_v126 (x0 x1 : (⟨S32x2048x512, .f32⟩ : BufTy).Contents (Elt F)) : (⟨S32x4x4x8x128x256, .f32⟩ : BufTy).Contents (Elt F) :=
  Host.exp (val_main_v125 (F := F) x0 x1)

def val_main_cst_21 : (⟨S_, .f32⟩ : BufTy).Contents (Elt F) :=
  constant S_ .f32 0x00000000#32

def val_main_v127 (x0 x1 : (⟨S32x2048x512, .f32⟩ : BufTy).Contents (Elt F)) : (⟨S32x4x4x8x128, .f32⟩ : BufTy).Contents (Elt F) :=
  Host.reduceAdd (val_main_v126 (F := F) x0 x1) (val_main_cst_21 (F := F)) reducesTo_S32x4x4x8x128x256_S32x4x4x8x128_d5 h_S_

def val_main_v128 (x0 x1 : (⟨S32x2048x512, .f32⟩ : BufTy).Contents (Elt F)) : (⟨S32x4x4x8x128, .f32⟩ : BufTy).Contents (Elt F) :=
  Host.log (val_main_v127 (F := F) x0 x1)

def val_main_v129 (x0 x1 : (⟨S32x2048x512, .f32⟩ : BufTy).Contents (Elt F)) : (⟨S32x4x4x8x128, .f32⟩ : BufTy).Contents (Elt F) :=
  addf (val_main_v128 (F := F) x0 x1) (val_main_v122 (F := F) x0 x1)

def val_main_v130 (x0 x1 : (⟨S32x2048x512, .f32⟩ : BufTy).Contents (Elt F)) : (⟨S32x4x4x8x128x1, .f32⟩ : BufTy).Contents (Elt F) :=
  broadcastInDim S32x4x4x8x128x1 ![0, 1, 2, 3, 4] bcast_S32x4x4x8x128_S32x4x4x8x128x1_0_1_2_3_4 (val_main_v129 (F := F) x0 x1)

def val_main_v131 (x0 x1 : (⟨S32x2048x512, .f32⟩ : BufTy).Contents (Elt F)) : (⟨S32x4x4x8x128x256, .f32⟩ : BufTy).Contents (Elt F) :=
  broadcastInDim S32x4x4x8x128x256 ![0, 1, 2, 3, 4, 5] bcast_S32x4x4x8x128x1_S32x4x4x8x128x256_0_1_2_3_4_5 (val_main_v130 (F := F) x0 x1)

def val_main_v132 (x0 x1 : (⟨S32x2048x512, .f32⟩ : BufTy).Contents (Elt F)) : (⟨S32x4x4x8x128x256, .f32⟩ : BufTy).Contents (Elt F) :=
  subf (val_main_v121 (F := F) x0 x1) (val_main_v131 (F := F) x0 x1)

def val_main_v133 (x0 x1 : (⟨S32x2048x512, .f32⟩ : BufTy).Contents (Elt F)) : (⟨S32x4x4x8x128x256, .f32⟩ : BufTy).Contents (Elt F) :=
  Host.exp (val_main_v132 (F := F) x0 x1)

def val_main_v134 (x0 x1 x2 : (⟨S32x2048x512, .f32⟩ : BufTy).Contents (Elt F)) : (⟨S32x4x4x8x64x128, .f32⟩ : BufTy).Contents (Elt F) :=
  Host.dotGeneral dot_S32x4x256x4x8x64_S32x4x4x8x128x256_S32x4x4x8x64x128_2_5_5_4_0134_0123 none (val_main_v88 (F := F) x2) (val_main_v133 (F := F) x0 x1)

def val_main_v135 (x0 x1 x2 : (⟨S32x2048x512, .f32⟩ : BufTy).Contents (Elt F)) : (⟨S32x4x128x4x8x64, .f32⟩ : BufTy).Contents (Elt F) :=
  transpose S32x4x128x4x8x64 [0, 1, 5, 2, 3, 4] (val_main_v134 (F := F) x0 x1 x2) transposes_S32x4x4x8x64x128_S32x4x128x4x8x64_0_1_5_2_3_4

def val_main_v136 (x0 x1 x2 : (⟨S32x2048x512, .f32⟩ : BufTy).Contents (Elt F)) : (⟨S32x2048x8x64, .f32⟩ : BufTy).Contents (Elt F) :=
  shapeCast _ (val_main_v135 (F := F) x0 x1 x2) shapeCasts_S32x4x128x4x8x64_S32x2048x8x64

def val_main_v137 (x0 x1 : (⟨S32x2048x512, .f32⟩ : BufTy).Contents (Elt F)) : (⟨S32x4x128x4x8, .f32⟩ : BufTy).Contents (Elt F) :=
  transpose S32x4x128x4x8 [0, 1, 4, 2, 3] (val_main_v129 (F := F) x0 x1) transposes_S32x4x4x8x128_S32x4x128x4x8_0_1_4_2_3

def val_main_v138 (x0 x1 : (⟨S32x2048x512, .f32⟩ : BufTy).Contents (Elt F)) : (⟨S32x2048x8, .f32⟩ : BufTy).Contents (Elt F) :=
  shapeCast _ (val_main_v137 (F := F) x0 x1) shapeCasts_S32x4x128x4x8_S32x2048x8

def val_main_v139 (x0 : (⟨S32x2048x512, .f32⟩ : BufTy).Contents (Elt F)) : (⟨S32x1x128x16x8x64, .f32⟩ : BufTy).Contents (Elt F) :=
  shapeCast _ (val_main_v0 (F := F) x0) shapeCasts_S32x2048x8x64_S32x1x128x16x8x64

def val_main_v140 (x1 : (⟨S32x2048x512, .f32⟩ : BufTy).Contents (Elt F)) : (⟨S32x128x16x8x64, .f32⟩ : BufTy).Contents (Elt F) :=
  shapeCast _ (val_main_v1 (F := F) x1) shapeCasts_S32x2048x8x64_S32x128x16x8x64

def val_main_c_22 : (⟨S_, .i32⟩ : BufTy).Contents (Elt F) :=
  constantI S_ 32 0#32

def val_main_call6_v0 : (⟨S_, .f32⟩ : BufTy).Contents (Elt F) :=
  sitofp .f32 (val_main_c_22 (F := F))

def val_main_v141 (x1 : (⟨S32x2048x512, .f32⟩ : BufTy).Contents (Elt F)) : (⟨S32x256x16x8x64, .f32⟩ : BufTy).Contents (Elt F) :=
  pad S32x256x16x8x64 ![0, 128, 0, 0, 0] ![0, 0, 0, 0, 0] ![0, 0, 0, 0, 0] (val_main_v140 (F := F) x1) (val_main_call6_v0 (F := F)) pads_S32x128x16x8x64_S32x256x16x8x64_000_12800_000_000_000 h_S_

def val_main_v142 (x2 : (⟨S32x2048x512, .f32⟩ : BufTy).Contents (Elt F)) : (⟨S32x128x16x8x64, .f32⟩ : BufTy).Contents (Elt F) :=
  shapeCast _ (val_main_v2 (F := F) x2) shapeCasts_S32x2048x8x64_S32x128x16x8x64

def val_main_c_23 : (⟨S_, .i32⟩ : BufTy).Contents (Elt F) :=
  constantI S_ 32 0#32

def val_main_call7_v0 : (⟨S_, .f32⟩ : BufTy).Contents (Elt F) :=
  sitofp .f32 (val_main_c_23 (F := F))

def val_main_v143 (x2 : (⟨S32x2048x512, .f32⟩ : BufTy).Contents (Elt F)) : (⟨S32x256x16x8x64, .f32⟩ : BufTy).Contents (Elt F) :=
  pad S32x256x16x8x64 ![0, 128, 0, 0, 0] ![0, 0, 0, 0, 0] ![0, 0, 0, 0, 0] (val_main_v142 (F := F) x2) (val_main_call7_v0 (F := F)) pads_S32x128x16x8x64_S32x256x16x8x64_000_12800_000_000_000 h_S_

def val_main_v144 : (⟨S1, .i32⟩ : BufTy).Contents (Elt F) :=
  iotaInDim S1 32 0

def val_main_c_24 : (⟨S_, .i32⟩ : BufTy).Contents (Elt F) :=
  constantI S_ 32 128#32

def val_main_v145 : (⟨S1, .i32⟩ : BufTy).Contents (Elt F) :=
  broadcastInDim S1 ![] bcast_S_S1 (val_main_c_24 (F := F))

def val_main_v146 : (⟨S1, .i32⟩ : BufTy).Contents (Elt F) :=
  muli (val_main_v144 (F := F)) (val_main_v145 (F := F))

def val_main_v147 : (⟨S1x1, .i32⟩ : BufTy).Contents (Elt F) :=
  broadcastInDim S1x1 ![0] bcast_S1_S1x1_0 (val_main_v146 (F := F))

def val_main_v148 : (⟨S256, .i32⟩ : BufTy).Contents (Elt F) :=
  iotaInDim S256 32 0

def val_main_v149 : (⟨S1x256, .i32⟩ : BufTy).Contents (Elt F) :=
  broadcastInDim S1x256 ![1] bcast_S256_S1x256_1 (val_main_v148 (F := F))

def val_main_v150 : (⟨S1x256, .i32⟩ : BufTy).Contents (Elt F) :=
  broadcastInDim S1x256 ![0, 1] bcast_S1x1_S1x256_0_1 (val_main_v147 (F := F))

def val_main_v151 : (⟨S1x256, .i32⟩ : BufTy).Contents (Elt F) :=
  addi (val_main_v150 (F := F)) (val_main_v149 (F := F))

def val_main_v152 : (⟨S1x256x1, .i32⟩ : BufTy).Contents (Elt F) :=
  broadcastInDim S1x256x1 ![0, 1] bcast_S1x256_S1x256x1_0_1 (val_main_v151 (F := F))

def val_main_v153 (x1 : (⟨S32x2048x512, .f32⟩ : BufTy).Contents (Elt F)) : (⟨S32x1x256x16x8x64, .f32⟩ : BufTy).Contents (Elt F) :=
  Host.gather gather_S32x256x16x8x64_S1x256x1_S32x1x256x16x8x64_0345_1_n_n_1_2_32116864 (val_main_v141 (F := F) x1) (val_main_v152 (F := F))

def val_main_v154 : (⟨S1x256x1, .i32⟩ : BufTy).Contents (Elt F) :=
  broadcastInDim S1x256x1 ![0, 1] bcast_S1x256_S1x256x1_0_1 (val_main_v151 (F := F))

def val_main_v155 (x2 : (⟨S32x2048x512, .f32⟩ : BufTy).Contents (Elt F)) : (⟨S32x1x256x16x8x64, .f32⟩ : BufTy).Contents (Elt F) :=
  Host.gather gather_S32x256x16x8x64_S1x256x1_S32x1x256x16x8x64_0345_1_n_n_1_2_32116864 (val_main_v143 (F := F) x2) (val_main_v154 (F := F))

def val_main_v156 (x0 x1 : (⟨S32x2048x512, .f32⟩ : BufTy).Contents (Elt F)) : (⟨S32x1x16x8x128x256, .f32⟩ : BufTy).Contents (Elt F) :=
  Host.dotGeneral dot_S32x1x128x16x8x64_S32x1x256x16x8x64_S32x1x16x8x128x256_5_5_2_2_0134_0134 none (val_main_v139 (F := F) x0) (val_main_v153 (F := F) x1)

def val_main_cst_25 : (⟨S_, .f32⟩ : BufTy).Contents (Elt F) :=
  constant S_ .f32 0x3E000000#32

def val_main_v157 : (⟨S32x1x16x8x128x256, .f32⟩ : BufTy).Contents (Elt F) :=
  broadcastInDim S32x1x16x8x128x256 ![] bcast_S_S32x1x16x8x128x256 (val_main_cst_25 (F := F))

def val_main_v158 (x0 x1 : (⟨S32x2048x512, .f32⟩ : BufTy).Contents (Elt F)) : (⟨S32x1x16x8x128x256, .f32⟩ : BufTy).Contents (Elt F) :=
  mulf (val_main_v156 (F := F) x0 x1) (val_main_v157 (F := F))

def val_main_v159 : (⟨S128, .i32⟩ : BufTy).Contents (Elt F) :=
  iotaInDim S128 32 0

def val_main_v160 : (⟨S128x1, .i32⟩ : BufTy).Contents (Elt F) :=
  broadcastInDim S128x1 ![0] bcast_S128_S128x1_0 (val_main_v159 (F := F))

def val_main_v161 : (⟨S256, .i32⟩ : BufTy).Contents (Elt F) :=
  iotaInDim S256 32 0

def val_main_v162 : (⟨S1x256, .i32⟩ : BufTy).Contents (Elt F) :=
  broadcastInDim S1x256 ![1] bcast_S256_S1x256_1 (val_main_v161 (F := F))

def val_main_c_26 : (⟨S_, .i32⟩ : BufTy).Contents (Elt F) :=
  constantI S_ 32 128#32

def val_main_v163 : (⟨S128x1, .i32⟩ : BufTy).Contents (Elt F) :=
  broadcastInDim S128x1 ![] bcast_S_S128x1 (val_main_c_26 (F := F))

def val_main_v164 : (⟨S128x1, .i32⟩ : BufTy).Contents (Elt F) :=
  addi (val_main_v160 (F := F)) (val_main_v163 (F := F))

def val_main_v165 : (⟨S128x256, .i32⟩ : BufTy).Contents (Elt F) :=
  broadcastInDim S128x256 ![0, 1] bcast_S128x1_S128x256_0_1 (val_main_v164 (F := F))

def val_main_v166 : (⟨S128x256, .i32⟩ : BufTy).Contents (Elt F) :=
  broadcastInDim S128x256 ![0, 1] bcast_S1x256_S128x256_0_1 (val_main_v162 (F := F))

def val_main_v167 : (⟨S128x256, .i32⟩ : BufTy).Contents (Elt F) :=
  subi (val_main_v165 (F := F)) (val_main_v166 (F := F))

def val_main_v168 : (⟨S1x1x1, .i32⟩ : BufTy).Contents (Elt F) :=
  broadcastInDim S1x1x1 ![0] bcast_S1_S1x1x1_0 (val_main_v146 (F := F))

def val_main_v169 : (⟨S1x1x256, .i32⟩ : BufTy).Contents (Elt F) :=
  broadcastInDim S1x1x256 ![1, 2] bcast_S1x256_S1x1x256_1_2 (val_main_v162 (F := F))

def val_main_v170 : (⟨S1x1x256, .i32⟩ : BufTy).Contents (Elt F) :=
  broadcastInDim S1x1x256 ![0, 1, 2] bcast_S1x1x1_S1x1x256_0_1_2 (val_main_v168 (F := F))

def val_main_v171 : (⟨S1x1x256, .i32⟩ : BufTy).Contents (Elt F) :=
  addi (val_main_v170 (F := F)) (val_main_v169 (F := F))

def val_main_c_27 : (⟨S_, .i32⟩ : BufTy).Contents (Elt F) :=
  constantI S_ 32 128#32

def val_main_v172 : (⟨S1x1x256, .i32⟩ : BufTy).Contents (Elt F) :=
  broadcastInDim S1x1x256 ![] bcast_S_S1x1x256 (val_main_c_27 (F := F))

def val_main_v173 : (⟨S1x1x256, .i32⟩ : BufTy).Contents (Elt F) :=
  subi (val_main_v171 (F := F)) (val_main_v172 (F := F))

def val_main_c_28 : (⟨S_, .i32⟩ : BufTy).Contents (Elt F) :=
  constantI S_ 32 0#32

def val_main_v174 : (⟨S128x256, .i32⟩ : BufTy).Contents (Elt F) :=
  broadcastInDim S128x256 ![] bcast_S_S128x256 (val_main_c_28 (F := F))

def val_main_v175 : (⟨S128x256, .i1⟩ : BufTy).Contents (Elt F) :=
  cmpi .sge (val_main_v167 (F := F)) (val_main_v174 (F := F))

def val_main_v176 : (⟨S1x128x256, .i1⟩ : BufTy).Contents (Elt F) :=
  broadcastInDim S1x128x256 ![1, 2] bcast_S128x256_S1x128x256_1_2 (val_main_v175 (F := F))

def val_main_c_29 : (⟨S_, .i32⟩ : BufTy).Contents (Elt F) :=
  constantI S_ 32 128#32

def val_main_v177 : (⟨S128x256, .i32⟩ : BufTy).Contents (Elt F) :=
  broadcastInDim S128x256 ![] bcast_S_S128x256 (val_main_c_29 (F := F))

def val_main_v178 : (⟨S128x256, .i1⟩ : BufTy).Contents (Elt F) :=
  cmpi .sle (val_main_v167 (F := F)) (val_main_v177 (F := F))

def val_main_v179 : (⟨S1x128x256, .i1⟩ : BufTy).Contents (Elt F) :=
  broadcastInDim S1x128x256 ![1, 2] bcast_S128x256_S1x128x256_1_2 (val_main_v178 (F := F))

def val_main_v180 : (⟨S1x128x256, .i1⟩ : BufTy).Contents (Elt F) :=
  andi (val_main_v176 (F := F)) (val_main_v179 (F := F))

def val_main_c_30 : (⟨S_, .i32⟩ : BufTy).Contents (Elt F) :=
  constantI S_ 32 0#32

def val_main_v181 : (⟨S1x1x256, .i32⟩ : BufTy).Contents (Elt F) :=
  broadcastInDim S1x1x256 ![] bcast_S_S1x1x256 (val_main_c_30 (F := F))

def val_main_v182 : (⟨S1x1x256, .i1⟩ : BufTy).Contents (Elt F) :=
  cmpi .sge (val_main_v173 (F := F)) (val_main_v181 (F := F))

def val_main_v183 : (⟨S1x128x256, .i1⟩ : BufTy).Contents (Elt F) :=
  broadcastInDim S1x128x256 ![0, 1, 2] bcast_S1x1x256_S1x128x256_0_1_2 (val_main_v182 (F := F))

def val_main_v184 : (⟨S1x128x256, .i1⟩ : BufTy).Contents (Elt F) :=
  andi (val_main_v180 (F := F)) (val_main_v183 (F := F))

def val_main_v185 : (⟨S1x1x1x1x128x256, .i1⟩ : BufTy).Contents (Elt F) :=
  broadcastInDim S1x1x1x1x128x256 ![1, 4, 5] bcast_S1x128x256_S1x1x1x1x128x256_1_4_5 (val_main_v184 (F := F))

def val_main_cst_31 : (⟨S_, .f32⟩ : BufTy).Contents (Elt F) :=
  constant S_ .f32 0xFF800000#32

def val_main_call8_v0 : (⟨S_, .f32⟩ : BufTy).Contents (Elt F) :=
  id (val_main_cst_31 (F := F))

def val_main_call8_v1 : (⟨S32x1x16x8x128x256, .i1⟩ : BufTy).Contents (Elt F) :=
  broadcastInDim S32x1x16x8x128x256 ![0, 1, 2, 3, 4, 5] bcast_S1x1x1x1x128x256_S32x1x16x8x128x256_0_1_2_3_4_5 (val_main_v185 (F := F))

def val_main_call8_v2 : (⟨S32x1x16x8x128x256, .f32⟩ : BufTy).Contents (Elt F) :=
  broadcastInDim S32x1x16x8x128x256 ![] bcast_S_S32x1x16x8x128x256 (val_main_call8_v0 (F := F))

def val_main_v186 (x0 x1 : (⟨S32x2048x512, .f32⟩ : BufTy).Contents (Elt F)) : (⟨S32x1x16x8x128x256, .f32⟩ : BufTy).Contents (Elt F) :=
  select (val_main_call8_v1 (F := F)) (val_main_v158 (F := F) x0 x1) (val_main_call8_v2 (F := F))

def val_main_cst_32 : (⟨S_, .f32⟩ : BufTy).Contents (Elt F) :=
  constant S_ .f32 0xFF800000#32

def val_main_v187 (x0 x1 : (⟨S32x2048x512, .f32⟩ : BufTy).Contents (Elt F)) : (⟨S32x1x16x8x128, .f32⟩ : BufTy).Contents (Elt F) :=
  Host.reduce FloatOps.maximumf (val_main_v186 (F := F) x0 x1) (val_main_cst_32 (F := F)) reducesTo_S32x1x16x8x128x256_S32x1x16x8x128_d5 h_S_

def val_main_v188 (x0 x1 : (⟨S32x2048x512, .f32⟩ : BufTy).Contents (Elt F)) : (⟨S32x1x16x8x128x1, .f32⟩ : BufTy).Contents (Elt F) :=
  broadcastInDim S32x1x16x8x128x1 ![0, 1, 2, 3, 4] bcast_S32x1x16x8x128_S32x1x16x8x128x1_0_1_2_3_4 (val_main_v187 (F := F) x0 x1)

def val_main_v189 (x0 x1 : (⟨S32x2048x512, .f32⟩ : BufTy).Contents (Elt F)) : (⟨S32x1x16x8x128x256, .f32⟩ : BufTy).Contents (Elt F) :=
  broadcastInDim S32x1x16x8x128x256 ![0, 1, 2, 3, 4, 5] bcast_S32x1x16x8x128x1_S32x1x16x8x128x256_0_1_2_3_4_5 (val_main_v188 (F := F) x0 x1)

def val_main_v190 (x0 x1 : (⟨S32x2048x512, .f32⟩ : BufTy).Contents (Elt F)) : (⟨S32x1x16x8x128x256, .f32⟩ : BufTy).Contents (Elt F) :=
  subf (val_main_v186 (F := F) x0 x1) (val_main_v189 (F := F) x0 x1)

def val_main_v191 (x0 x1 : (⟨S32x2048x512, .f32⟩ : BufTy).Contents (Elt F)) : (⟨S32x1x16x8x128x256, .f32⟩ : BufTy).Contents (Elt F) :=
  Host.exp (val_main_v190 (F := F) x0 x1)

def val_main_cst_33 : (⟨S_, .f32⟩ : BufTy).Contents (Elt F) :=
  constant S_ .f32 0x00000000#32

def val_main_v192 (x0 x1 : (⟨S32x2048x512, .f32⟩ : BufTy).Contents (Elt F)) : (⟨S32x1x16x8x128, .f32⟩ : BufTy).Contents (Elt F) :=
  Host.reduceAdd (val_main_v191 (F := F) x0 x1) (val_main_cst_33 (F := F)) reducesTo_S32x1x16x8x128x256_S32x1x16x8x128_d5 h_S_

def val_main_v193 (x0 x1 : (⟨S32x2048x512, .f32⟩ : BufTy).Contents (Elt F)) : (⟨S32x1x16x8x128, .f32⟩ : BufTy).Contents (Elt F) :=
  Host.log (val_main_v192 (F := F) x0 x1)

def val_main_v194 (x0 x1 : (⟨S32x2048x512, .f32⟩ : BufTy).Contents (Elt F)) : (⟨S32x1x16x8x128, .f32⟩ : BufTy).Contents (Elt F) :=
  addf (val_main_v193 (F := F) x0 x1) (val_main_v187 (F := F) x0 x1)

def val_main_v195 (x0 x1 : (⟨S32x2048x512, .f32⟩ : BufTy).Contents (Elt F)) : (⟨S32x1x16x8x128x1, .f32⟩ : BufTy).Contents (Elt F) :=
  broadcastInDim S32x1x16x8x128x1 ![0, 1, 2, 3, 4] bcast_S32x1x16x8x128_S32x1x16x8x128x1_0_1_2_3_4 (val_main_v194 (F := F) x0 x1)

def val_main_v196 (x0 x1 : (⟨S32x2048x512, .f32⟩ : BufTy).Contents (Elt F)) : (⟨S32x1x16x8x128x256, .f32⟩ : BufTy).Contents (Elt F) :=
  broadcastInDim S32x1x16x8x128x256 ![0, 1, 2, 3, 4, 5] bcast_S32x1x16x8x128x1_S32x1x16x8x128x256_0_1_2_3_4_5 (val_main_v195 (F := F) x0 x1)

def val_main_v197 (x0 x1 : (⟨S32x2048x512, .f32⟩ : BufTy).Contents (Elt F)) : (⟨S32x1x16x8x128x256, .f32⟩ : BufTy).Contents (Elt F) :=
  subf (val_main_v186 (F := F) x0 x1) (val_main_v196 (F := F) x0 x1)

def val_main_v198 (x0 x1 : (⟨S32x2048x512, .f32⟩ : BufTy).Contents (Elt F)) : (⟨S32x1x16x8x128x256, .f32⟩ : BufTy).Contents (Elt F) :=
  Host.exp (val_main_v197 (F := F) x0 x1)

def val_main_v199 (x0 x1 x2 : (⟨S32x2048x512, .f32⟩ : BufTy).Contents (Elt F)) : (⟨S32x1x16x8x64x128, .f32⟩ : BufTy).Contents (Elt F) :=
  Host.dotGeneral dot_S32x1x256x16x8x64_S32x1x16x8x128x256_S32x1x16x8x64x128_2_5_5_4_0134_0123 none (val_main_v155 (F := F) x2) (val_main_v198 (F := F) x0 x1)

def val_main_v200 (x0 x1 x2 : (⟨S32x2048x512, .f32⟩ : BufTy).Contents (Elt F)) : (⟨S32x1x128x16x8x64, .f32⟩ : BufTy).Contents (Elt F) :=
  transpose S32x1x128x16x8x64 [0, 1, 5, 2, 3, 4] (val_main_v199 (F := F) x0 x1 x2) transposes_S32x1x16x8x64x128_S32x1x128x16x8x64_0_1_5_2_3_4

def val_main_v201 (x0 x1 x2 : (⟨S32x2048x512, .f32⟩ : BufTy).Contents (Elt F)) : (⟨S32x2048x8x64, .f32⟩ : BufTy).Contents (Elt F) :=
  shapeCast _ (val_main_v200 (F := F) x0 x1 x2) shapeCasts_S32x1x128x16x8x64_S32x2048x8x64

def val_main_v202 (x0 x1 : (⟨S32x2048x512, .f32⟩ : BufTy).Contents (Elt F)) : (⟨S32x1x128x16x8, .f32⟩ : BufTy).Contents (Elt F) :=
  transpose S32x1x128x16x8 [0, 1, 4, 2, 3] (val_main_v194 (F := F) x0 x1) transposes_S32x1x16x8x128_S32x1x128x16x8_0_1_4_2_3

def val_main_v203 (x0 x1 : (⟨S32x2048x512, .f32⟩ : BufTy).Contents (Elt F)) : (⟨S32x2048x8, .f32⟩ : BufTy).Contents (Elt F) :=
  shapeCast _ (val_main_v202 (F := F) x0 x1) shapeCasts_S32x1x128x16x8_S32x2048x8

def val_main_v204 (x0 x1 : (⟨S32x2048x512, .f32⟩ : BufTy).Contents (Elt F)) : (⟨S1x32x2048x8, .f32⟩ : BufTy).Contents (Elt F) :=
  broadcastInDim S1x32x2048x8 ![1, 2, 3] bcast_S32x2048x8_S1x32x2048x8_1_2_3 (val_main_v70 (F := F) x0 x1)

def val_main_v205 (x0 x1 : (⟨S32x2048x512, .f32⟩ : BufTy).Contents (Elt F)) : (⟨S1x32x2048x8, .f32⟩ : BufTy).Contents (Elt F) :=
  broadcastInDim S1x32x2048x8 ![1, 2, 3] bcast_S32x2048x8_S1x32x2048x8_1_2_3 (val_main_v138 (F := F) x0 x1)

def val_main_v206 (x0 x1 : (⟨S32x2048x512, .f32⟩ : BufTy).Contents (Elt F)) : (⟨S1x32x2048x8, .f32⟩ : BufTy).Contents (Elt F) :=
  broadcastInDim S1x32x2048x8 ![1, 2, 3] bcast_S32x2048x8_S1x32x2048x8_1_2_3 (val_main_v203 (F := F) x0 x1)

def val_main_v207 (x0 x1 : (⟨S32x2048x512, .f32⟩ : BufTy).Contents (Elt F)) : (⟨S3x32x2048x8, .f32⟩ : BufTy).Contents (Elt F) :=
  (concatenate S3x32x2048x8 0 [⟨S1x32x2048x8, ((val_main_v204 (F := F) x0 x1) : (⟨S1x32x2048x8, .f32⟩ : BufTy).Contents (Elt F))⟩, ⟨S1x32x2048x8, ((val_main_v205 (F := F) x0 x1) : (⟨S1x32x2048x8, .f32⟩ : BufTy).Contents (Elt F))⟩, ⟨S1x32x2048x8, ((val_main_v206 (F := F) x0 x1) : (⟨S1x32x2048x8, .f32⟩ : BufTy).Contents (Elt F))⟩] concatenates_S1x32x2048x8_S1x32x2048x8_S1x32x2048x8_S3x32x2048x8_d0 : (⟨S3x32x2048x8, .f32⟩ : BufTy).Contents (Elt F))

def val_main_cst_34 : (⟨S_, .f32⟩ : BufTy).Contents (Elt F) :=
  constant S_ .f32 0xFF800000#32

def val_main_v208 (x0 x1 : (⟨S32x2048x512, .f32⟩ : BufTy).Contents (Elt F)) : (⟨S32x2048x8, .f32⟩ : BufTy).Contents (Elt F) :=
  Host.reduce FloatOps.maximumf (val_main_v207 (F := F) x0 x1) (val_main_cst_34 (F := F)) reducesTo_S3x32x2048x8_S32x2048x8_d0 h_S_

def val_main_cst_35 : (⟨S_, .f32⟩ : BufTy).Contents (Elt F) :=
  constant S_ .f32 0xFF800000#32

def val_main_v209 : (⟨S32x2048x8, .f32⟩ : BufTy).Contents (Elt F) :=
  broadcastInDim S32x2048x8 ![] bcast_S_S32x2048x8 (val_main_cst_35 (F := F))

def val_main_v210 (x0 x1 : (⟨S32x2048x512, .f32⟩ : BufTy).Contents (Elt F)) : (⟨S32x2048x8, .f32⟩ : BufTy).Contents (Elt F) :=
  maximumf (val_main_v209 (F := F)) (val_main_v208 (F := F) x0 x1)

def val_main_v211 (x0 x1 : (⟨S32x2048x512, .f32⟩ : BufTy).Contents (Elt F)) : (⟨S1x32x2048x8, .f32⟩ : BufTy).Contents (Elt F) :=
  broadcastInDim S1x32x2048x8 ![1, 2, 3] bcast_S32x2048x8_S1x32x2048x8_1_2_3 (val_main_v210 (F := F) x0 x1)

def val_main_v212 (x0 x1 : (⟨S32x2048x512, .f32⟩ : BufTy).Contents (Elt F)) : (⟨S3x32x2048x8, .f32⟩ : BufTy).Contents (Elt F) :=
  broadcastInDim S3x32x2048x8 ![0, 1, 2, 3] bcast_S1x32x2048x8_S3x32x2048x8_0_1_2_3 (val_main_v211 (F := F) x0 x1)

def val_main_v213 (x0 x1 : (⟨S32x2048x512, .f32⟩ : BufTy).Contents (Elt F)) : (⟨S3x32x2048x8, .f32⟩ : BufTy).Contents (Elt F) :=
  subf (val_main_v207 (F := F) x0 x1) (val_main_v212 (F := F) x0 x1)

def val_main_v214 (x0 x1 : (⟨S32x2048x512, .f32⟩ : BufTy).Contents (Elt F)) : (⟨S3x32x2048x8, .f32⟩ : BufTy).Contents (Elt F) :=
  Host.exp (val_main_v213 (F := F) x0 x1)

def val_main_cst_36 : (⟨S_, .f32⟩ : BufTy).Contents (Elt F) :=
  constant S_ .f32 0x00000000#32

def val_main_v215 (x0 x1 : (⟨S32x2048x512, .f32⟩ : BufTy).Contents (Elt F)) : (⟨S32x2048x8, .f32⟩ : BufTy).Contents (Elt F) :=
  Host.reduceAdd (val_main_v214 (F := F) x0 x1) (val_main_cst_36 (F := F)) reducesTo_S3x32x2048x8_S32x2048x8_d0 h_S_

def val_main_v216 (x0 x1 : (⟨S32x2048x512, .f32⟩ : BufTy).Contents (Elt F)) : (⟨S1x32x2048x8, .f32⟩ : BufTy).Contents (Elt F) :=
  broadcastInDim S1x32x2048x8 ![1, 2, 3] bcast_S32x2048x8_S1x32x2048x8_1_2_3 (val_main_v215 (F := F) x0 x1)

def val_main_v217 (x0 x1 : (⟨S32x2048x512, .f32⟩ : BufTy).Contents (Elt F)) : (⟨S3x32x2048x8, .f32⟩ : BufTy).Contents (Elt F) :=
  broadcastInDim S3x32x2048x8 ![0, 1, 2, 3] bcast_S1x32x2048x8_S3x32x2048x8_0_1_2_3 (val_main_v216 (F := F) x0 x1)

def val_main_v218 (x0 x1 : (⟨S32x2048x512, .f32⟩ : BufTy).Contents (Elt F)) : (⟨S3x32x2048x8, .f32⟩ : BufTy).Contents (Elt F) :=
  Host.divf (val_main_v214 (F := F) x0 x1) (val_main_v217 (F := F) x0 x1)

def val_main_v219 (x0 x1 : (⟨S32x2048x512, .f32⟩ : BufTy).Contents (Elt F)) : (⟨S3x32x2048x8x1, .f32⟩ : BufTy).Contents (Elt F) :=
  broadcastInDim S3x32x2048x8x1 ![0, 1, 2, 3] bcast_S3x32x2048x8_S3x32x2048x8x1_0_1_2_3 (val_main_v218 (F := F) x0 x1)

def val_main_v220 (x0 x1 x2 : (⟨S32x2048x512, .f32⟩ : BufTy).Contents (Elt F)) : (⟨S1x32x2048x8x64, .f32⟩ : BufTy).Contents (Elt F) :=
  broadcastInDim S1x32x2048x8x64 ![1, 2, 3, 4] bcast_S32x2048x8x64_S1x32x2048x8x64_1_2_3_4 (val_main_v68 (F := F) x0 x1 x2)

def val_main_v221 (x0 x1 x2 : (⟨S32x2048x512, .f32⟩ : BufTy).Contents (Elt F)) : (⟨S1x32x2048x8x64, .f32⟩ : BufTy).Contents (Elt F) :=
  broadcastInDim S1x32x2048x8x64 ![1, 2, 3, 4] bcast_S32x2048x8x64_S1x32x2048x8x64_1_2_3_4 (val_main_v136 (F := F) x0 x1 x2)

def val_main_v222 (x0 x1 x2 : (⟨S32x2048x512, .f32⟩ : BufTy).Contents (Elt F)) : (⟨S1x32x2048x8x64, .f32⟩ : BufTy).Contents (Elt F) :=
  broadcastInDim S1x32x2048x8x64 ![1, 2, 3, 4] bcast_S32x2048x8x64_S1x32x2048x8x64_1_2_3_4 (val_main_v201 (F := F) x0 x1 x2)

def val_main_v223 (x0 x1 x2 : (⟨S32x2048x512, .f32⟩ : BufTy).Contents (Elt F)) : (⟨S3x32x2048x8x64, .f32⟩ : BufTy).Contents (Elt F) :=
  (concatenate S3x32x2048x8x64 0 [⟨S1x32x2048x8x64, ((val_main_v220 (F := F) x0 x1 x2) : (⟨S1x32x2048x8x64, .f32⟩ : BufTy).Contents (Elt F))⟩, ⟨S1x32x2048x8x64, ((val_main_v221 (F := F) x0 x1 x2) : (⟨S1x32x2048x8x64, .f32⟩ : BufTy).Contents (Elt F))⟩, ⟨S1x32x2048x8x64, ((val_main_v222 (F := F) x0 x1 x2) : (⟨S1x32x2048x8x64, .f32⟩ : BufTy).Contents (Elt F))⟩] concatenates_S1x32x2048x8x64_S1x32x2048x8x64_S1x32x2048x8x64_S3x32x2048x8x64_d0 : (⟨S3x32x2048x8x64, .f32⟩ : BufTy).Contents (Elt F))

def val_main_v224 (x0 x1 : (⟨S32x2048x512, .f32⟩ : BufTy).Contents (Elt F)) : (⟨S3x32x2048x8x64, .f32⟩ : BufTy).Contents (Elt F) :=
  broadcastInDim S3x32x2048x8x64 ![0, 1, 2, 3, 4] bcast_S3x32x2048x8x1_S3x32x2048x8x64_0_1_2_3_4 (val_main_v219 (F := F) x0 x1)

def val_main_v225 (x0 x1 x2 : (⟨S32x2048x512, .f32⟩ : BufTy).Contents (Elt F)) : (⟨S3x32x2048x8x64, .f32⟩ : BufTy).Contents (Elt F) :=
  mulf (val_main_v224 (F := F) x0 x1) (val_main_v223 (F := F) x0 x1 x2)

def val_main_cst_37 : (⟨S_, .f32⟩ : BufTy).Contents (Elt F) :=
  constant S_ .f32 0x00000000#32

def val_main_v226 (x0 x1 x2 : (⟨S32x2048x512, .f32⟩ : BufTy).Contents (Elt F)) : (⟨S32x2048x8x64, .f32⟩ : BufTy).Contents (Elt F) :=
  Host.reduceAdd (val_main_v225 (F := F) x0 x1 x2) (val_main_cst_37 (F := F)) reducesTo_S3x32x2048x8x64_S32x2048x8x64_d0 h_S_

def val_main_v227 (x0 x1 x2 : (⟨S32x2048x512, .f32⟩ : BufTy).Contents (Elt F)) : (⟨S32x2048x512, .f32⟩ : BufTy).Contents (Elt F) :=
  shapeCast _ (val_main_v226 (F := F) x0 x1 x2) shapeCasts_S32x2048x8x64_S32x2048x512

def val_main_v228 (x0 x1 x2 : (⟨S32x2048x512, .f32⟩ : BufTy).Contents (Elt F)) : (⟨S32x2048x512, .bf16⟩ : BufTy).Contents (Elt F) :=
  truncf .bf16 (val_main_v227 (F := F) x0 x1 x2) bitsLt_bf16_f32

/-- The term the Run module states for `main_v228` over any contents `V0` is the stage. -/
theorem val_main_v228_eq (V0 : Valuation τ sig (Elt F)) :
    truncf .bf16 (shapeCast _ (Cert.ReferenceIdeal.Value.res_main_v226 V0) shapeCasts_S32x2048x8x64_S32x2048x512) bitsLt_bf16_f32
      = val_main_v228 (F := F) (V0 (Proc.devRef .tc main_arg0)) (V0 (Proc.devRef .tc main_arg1)) (V0 (Proc.devRef .tc main_arg2)) := rfl

end Cert.ReferenceIdeal.Read

end
-- ==== Proof.Gather.lean ====
module
public import Idealize.ShloMosaic.Lib.Pointwise
public import Idealize.ShloMosaic.Lib.IdealHost

/-! The reference's gather from padded, strided keys and values, at an index. -/

@[expose] public section
noncomputable section
namespace Cert.Attn
open Idealize.ShloMosaic

/-- The dimension numbers of a gather of blocks along the second axis of a rank-5 array. -/
abbrev winDims (P nb d : ℕ) (wf : GatherDims.WF ⟨5, ![32, P, d, 8, 64]⟩ ⟨3, ![nb, 256, 1]⟩ ⟨6, ![32, nb, 256, d, 8, 64]⟩ [0, 3, 4, 5] [1] [] [1] [] 2 ![32, 1, d, 8, 64]) :
    GatherDims ⟨5, ![32, P, d, 8, 64]⟩ ⟨3, ![nb, 256, 1]⟩ ⟨6, ![32, nb, 256, d, 8, 64]⟩ where
  offsetDims := [0, 3, 4, 5]
  collapsedSliceDims := [1]
  operandBatchingDims := []
  startIndicesBatchingDims := []
  startIndexMap := [1]
  indexVectorDim := 2
  sliceSizes := ![32, 1, d, 8, 64]
  wf := wf

/-- The gather read at an index. -/
theorem gather_win {α : Type} {P nb d : ℕ} (hP : 0 < P) (wf) (x : (⟨5, ![32, P, d, 8, 64]⟩ : Shape).Idx → α) (idx : IVec ⟨3, ![nb, 256, 1]⟩ 32)
    (b : Fin 32) (n : Fin nb) (j : Fin 256) (r : Fin d) (h : Fin 8) (e : Fin 64) :
    Host.gather (winDims P nb d wf) x idx (ix6 b n j r h e) = x (ix5 b ⟨min (idx (ix3 n j 0)).toInt.toNat (P - 1), by omega⟩ r h e) := by
  unfold Host.gather
  congr 1
  funext a
  refine Fin.ext ?_
  show (winDims P nb d wf).start _ idx a + (winDims P nb d wf).batchCoord _ a + (winDims P nb d wf).offCoord _ a = _
  rw [GatherDims.batchCoord_eq_zero _ _ _ List.not_mem_nil, Nat.add_zero]
  match a with
  | ⟨1, _⟩ =>
    rw [GatherDims.offCoord_eq_zero _ _ _ (fun h => ((GatherDims.mem_sKept _ _).mp h).1 (List.mem_singleton.mpr rfl))]
    unfold GatherDims.start
    refine (Nat.add_zero _).trans ((dif_pos (show (1 : Fin 5) ∈ ([1] : List (Fin 5)) by decide)).trans ?_)
    have hsi : (winDims P nb d wf).siIdx (ix6 b n j r h e) ⟨List.idxOf (1 : Fin 5) (winDims P nb d wf).startIndexMap,
        List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    refine Eq.trans (congrArg (fun z => min (idx z).toInt.toNat (P - 1)) hsi) rfl
  | ⟨0, _⟩ =>
    unfold GatherDims.start
    refine (congrArg (· + _) (dif_neg (show ¬ (0 : Fin 5) ∈ ([1] : List (Fin 5)) by decide))).trans ((Nat.zero_add _).trans ?_)
    rfl
  | ⟨2, _⟩ =>
    unfold GatherDims.start
    refine (congrArg (· + _) (dif_neg (show ¬ (2 : Fin 5) ∈ ([1] : List (Fin 5)) by decide))).trans ((Nat.zero_add _).trans ?_)
    rfl
  | ⟨3, _⟩ =>
    unfold GatherDims.start
    refine (congrArg (· + _) (dif_neg (show ¬ (3 : Fin 5) ∈ ([1] : List (Fin 5)) by decide))).trans ((Nat.zero_add _).trans ?_)
    rfl
  | ⟨4, _⟩ =>
    unfold GatherDims.start
    refine (congrArg (· + _) (dif_neg (show ¬ (4 : Fin 5) ∈ ([1] : List (Fin 5)) by decide))).trans ((Nat.zero_add _).trans ?_)
    rfl
/-- The entries of a rank-6 array over one entry of its reduction along the last axis. -/
theorem fiber_r6 {n0 n1 n2 n3 n4 n5 : ℕ} (hr : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    hr.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A maximum along the last axis of a rank-6 array, at an index. -/
theorem max_r6 {n0 n1 n2 n3 n4 n5 : ℕ} (hr : (⟨6, ![n0, n1, n2, n3, n4, n5]⟩ : Shape).ReducesTo [5] ⟨5, ![n0, n1, n2, n3, n4]⟩)
    (z : EReal) (x : (⟨6, ![n0, n1, n2, n3, n4, n5]⟩ : Shape).Idx → EReal) (a : Fin n0) (b : Fin n1) (c : Fin n2) (d : Fin n3) (e : Fin n4) :
    (Finset.univ.filter (fun i => hr.drop i = ix5 a b c d e)).fold max z x
      = (Finset.univ : Finset (Fin n5)).fold max z (fun k => x (ix6 a b c d e k)) :=
  Finset.fold_filter_eq_fold_of_fiber max _ (fun k : Fin n5 => ix6 a b c d e k) (fun _ _ w => congrFun w 5) (fiber_r6 hr a b c d e) z x

/-- A sum along the last axis of a rank-6 array, at an index. -/
theorem sum_r6 {n0 n1 n2 n3 n4 n5 : ℕ} (hr : (⟨6, ![n0, n1, n2, n3, n4, n5]⟩ : Shape).ReducesTo [5] ⟨5, ![n0, n1, n2, n3, n4]⟩)
    (z : EReal) (x : (⟨6, ![n0, n1, n2, n3, n4, n5]⟩ : Shape).Idx → EReal) (a : Fin n0) (b : Fin n1) (c : Fin n2) (d : Fin n3) (e : Fin n4) :
    Ideal.hostReduceAdd hr x z (ix5 a b c d e) = z + ∑ k : Fin n5, x (ix6 a b c d e k) := by
  unfold Ideal.hostReduceAdd
  exact congrArg (z + ·) (Finset.sum_filter_eq_sum_of_fiber _ (fun k : Fin n5 => ix6 a b c d e k) (fun _ _ w => congrFun w 5) (fiber_r6 hr a b c d e) x)

end Cert.Attn
end
-- ==== Proof.Mask.lean ====
module
public import Idealize.ShloMosaic.Lib.Pointwise
public import Idealize.ShloMosaic.Lib.IdealHost

/-! The integer arithmetic of the reference's windows and masks. -/

@[expose] public section
noncomputable section
namespace Cert.Attn
open Idealize.ShloMosaic

/-- The window's two bounds, as the reference computes them. -/
theorem mask_row : ∀ (i : Fin 128) (j : Fin 256),
    IntOp.andi (IntOp.cmpi .sge (IntOp.subi (IntOp.addi (BitVec.ofNat 32 i.val) 128#32) (BitVec.ofNat 32 j.val)) 0#32)
      (IntOp.cmpi .sle (IntOp.subi (IntOp.addi (BitVec.ofNat 32 i.val) 128#32) (BitVec.ofNat 32 j.val)) 128#32)
      = if i.val ≤ j.val ∧ j.val ≤ i.val + 128 then 1#1 else 0#1 := by decide +kernel

/-- The mask of the keys before the sequence, as the reference computes it. -/
theorem mask_key : ∀ (n : Fin 16) (j : Fin 256),
    IntOp.cmpi .sge (IntOp.subi (IntOp.addi (IntOp.muli (BitVec.ofNat 32 n.val) 128#32) (BitVec.ofNat 32 j.val)) 128#32) 0#32
      = if 128 ≤ 128 * n.val + j.val then 1#1 else 0#1 := by decide +kernel

/-- The row a window's entry is gathered from. -/
theorem row_val : ∀ (n : Fin 16) (j : Fin 256),
    (IntOp.addi (IntOp.muli (BitVec.ofNat 32 n.val) 128#32) (BitVec.ofNat 32 j.val)).toInt.toNat = 128 * n.val + j.val := by decide +kernel

/-- The masked score: the score where all three conditions hold, else minus infinity. -/
theorem sel_val (n i : ℕ) (hn : n < 16) (hi : i < 128) (j : Fin 256) (a z : EReal) (hz : z = ⊥) :
    Scalar.select (IntOp.andi (IntOp.andi
          (IntOp.cmpi .sge (IntOp.subi (IntOp.addi (BitVec.ofNat 32 i) 128#32) (BitVec.ofNat 32 j.val)) 0#32)
          (IntOp.cmpi .sle (IntOp.subi (IntOp.addi (BitVec.ofNat 32 i) 128#32) (BitVec.ofNat 32 j.val)) 128#32))
        (IntOp.cmpi .sge (IntOp.subi (IntOp.addi (IntOp.muli (BitVec.ofNat 32 n) 128#32) (BitVec.ofNat 32 j.val)) 128#32) 0#32)) a z
      = if i ≤ j.val ∧ j.val ≤ i + 128 ∧ 128 ≤ 128 * n + j.val then a else ⊥ := by
  rw [mask_row ⟨i, hi⟩ j, mask_key ⟨n, hn⟩ j, hz]
  dsimp only
  by_cases h1 : i ≤ j.val ∧ j.val ≤ i + 128 <;> by_cases h2 : 128 ≤ 128 * n + j.val
  · rw [if_pos h1, if_pos h2, if_pos ⟨h1.1, h1.2, h2⟩]; rfl
  · rw [if_pos h1, if_neg h2, if_neg fun h => h2 h.2.2]; rfl
  · rw [if_neg h1, if_pos h2, if_neg fun h => h1 ⟨h.1, h.2.1⟩]; rfl
  · rw [if_neg h1, if_neg h2, if_neg fun h => h2 h.2.2]; rfl

end Cert.Attn
-- ==== Proof.Ref.lean ====
module
public import proofs.«01_k».proof.Proof.Stages
public import proofs.«01_k».proof.Proof.Gather
public import proofs.«01_k».proof.Proof.KVal
public import proofs.«01_k».proof.Proof.Mask

/-! The reference's value: each branch's scores, log-sum and output, and the three of them combined. -/

@[expose] public section
set_option maxHeartbeats 1000000
noncomputable section
namespace Cert.Attn
open Idealize.ShloMosaic Idealize.ShloMosaic.Tactic Cert.ReferenceIdeal Cert.ReferenceIdeal.Read

variable (x0 x1 x2 : Vec Ideal S32x2048x512 .f32)
variable (Q K : Fin 32 → Fin 2048 → Fin 512 → ℝ)

/-- The scaled product of a query and a key is the score. -/
theorem score_val (hQ : ∀ b t l, x0 (ix3 b t l) = (Q b t l : EReal)) (hK : ∀ b t l, x1 (ix3 b t l) = (K b t l : EReal))
    (b : Fin 32) (t : Fin 2048) (h : Fin 8) (s : ℕ) (f g : Fin 64 → EReal)
    (hf : ∀ e : Fin 64, f e = x0 (ix3 b t ⟨64 * h.val + e.val, by omega⟩))
    (hg : ∀ e : Fin 64, g e = lane x1 b ⟨64 * h.val + e.val, by omega⟩ s) :
    (∑ e, f e * g e) * Ideal.ofBits FTy.f32 1040187392#32 = ((score Q K b t h s : ℝ) : EReal) := by
  rw [eighth_val, Finset.sum_congr rfl fun e _ => show f e * g e
      = ((Q b t ⟨64 * h.val + e.val, by omega⟩ * K b ⟨s % 2048, by omega⟩ ⟨64 * h.val + e.val, by omega⟩ : ℝ) : EReal) by
    rw [hf, hg, hQ, lane, hK, ← EReal.coe_mul], ← coe_sum, ← EReal.coe_mul]
  unfold score
  congr 1
  ring

/-! Dilation 1. -/

/-- The row of a window's entry, dilation 1. -/
theorem entry1 (n : Fin 16) (j : Fin 256) :
    (val_main_v17 (F := Ideal) (ix3 n j 0)).toInt.toNat = 128 * n.val + j.val := by
  pointwise [val_main_v17, val_main_v16, val_main_v15, val_main_v14, val_main_v13, val_main_v12, val_main_v11, val_main_v10, val_main_v9, val_main_v8, val_main_c, val_main_c_0, val_main_c_1, val_main_cst, val_main_c_2, val_main_c_3, val_main_c_4, val_main_c_5, val_main_c_6, val_main_cst_7, val_main_cst_8, val_main_cst_9]
  exact row_val ⟨n.val, by omega⟩ j

/-- The key of a window's live entry, dilation 1. -/
theorem gk1 (b : Fin 32) (t : Fin 2048) (h : Fin 8) (j : Fin 256) (e : Fin 64) (hl : live 1 t.val j) :
    val_main_v18 (F := Ideal) x1 (ix6 b ⟨t.val / 128, by omega⟩ j 0 h e) = lane x1 b ⟨64 * h.val + e.val, by omega⟩ (keyOf 1 t.val j) := by
  unfold val_main_v18
  rw [show gather_S32x2176x1x8x64_S16x256x1_S32x16x256x1x8x64_0345_1_n_n_1_2_3211864 = winDims _ _ _ _ from rfl, gather_win (by norm_num)]
  unfold live at hl
  pointwise [val_main_v5, val_main_v4, val_main_v1]
  have hj := j.isLt
  have ht := t.isLt
  have hi : (val_main_v17 (F := Ideal) (ix3 ⟨t.val / 128, by omega⟩ j 0)).toInt.toNat = 128 * (t.val / 128) + j.val := entry1 ⟨t.val / 128, by omega⟩ j
  rw [dif_pos (by omega)]
  unfold lane
  refine congrArg x1 (congrArg₂ (ix3 b) (Fin.ext ?_) (Fin.ext ?_))
  · unfold keyOf; dsimp only; omega
  · dsimp only; omega

/-- The value of a window's live entry, dilation 1. -/
theorem gv1 (b : Fin 32) (t : Fin 2048) (h : Fin 8) (j : Fin 256) (e : Fin 64) (hl : live 1 t.val j) :
    val_main_v20 (F := Ideal) x2 (ix6 b ⟨t.val / 128, by omega⟩ j 0 h e) = lane x2 b ⟨64 * h.val + e.val, by omega⟩ (keyOf 1 t.val j) := by
  unfold val_main_v20
  rw [show gather_S32x2176x1x8x64_S16x256x1_S32x16x256x1x8x64_0345_1_n_n_1_2_3211864 = winDims _ _ _ _ from rfl, gather_win (by norm_num)]
  unfold live at hl
  pointwise [val_main_v7, val_main_v6, val_main_v2]
  have hj := j.isLt
  have ht := t.isLt
  have hi : (val_main_v19 (F := Ideal) (ix3 ⟨t.val / 128, by omega⟩ j 0)).toInt.toNat = 128 * (t.val / 128) + j.val := entry1 ⟨t.val / 128, by omega⟩ j
  rw [dif_pos (by omega)]
  unfold lane
  refine congrArg x2 (congrArg₂ (ix3 b) (Fin.ext ?_) (Fin.ext ?_))
  · unfold keyOf; dsimp only; omega
  · dsimp only; omega

/-- The masked score, dilation 1. -/
theorem sc1 (hQ : ∀ b t l, x0 (ix3 b t l) = (Q b t l : EReal)) (hK : ∀ b t l, x1 (ix3 b t l) = (K b t l : EReal))
    (b : Fin 32) (t : Fin 2048) (h : Fin 8) (j : Fin 256) :
    val_main_v53 (F := Ideal) x0 x1 (ix6 b ⟨t.val / 128, by omega⟩ 0 h ⟨t.val % 128, by omega⟩ j)
      = if live 1 t.val j then ((score Q K b t h (keyOf 1 t.val j) : ℝ) : EReal) else ⊥ := by
  have hj := j.isLt
  have ht := t.isLt
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v3, val_main_v0, val_main_v12, val_main_v11, val_main_v10, val_main_v9, val_main_v8, val_main_c, val_main_c_0, val_main_c_1, val_main_cst, val_main_c_2, val_main_c_3, val_main_c_4, val_main_c_5, val_main_c_6, val_main_cst_7, val_main_cst_8, val_main_cst_9, val_main_call0_v0, val_main_call1_v0, val_main_call2_v0, val_main_call2_v1, val_main_call2_v2]
  refine (sel_val (t.val / 128) (t.val % 128) (by omega) (by omega) j _ _ ninf_val).trans ?_
  by_cases hl : live 1 t.val j
  · rw [if_pos hl, if_pos (by unfold live at hl; omega)]
    refine score_val x0 x1 Q K hQ hK b t h (keyOf 1 t.val j) _ _ (fun e => ?_) (fun e => gk1 x1 b t h j e hl)
    refine congrArg x0 (congrArg₂ (ix3 b) (Fin.ext ?_) (Fin.ext ?_)) <;> dsimp only <;> omega
  · rw [if_neg hl, if_neg (by unfold live at hl; omega)]

/-- The log-sum of a row of scores, dilation 1. -/
theorem lse1 (b : Fin 32) (n : Fin 16) (h : Fin 8) (i : Fin 128) (r : Fin 1) :
    val_main_v61 (F := Ideal) x0 x1 (ix5 b n r h i) = lse (fun j => val_main_v53 (F := Ideal) x0 x1 (ix6 b n r h i j)) := by
  pointwise [val_main_v61, val_main_v60, val_main_v59, val_main_v58, val_main_v57, val_main_v56, val_main_v55, val_main_v54, val_main_c, val_main_c_0, val_main_c_1, val_main_cst, val_main_c_2, val_main_c_3, val_main_c_4, val_main_c_5, val_main_c_6, val_main_cst_7, val_main_cst_8, val_main_cst_9, max_r6, sum_r6]
  rw [ninf_val]
  unfold lse
  rw [Fin.fin_one_eq_zero r]

/-- The branch's output, dilation 1. -/
theorem out1 (b : Fin 32) (t : Fin 2048) (h : Fin 8) (e : Fin 64) :
    val_main_v68 (F := Ideal) x0 x1 x2 (ix4 b t h e)
      = ∑ j, val_main_v20 (F := Ideal) x2 (ix6 b ⟨t.val / 128, by omega⟩ j 0 h e)
          * Ideal.exp (val_main_v53 (F := Ideal) x0 x1 (ix6 b ⟨t.val / 128, by omega⟩ 0 h ⟨t.val % 128, by omega⟩ j)
            - lse (fun j => val_main_v53 (F := Ideal) x0 x1 (ix6 b ⟨t.val / 128, by omega⟩ 0 h ⟨t.val % 128, by omega⟩ j))) := by
  pointwise [val_main_v68, val_main_v67, val_main_v66, val_main_v65, val_main_v64, val_main_v63, val_main_v62]
  exact Finset.sum_congr rfl fun j _ => congrArg (fun z : EReal => @HMul.hMul EReal EReal EReal _ _ (Ideal.exp (@HSub.hSub EReal EReal EReal _ _ z))) (lse1 x0 x1 b _ h _ _)

/-- The branch's log-sum at a position, dilation 1. -/
theorem top1 (b : Fin 32) (t : Fin 2048) (h : Fin 8) :
    val_main_v70 (F := Ideal) x0 x1 (ix3 b t h)
      = lse (fun j => val_main_v53 (F := Ideal) x0 x1 (ix6 b ⟨t.val / 128, by omega⟩ 0 h ⟨t.val % 128, by omega⟩ j)) := by
  pointwise [val_main_v70, val_main_v69]
  exact lse1 x0 x1 b _ h _ _

/-! Dilation 4. -/

/-- The row of a window's entry, dilation 4. -/
theorem entry4 (n : Fin 4) (j : Fin 256) :
    (val_main_v85 (F := Ideal) (ix3 n j 0)).toInt.toNat = 128 * n.val + j.val := by
  pointwise [val_main_v85, val_main_v84, val_main_v83, val_main_v82, val_main_v81, val_main_v80, val_main_v79, val_main_v78, val_main_v77, val_main_v76, val_main_c_10, val_main_c_11, val_main_c_12, val_main_cst_13, val_main_c_14, val_main_c_15, val_main_c_16, val_main_c_17, val_main_c_18, val_main_cst_19, val_main_cst_20, val_main_cst_21]
  exact row_val ⟨n.val, by omega⟩ j

/-- The key of a window's live entry, dilation 4. -/
theorem gk4 (b : Fin 32) (t : Fin 2048) (h : Fin 8) (j : Fin 256) (e : Fin 64) (hl : live 4 t.val j) :
    val_main_v86 (F := Ideal) x1 (ix6 b ⟨t.val / 512, by omega⟩ j ⟨t.val % 4, by omega⟩ h e) = lane x1 b ⟨64 * h.val + e.val, by omega⟩ (keyOf 4 t.val j) := by
  unfold val_main_v86
  rw [show gather_S32x640x4x8x64_S4x256x1_S32x4x256x4x8x64_0345_1_n_n_1_2_3214864 = winDims _ _ _ _ from rfl, gather_win (by norm_num)]
  unfold live at hl
  pointwise [val_main_v73, val_main_v72, val_main_v1]
  have hj := j.isLt
  have ht := t.isLt
  have hi : (val_main_v85 (F := Ideal) (ix3 ⟨t.val / 512, by omega⟩ j 0)).toInt.toNat = 128 * (t.val / 512) + j.val := entry4 ⟨t.val / 512, by omega⟩ j
  rw [dif_pos (by omega)]
  unfold lane
  refine congrArg x1 (congrArg₂ (ix3 b) (Fin.ext ?_) (Fin.ext ?_))
  · unfold keyOf; dsimp only; omega
  · dsimp only; omega

/-- The value of a window's live entry, dilation 4. -/
theorem gv4 (b : Fin 32) (t : Fin 2048) (h : Fin 8) (j : Fin 256) (e : Fin 64) (hl : live 4 t.val j) :
    val_main_v88 (F := Ideal) x2 (ix6 b ⟨t.val / 512, by omega⟩ j ⟨t.val % 4, by omega⟩ h e) = lane x2 b ⟨64 * h.val + e.val, by omega⟩ (keyOf 4 t.val j) := by
  unfold val_main_v88
  rw [show gather_S32x640x4x8x64_S4x256x1_S32x4x256x4x8x64_0345_1_n_n_1_2_3214864 = winDims _ _ _ _ from rfl, gather_win (by norm_num)]
  unfold live at hl
  pointwise [val_main_v75, val_main_v74, val_main_v2]
  have hj := j.isLt
  have ht := t.isLt
  have hi : (val_main_v87 (F := Ideal) (ix3 ⟨t.val / 512, by omega⟩ j 0)).toInt.toNat = 128 * (t.val / 512) + j.val := entry4 ⟨t.val / 512, by omega⟩ j
  rw [dif_pos (by omega)]
  unfold lane
  refine congrArg x2 (congrArg₂ (ix3 b) (Fin.ext ?_) (Fin.ext ?_))
  · unfold keyOf; dsimp only; omega
  · dsimp only; omega

/-- The masked score, dilation 4. -/
theorem sc4 (hQ : ∀ b t l, x0 (ix3 b t l) = (Q b t l : EReal)) (hK : ∀ b t l, x1 (ix3 b t l) = (K b t l : EReal))
    (b : Fin 32) (t : Fin 2048) (h : Fin 8) (j : Fin 256) :
    val_main_v121 (F := Ideal) x0 x1 (ix6 b ⟨t.val / 512, by omega⟩ ⟨t.val % 4, by omega⟩ h ⟨t.val / 4 % 128, by omega⟩ j)
      = if live 4 t.val j then ((score Q K b t h (keyOf 4 t.val j) : ℝ) : EReal) else ⊥ := by
  have hj := j.isLt
  have ht := t.isLt
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v71, val_main_v0, val_main_v80, val_main_v79, val_main_v78, val_main_v77, val_main_v76, val_main_c_10, val_main_c_11, val_main_c_12, val_main_cst_13, val_main_c_14, val_main_c_15, val_main_c_16, val_main_c_17, val_main_c_18, val_main_cst_19, val_main_cst_20, val_main_cst_21, val_main_call3_v0, val_main_call4_v0, val_main_call5_v0, val_main_call5_v1, val_main_call5_v2]
  refine (sel_val (t.val / 512) (t.val / 4 % 128) (by omega) (by omega) j _ _ ninf_val).trans ?_
  by_cases hl : live 4 t.val j
  · rw [if_pos hl, if_pos (by unfold live at hl; omega)]
    refine score_val x0 x1 Q K hQ hK b t h (keyOf 4 t.val j) _ _ (fun e => ?_) (fun e => gk4 x1 b t h j e hl)
    refine congrArg x0 (congrArg₂ (ix3 b) (Fin.ext ?_) (Fin.ext ?_)) <;> dsimp only <;> omega
  · rw [if_neg hl, if_neg (by unfold live at hl; omega)]

/-- The log-sum of a row of scores, dilation 4. -/
theorem lse4 (b : Fin 32) (n : Fin 4) (h : Fin 8) (i : Fin 128) (r : Fin 4) :
    val_main_v129 (F := Ideal) x0 x1 (ix5 b n r h i) = lse (fun j => val_main_v121 (F := Ideal) x0 x1 (ix6 b n r h i j)) := by
  pointwise [val_main_v129, val_main_v128, val_main_v127, val_main_v126, val_main_v125, val_main_v124, val_main_v123, val_main_v122, val_main_c_10, val_main_c_11, val_main_c_12, val_main_cst_13, val_main_c_14, val_main_c_15, val_main_c_16, val_main_c_17, val_main_c_18, val_main_cst_19, val_main_cst_20, val_main_cst_21, max_r6, sum_r6]
  rw [ninf_val]
  unfold lse
  rfl

/-- The branch's output, dilation 4. -/
theorem out4 (b : Fin 32) (t : Fin 2048) (h : Fin 8) (e : Fin 64) :
    val_main_v136 (F := Ideal) x0 x1 x2 (ix4 b t h e)
      = ∑ j, val_main_v88 (F := Ideal) x2 (ix6 b ⟨t.val / 512, by omega⟩ j ⟨t.val % 4, by omega⟩ h e)
          * Ideal.exp (val_main_v121 (F := Ideal) x0 x1 (ix6 b ⟨t.val / 512, by omega⟩ ⟨t.val % 4, by omega⟩ h ⟨t.val / 4 % 128, by omega⟩ j)
            - lse (fun j => val_main_v121 (F := Ideal) x0 x1 (ix6 b ⟨t.val / 512, by omega⟩ ⟨t.val % 4, by omega⟩ h ⟨t.val / 4 % 128, by omega⟩ j))) := by
  pointwise [val_main_v136, val_main_v135, val_main_v134, val_main_v133, val_main_v132, val_main_v131, val_main_v130]
  exact Finset.sum_congr rfl fun j _ => congrArg (fun z : EReal => @HMul.hMul EReal EReal EReal _ _ (Ideal.exp (@HSub.hSub EReal EReal EReal _ _ z))) (lse4 x0 x1 b _ h _ _)

/-- The branch's log-sum at a position, dilation 4. -/
theorem top4 (b : Fin 32) (t : Fin 2048) (h : Fin 8) :
    val_main_v138 (F := Ideal) x0 x1 (ix3 b t h)
      = lse (fun j => val_main_v121 (F := Ideal) x0 x1 (ix6 b ⟨t.val / 512, by omega⟩ ⟨t.val % 4, by omega⟩ h ⟨t.val / 4 % 128, by omega⟩ j)) := by
  pointwise [val_main_v138, val_main_v137]
  exact lse4 x0 x1 b _ h _ _

/-! Dilation 16. -/

/-- The row of a window's entry, dilation 16. -/
theorem entry16 (n : Fin 1) (j : Fin 256) :
    (val_main_v152 (F := Ideal) (ix3 n j 0)).toInt.toNat = 128 * n.val + j.val := by
  pointwise [val_main_v152, val_main_v151, val_main_v150, val_main_v149, val_main_v148, val_main_v147, val_main_v146, val_main_v145, val_main_v144, val_main_c_22, val_main_c_23, val_main_c_24, val_main_cst_25, val_main_c_26, val_main_c_27, val_main_c_28, val_main_c_29, val_main_c_30, val_main_cst_31, val_main_cst_32, val_main_cst_33]
  exact (row_val 0 j).trans (by simp)

/-- The key of a window's live entry, dilation 16. -/
theorem gk16 (b : Fin 32) (t : Fin 2048) (h : Fin 8) (j : Fin 256) (e : Fin 64) (hl : live 16 t.val j) :
    val_main_v153 (F := Ideal) x1 (ix6 b 0 j ⟨t.val % 16, by omega⟩ h e) = lane x1 b ⟨64 * h.val + e.val, by omega⟩ (keyOf 16 t.val j) := by
  unfold val_main_v153
  rw [show gather_S32x256x16x8x64_S1x256x1_S32x1x256x16x8x64_0345_1_n_n_1_2_32116864 = winDims _ _ _ _ from rfl, gather_win (by norm_num)]
  unfold live at hl
  pointwise [val_main_v141, val_main_v140, val_main_v1]
  have hj := j.isLt
  have ht := t.isLt
  have hi : (val_main_v152 (F := Ideal) (ix3 (0 : Fin 1) j 0)).toInt.toNat = 128 * (0) + j.val := entry16 0 j
  rw [dif_pos (by omega)]
  unfold lane
  refine congrArg x1 (congrArg₂ (ix3 b) (Fin.ext ?_) (Fin.ext ?_))
  · unfold keyOf; dsimp only; omega
  · dsimp only; omega

/-- The value of a window's live entry, dilation 16. -/
theorem gv16 (b : Fin 32) (t : Fin 2048) (h : Fin 8) (j : Fin 256) (e : Fin 64) (hl : live 16 t.val j) :
    val_main_v155 (F := Ideal) x2 (ix6 b 0 j ⟨t.val % 16, by omega⟩ h e) = lane x2 b ⟨64 * h.val + e.val, by omega⟩ (keyOf 16 t.val j) := by
  unfold val_main_v155
  rw [show gather_S32x256x16x8x64_S1x256x1_S32x1x256x16x8x64_0345_1_n_n_1_2_32116864 = winDims _ _ _ _ from rfl, gather_win (by norm_num)]
  unfold live at hl
  pointwise [val_main_v143, val_main_v142, val_main_v2]
  have hj := j.isLt
  have ht := t.isLt
  have hi : (val_main_v154 (F := Ideal) (ix3 (0 : Fin 1) j 0)).toInt.toNat = 128 * (0) + j.val := entry16 0 j
  rw [dif_pos (by omega)]
  unfold lane
  refine congrArg x2 (congrArg₂ (ix3 b) (Fin.ext ?_) (Fin.ext ?_))
  · unfold keyOf; dsimp only; omega
  · dsimp only; omega

/-- The masked score, dilation 16. -/
theorem sc16 (hQ : ∀ b t l, x0 (ix3 b t l) = (Q b t l : EReal)) (hK : ∀ b t l, x1 (ix3 b t l) = (K b t l : EReal))
    (b : Fin 32) (t : Fin 2048) (h : Fin 8) (j : Fin 256) :
    val_main_v186 (F := Ideal) x0 x1 (ix6 b 0 ⟨t.val % 16, by omega⟩ h ⟨t.val / 16, by omega⟩ j)
      = if live 16 t.val j then ((score Q K b t h (keyOf 16 t.val j) : ℝ) : EReal) else ⊥ := by
  have hj := j.isLt
  have ht := t.isLt
  pointwise [val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v139, val_main_v0, val_main_v148, val_main_v147, val_main_v146, val_main_v145, val_main_v144, val_main_c_22, val_main_c_23, val_main_c_24, val_main_cst_25, val_main_c_26, val_main_c_27, val_main_c_28, val_main_c_29, val_main_c_30, val_main_cst_31, val_main_cst_32, val_main_cst_33, val_main_call6_v0, val_main_call7_v0, val_main_call8_v0, val_main_call8_v1, val_main_call8_v2]
  refine (sel_val (0) (t.val / 16) (by omega) (by omega) j _ _ ninf_val).trans ?_
  by_cases hl : live 16 t.val j
  · rw [if_pos hl, if_pos (by unfold live at hl; omega)]
    refine score_val x0 x1 Q K hQ hK b t h (keyOf 16 t.val j) _ _ (fun e => ?_) (fun e => gk16 x1 b t h j e hl)
    refine congrArg x0 (congrArg₂ (ix3 b) (Fin.ext ?_) (Fin.ext ?_)) <;> dsimp only <;> omega
  · rw [if_neg hl, if_neg (by unfold live at hl; omega)]

/-- The log-sum of a row of scores, dilation 16. -/
theorem lse16 (b : Fin 32) (n : Fin 1) (h : Fin 8) (i : Fin 128) (r : Fin 16) :
    val_main_v194 (F := Ideal) x0 x1 (ix5 b n r h i) = lse (fun j => val_main_v186 (F := Ideal) x0 x1 (ix6 b n r h i j)) := by
  pointwise [val_main_v194, val_main_v193, val_main_v192, val_main_v191, val_main_v190, val_main_v189, val_main_v188, val_main_v187, val_main_c_22, val_main_c_23, val_main_c_24, val_main_cst_25, val_main_c_26, val_main_c_27, val_main_c_28, val_main_c_29, val_main_c_30, val_main_cst_31, val_main_cst_32, val_main_cst_33, max_r6, sum_r6]
  rw [ninf_val]
  unfold lse
  rw [Fin.fin_one_eq_zero n]

/-- The branch's output, dilation 16. -/
theorem out16 (b : Fin 32) (t : Fin 2048) (h : Fin 8) (e : Fin 64) :
    val_main_v201 (F := Ideal) x0 x1 x2 (ix4 b t h e)
      = ∑ j, val_main_v155 (F := Ideal) x2 (ix6 b 0 j ⟨t.val % 16, by omega⟩ h e)
          * Ideal.exp (val_main_v186 (F := Ideal) x0 x1 (ix6 b 0 ⟨t.val % 16, by omega⟩ h ⟨t.val / 16, by omega⟩ j)
            - lse (fun j => val_main_v186 (F := Ideal) x0 x1 (ix6 b 0 ⟨t.val % 16, by omega⟩ h ⟨t.val / 16, by omega⟩ j))) := by
  pointwise [val_main_v201, val_main_v200, val_main_v199, val_main_v198, val_main_v197, val_main_v196, val_main_v195]
  exact Finset.sum_congr rfl fun j _ => congrArg (fun z : EReal => @HMul.hMul EReal EReal EReal _ _ (Ideal.exp (@HSub.hSub EReal EReal EReal _ _ z))) (lse16 x0 x1 b _ h _ _)

/-- The branch's log-sum at a position, dilation 16. -/
theorem top16 (b : Fin 32) (t : Fin 2048) (h : Fin 8) :
    val_main_v203 (F := Ideal) x0 x1 (ix3 b t h)
      = lse (fun j => val_main_v186 (F := Ideal) x0 x1 (ix6 b 0 ⟨t.val % 16, by omega⟩ h ⟨t.val / 16, by omega⟩ j)) := by
  pointwise [val_main_v203, val_main_v202]
  exact lse16 x0 x1 b _ h _ _

/-- The three branches' rows of scores. -/
def scs (b : Fin 32) (t : Fin 2048) (h : Fin 8) : Fin 3 → Fin 256 → EReal :=
  ![fun j => val_main_v53 (F := Ideal) x0 x1 (ix6 b ⟨t.val / 128, by omega⟩ 0 h ⟨t.val % 128, by omega⟩ j),
    fun j => val_main_v121 (F := Ideal) x0 x1 (ix6 b ⟨t.val / 512, by omega⟩ ⟨t.val % 4, by omega⟩ h ⟨t.val / 4 % 128, by omega⟩ j),
    fun j => val_main_v186 (F := Ideal) x0 x1 (ix6 b 0 ⟨t.val % 16, by omega⟩ h ⟨t.val / 16, by omega⟩ j)]

/-- The three branches' gathered values. -/
def vvs (b : Fin 32) (t : Fin 2048) (h : Fin 8) (e : Fin 64) : Fin 3 → Fin 256 → EReal :=
  ![fun j => val_main_v20 (F := Ideal) x2 (ix6 b ⟨t.val / 128, by omega⟩ j 0 h e),
    fun j => val_main_v88 (F := Ideal) x2 (ix6 b ⟨t.val / 512, by omega⟩ j ⟨t.val % 4, by omega⟩ h e),
    fun j => val_main_v155 (F := Ideal) x2 (ix6 b 0 j ⟨t.val % 16, by omega⟩ h e)]

/-- The reference at an index, from the branches' rows. -/
theorem comb_val (b : Fin 32) (t : Fin 2048) (l : Fin 512) :
    val_main_v228 (F := Ideal) x0 x1 x2 (ix3 b t l)
      = ∑ br, Ideal.div (Ideal.exp (lse (scs x0 x1 b t ⟨l.val / 64, by omega⟩ br)
            - max ⊥ (Finset.fold max ⊥ (fun k => lse (scs x0 x1 b t ⟨l.val / 64, by omega⟩ k)) Finset.univ)))
          (∑ k, Ideal.exp (lse (scs x0 x1 b t ⟨l.val / 64, by omega⟩ k)
            - max ⊥ (Finset.fold max ⊥ (fun k => lse (scs x0 x1 b t ⟨l.val / 64, by omega⟩ k)) Finset.univ)))
        * ∑ j, vvs x2 b t ⟨l.val / 64, by omega⟩ ⟨l.val % 64, by omega⟩ br j
            * Ideal.exp (scs x0 x1 b t ⟨l.val / 64, by omega⟩ br j - lse (scs x0 x1 b t ⟨l.val / 64, by omega⟩ br)) := by
  pointwise [val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_cst_34, val_main_cst_35, val_main_cst_36, val_main_cst_37]
  have hL : ∀ x : Fin 3, (if h : x.val < 1 then val_main_v70 (F := Ideal) x0 x1 (ix3 b t ⟨l.val / 64, by omega⟩)
      else if h : x.val - 1 < 1 then val_main_v138 (F := Ideal) x0 x1 (ix3 b t ⟨l.val / 64, by omega⟩)
      else val_main_v203 (F := Ideal) x0 x1 (ix3 b t ⟨l.val / 64, by omega⟩)) = lse (scs x0 x1 b t ⟨l.val / 64, by omega⟩ x) := fun x => by
    match x with
    | 0 => exact top1 x0 x1 b t _
    | 1 => exact top4 x0 x1 b t _
    | 2 => exact top16 x0 x1 b t _
  have hO : ∀ x : Fin 3, (if h : x.val < 1 then val_main_v68 (F := Ideal) x0 x1 x2 (ix4 b t ⟨l.val / 64, by omega⟩ ⟨l.val % 64, by omega⟩)
      else if h : x.val - 1 < 1 then val_main_v136 (F := Ideal) x0 x1 x2 (ix4 b t ⟨l.val / 64, by omega⟩ ⟨l.val % 64, by omega⟩)
      else val_main_v201 (F := Ideal) x0 x1 x2 (ix4 b t ⟨l.val / 64, by omega⟩ ⟨l.val % 64, by omega⟩))
      = ∑ j, vvs x2 b t ⟨l.val / 64, by omega⟩ ⟨l.val % 64, by omega⟩ x j
            * Ideal.exp (scs x0 x1 b t ⟨l.val / 64, by omega⟩ x j - lse (scs x0 x1 b t ⟨l.val / 64, by omega⟩ x)) := fun x => by
    match x with
    | 0 => exact out1 x0 x1 x2 b t _ _
    | 1 => exact out4 x0 x1 x2 b t _ _
    | 2 => exact out16 x0 x1 x2 b t _ _
  simp only [hL, hO, ninf_val]

/-- The reference's value at an index. -/
theorem ref_val (hQ : ∀ b t l, x0 (ix3 b t l) = (Q b t l : EReal)) (hK : ∀ b t l, x1 (ix3 b t l) = (K b t l : EReal))
    (b : Fin 32) (t : Fin 2048) (l : Fin 512) :
    val_main_v228 (F := Ideal) x0 x1 x2 (ix3 b t l)
      = Att t.val (score Q K b t ⟨l.val / 64, by omega⟩) (lane x2 b l) := by
  refine (comb_val x0 x1 x2 b t l).trans (ref_row t.val t.isLt _ _ _ _ (fun br j => ?_) (fun br j hl => ?_))
  · match br with
    | 0 => exact sc1 x0 x1 Q K hQ hK b t _ j
    | 1 => exact sc4 x0 x1 Q K hQ hK b t _ j
    | 2 => exact sc16 x0 x1 Q K hQ hK b t _ j
  · have hlane : lane x2 b ⟨64 * (l.val / 64) + l.val % 64, by omega⟩ = lane x2 b l :=
      congrArg (lane x2 b) (Fin.ext (Nat.div_add_mod l.val 64))
    match br with
    | 0 => exact (gv1 x2 b t _ j _ hl).trans (congrFun hlane _)
    | 1 => exact (gv4 x2 b t _ j _ hl).trans (congrFun hlane _)
    | 2 => exact (gv16 x2 b t _ j _ hl).trans (congrFun hlane _)

end Cert.Attn
-- ==== Proof.Finite.lean ====
module
public import proofs.«01_k».proof.Defs
public import Idealize.ShloMosaic.Lib.Pointwise
public import Idealize.ShloMosaic.Lib.IdealHost
public import proofs.«01_k».proof.Proof.Bias

/-! What the precondition says: the queries, the keys and the two gains are real numbers. -/

@[expose] public section
noncomputable section
namespace Cert.Attn
open Idealize.ShloMosaic

/-- A conjunction of bits is one only where each is. -/
theorem fold_one {ι : Type} (s : Finset ι) (x : ι → BitVec 1) (h : s.fold IntOp.andi 1#1 x = 1#1) : ∀ i ∈ s, x i = 1#1 := by
  classical
  induction s using Finset.induction_on with
  | empty => intro i hi; simp at hi
  | insert a s ha ih =>
    rw [Finset.fold_insert ha] at h
    obtain ⟨h1, h2⟩ := (show ∀ a b : BitVec 1, IntOp.andi a b = 1#1 → a = 1#1 ∧ b = 1#1 by decide) _ _ h
    intro i hi
    rcases Finset.mem_insert.mp hi with rfl | hi
    · exact h1
    · exact ih h2 i hi

/-- A number below infinity in absolute value is real. -/
theorem real_of_lt (v : EReal) (h : Ideal.cmp .olt (max v (-v)) (Ideal.ofBits FTy.f32 2139095040#32) = 1#1) : ∃ r : ℝ, v = (r : EReal) := by
  rw [pinf_val] at h
  have hlt : max v (-v) < ⊤ := by
    by_contra hn
    simp [Ideal.cmp, hn] at h
  refine ⟨v.toReal, (EReal.coe_toReal ?_ ?_).symm⟩
  · rintro rfl; simp at hlt
  · rintro rfl; simp at hlt

/-- The finiteness test of an array, read at its entries. -/
theorem finite_entry {s : Shape} (axes : List (Fin s.rank)) (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : ∃ r : ℝ, x i = (r : EReal) := by
  rw [Host.reduce_eq_fold] at h
  exact real_of_lt _ (fold_one _ _ h i (Finset.mem_filter.mpr ⟨Finset.mem_univ _, funext fun a => a.elim0⟩))

/-- The precondition's side conditions. -/
theorem pre_facts : Cert.Pre_finite_scores.Facts where
  bcast_S_S32x2048x512 := by decide
  reducesTo_S32x2048x512_S_d0_1_2 := by decide
  h_S_ := by decide
  bcast_S_S64 := by decide
  reducesTo_S64_S_d0 := by decide

/-- The precondition makes the queries, the keys and the gains real. -/
theorem pre_real (q k v : FVec Ideal ⟨3, ![32, 2048, 512]⟩ .f32) (g h : FVec Ideal ⟨1, ![64]⟩ .f32)
    (hp : (@Cert.Pre_finite_scores.fn pre_facts Ideal _ q k v g h) = fun _ => 1#1) :
    (∀ i, ∃ r : ℝ, q i = (r : EReal)) ∧ (∀ i, ∃ r : ℝ, k i = (r : EReal)) ∧ (∀ i, ∃ r : ℝ, g i = (r : EReal)) ∧ (∀ i, ∃ r : ℝ, h i = (r : EReal)) := by
  have hand : ∀ a b : BitVec 1, IntOp.andi a b = 1#1 → a = 1#1 ∧ b = 1#1 := by decide
  have h0 := congrFun hp ix0
  unfold Cert.Pre_finite_scores.fn Cert.Pre_finite_scores.fn_part1 at h0
  obtain ⟨h0, h4⟩ := hand _ _ h0
  obtain ⟨h0, h3⟩ := hand _ _ h0
  obtain ⟨h1, h2⟩ := hand _ _ h0
  exact ⟨finite_entry _ q _ _ _ _ h1, finite_entry _ k _ _ _ _ h2, finite_entry _ g _ _ _ _ h3, finite_entry _ h _ _ _ _ h4⟩

end Cert.Attn
-- ==== Proof.Ffn.lean ====
module
public import proofs.«01_k».proof.Proof.Gen.Kernel2Ideal.Value
public import Idealize.ShloMosaic.Lib.Pointwise
public import Idealize.ShloMosaic.Lib.IdealHost
public import Idealize.ShloMosaic.Lib.Pipeline.ValueKit.Tiles

/-! The feed-forward call: one token's row as a function of the argument rows and the weights, and the kernel's body,
    whose four groups of rows each compute that function. -/

@[expose] public section
set_option maxRecDepth 16384
noncomputable section
namespace Cert.Ffn
open Idealize.ShloMosaic Idealize.ShloMosaic.TcCoe Idealize.ShloMosaic.Tactic Cert.Kernel2Ideal Cert.Kernel2Ideal.Gen

/-- The batch of a token. -/
def bat (n : Fin 65536) : Fin 32 := ⟨n.val / 2048, by omega⟩

/-- The position of a token in its batch. -/
def pos (n : Fin 65536) : Fin 2048 := ⟨n.val % 2048, by omega⟩

/-- A row divided by its root mean square and scaled by the gains: `cnt` is the number of lanes, as the programs' constant. -/
def nrm {n : ℕ} (cnt : EReal) (v g : Fin n → EReal) (k : Fin n) : EReal :=
  v k * Ideal.rsqrt (Ideal.div (∑ i, v i * v i) cnt + Ideal.ofBits FTy.f32 897988541#32) * g k

/-- The residual row plus both attentions' normalised rows through their halves of the output projection. -/
def mix (x : Fin 1024 → EReal) (f d gf gd : Fin 512 → EReal) (wf wd : Fin 512 → Fin 1024 → EReal) (j : Fin 1024) : EReal :=
  x j + ∑ k, nrm (Ideal.ofBits FTy.f32 1140850688#32) f gf k * wf k j
    + ∑ k, nrm (Ideal.ofBits FTy.f32 1140850688#32) d gd k * wd k j

/-- The normalised row through one of the two matrices that widen it. -/
def wide (x g : Fin 1024 → EReal) (w : Fin 1024 → Fin 2816 → EReal) (f : Fin 2816) : EReal :=
  ∑ k, nrm (Ideal.ofBits FTy.f32 1149239296#32) x g k * w k f

/-- A row plus its gated feed-forward. -/
def ffn (x g : Fin 1024 → EReal) (wg wu : Fin 1024 → Fin 2816 → EReal) (wd : Fin 2816 → Fin 1024 → EReal) (j : Fin 1024) : EReal :=
  x j + ∑ f, wide x g wg f * Ideal.logistic (wide x g wg f) * wide x g wu f * wd f j

/-- The first group's row after the output projection. -/
theorem mix_val (a b : Vec Ideal S256x512 .bf16) (g1 g2 : Vec Ideal S1x512 .f32) (x : Vec Ideal S256x1024 .f32) (w1 w2 : Vec Ideal S512x1024 .bf16)
    (r : Fin 256) (j : Fin 1024) :
    k0_pay6 (k0_pay2 a g1) (k0_pay3 b g2) (k0_pay4 x) (k0_pay5 w1) (constant (F := Ideal) S256x1024 .f32 0x00000000#32) w2 (ix2 r j)
      = mix (fun l => x (ix2 r l)) (fun l => a (ix2 r l)) (fun l => b (ix2 r l)) (fun l => g1 (ix2 0 l)) (fun l => g2 (ix2 0 l))
          (fun k l => w1 (ix2 k l)) (fun k l => w2 (ix2 k l)) j := by
  pointwise [k0_pay6, k0_pay2, k0_pay3, k0_pay4, k0_pay5]
  rfl

/-- The second group's row after the output projection is computed as the first's. -/
theorem mix1 (a b : Vec Ideal S256x512 .bf16) (g1 g2 : Vec Ideal S1x512 .f32) (x : Vec Ideal S256x1024 .f32) (w1 w2 : Vec Ideal S512x1024 .bf16) :
    k0_pay13 (k0_pay10 a) (k0_pay11 g1) (k0_pay12 a) b g2 x w1 w2
      = k0_pay6 (k0_pay2 a g1) (k0_pay3 b g2) (k0_pay4 x) (k0_pay5 w1) (constant (F := Ideal) S256x1024 .f32 0x00000000#32) w2 := rfl

/-- The third group's row after the output projection is computed as the first's. -/
theorem mix2 (a b : Vec Ideal S256x512 .bf16) (g1 g2 : Vec Ideal S1x512 .f32) (x : Vec Ideal S256x1024 .f32) (w1 w2 : Vec Ideal S512x1024 .bf16) :
    k0_pay23 (k0_pay19 a) (k0_pay20 g1) (k0_pay21 a) (k0_pay22 (F := Ideal)) b g2 x w1 w2
      = k0_pay6 (k0_pay2 a g1) (k0_pay3 b g2) (k0_pay4 x) (k0_pay5 w1) (constant (F := Ideal) S256x1024 .f32 0x00000000#32) w2 := rfl

/-- The fourth group's row after the output projection is computed as the first's. -/
theorem mix3 (a b : Vec Ideal S256x512 .bf16) (g1 g2 : Vec Ideal S1x512 .f32) (x : Vec Ideal S256x1024 .f32) (w1 w2 : Vec Ideal S512x1024 .bf16) :
    k0_pay32 (k0_pay29 a) (k0_pay30 g1) (k0_pay31 a) b g2 x w1 w2
      = k0_pay6 (k0_pay2 a g1) (k0_pay3 b g2) (k0_pay4 x) (k0_pay5 w1) (constant (F := Ideal) S256x1024 .f32 0x00000000#32) w2 := rfl

/-- A group's rows after the feed-forward: row `r`, where the rows before it are `M`. -/
theorem tail_val (x : FVec Ideal S256x1024 .f32) (g : Vec Ideal S1x1024 .f32) (wg wu : Vec Ideal S1024x2816 .bf16) (wd : Vec Ideal S2816x1024 .bf16)
    (r : Fin 256) (j : Fin 1024) {M : Fin 1024 → EReal} (hM : ∀ l, x (ix2 r l) = M l) :
    k0_pay34 x (k0_pay27 x g wg) (k0_pay28 x g wu) (k0_pay33 (k0_pay27 x g wg)) wd (ix2 r j)
      = ffn M (fun l => g (ix2 0 l)) (fun k f => wg (ix2 k f)) (fun k f => wu (ix2 k f)) (fun f l => wd (ix2 f l)) j := by
  obtain rfl : (fun l => x (ix2 r l)) = M := funext hM
  pointwise [k0_pay34, k0_pay27, k0_pay28, k0_pay33, k0_pay26]
  simp only [zero_sub]
  rfl

/-- The first group's feed-forward is computed as the third's. -/
theorem tail0 (a b : FVec Ideal S256x512 .bf16) (x : FVec Ideal S256x1024 .f32) (w1 : FVec Ideal S512x1024 .bf16) (z : FVec Ideal S256x1024 .f32)
    (w2 : Vec Ideal S512x1024 .bf16) (g : Vec Ideal S1x1024 .f32) (wg wu : Vec Ideal S1024x2816 .bf16) (wd : Vec Ideal S2816x1024 .bf16) :
    k0_pay15 (k0_pay6 a b x w1 z w2) (k0_pay9 a b x w1 z w2 g wu) (k0_pay14 (k0_pay8 a b x w1 z w2 g wg)) wd
      = k0_pay34 (k0_pay6 a b x w1 z w2) (k0_pay27 (k0_pay6 a b x w1 z w2) g wg) (k0_pay28 (k0_pay6 a b x w1 z w2) g wu)
          (k0_pay33 (k0_pay27 (k0_pay6 a b x w1 z w2) g wg)) wd := rfl

/-- The second group's feed-forward is computed as the third's. -/
theorem tail1 (x : FVec Ideal S256x1024 .f32) (g : Vec Ideal S1x1024 .f32) (wg wu : Vec Ideal S1024x2816 .bf16) (wd : Vec Ideal S2816x1024 .bf16) :
    k0_pay25 x (k0_pay17 x g wg) (k0_pay18 x g wu) (k0_pay24 (k0_pay17 x g wg)) wd
      = k0_pay34 x (k0_pay27 x g wg) (k0_pay28 x g wu) (k0_pay33 (k0_pay27 x g wg)) wd := rfl

/-- The fourth group's feed-forward is computed as the third's. -/
theorem tail3 (x : FVec Ideal S256x1024 .f32) (g : Vec Ideal S1x1024 .f32) (wg wu : Vec Ideal S1024x2816 .bf16) (wd : Vec Ideal S2816x1024 .bf16) :
    k0_pay1 x (k0_pay36 x g wg) (k0_pay37 x g wu) (k0_pay38 x g wg) wd
      = k0_pay34 x (k0_pay27 x g wg) (k0_pay28 x g wu) (k0_pay33 (k0_pay27 x g wg)) wd := rfl

/-- A block of 1024 tokens after the call, from the blocks of the arguments. -/
def Blk (x0 : Vec Ideal S1024x1024 .f32) (x1 x2 : Vec Ideal S1024x512 .bf16) (x3 x4 : Vec Ideal S1x512 .f32) (x5 x6 : Vec Ideal S512x1024 .bf16)
    (x7 : Vec Ideal S1x1024 .f32) (x8 x9 : Vec Ideal S1024x2816 .bf16) (x10 : Vec Ideal S2816x1024 .bf16) (y : S1024x1024.Idx) : EReal :=
  ffn (mix (fun l => x0 (ix2 (y 0) l)) (fun l => x1 (ix2 (y 0) l)) (fun l => x2 (ix2 (y 0) l)) (fun l => x3 (ix2 0 l)) (fun l => x4 (ix2 0 l))
      (fun k l => x5 (ix2 k l)) (fun k l => x6 (ix2 k l)))
    (fun l => x7 (ix2 0 l)) (fun k f => x8 (ix2 k f)) (fun k f => x9 (ix2 k f)) (fun f l => x10 (ix2 f l)) (y 1)

/-- A load of 256 rows of a block reads the block's rows. -/
theorem ld_rows {n : ℕ} {e : EltTy} (x : Vec Ideal ⟨2, ![1024, n]⟩ e) {o : ℕ}
    (inb : ∀ a, (![o, 0] : Fin 2 → ℕ) a + (![256, n] : Fin 2 → ℕ) a ≤ (⟨2, ![1024, n]⟩ : Shape).size a) (r : Fin 256) (l : Fin n) (q : Fin 1024) (hq : q.val = o + r.val) :
    View.ld x (Rect.unit (s := ⟨2, ![1024, n]⟩) ![o, 0] ![256, n] inb) (ix2 r l) = x (ix2 q l) :=
  congrArg x (funext fun a => Fin.ext (by
    match a with
    | ⟨0, _⟩ => show o + 1 * r.val = q.val; omega
    | ⟨1, _⟩ => show 0 + 1 * l.val = l.val; omega))

/-- A load of a whole matrix reads the matrix. -/
theorem ld_all {p n : ℕ} {e : EltTy} (x : Vec Ideal ⟨2, ![p, n]⟩ e)
    (inb : ∀ a, (![0, 0] : Fin 2 → ℕ) a + (![p, n] : Fin 2 → ℕ) a ≤ (⟨2, ![p, n]⟩ : Shape).size a) (r : Fin p) (l : Fin n) :
    View.ld x (Rect.unit (s := ⟨2, ![p, n]⟩) ![0, 0] ![p, n] inb) (ix2 r l) = x (ix2 r l) :=
  congrArg x (funext fun a => Fin.ext (by
    match a with
    | ⟨0, _⟩ => show 0 + 1 * r.val = r.val; omega
    | ⟨1, _⟩ => show 0 + 1 * l.val = l.val; omega))

/-- A group's stored rows hold the specification. -/
theorem group_val (x0 : Vec Ideal S1024x1024 .f32) (x1 x2 : Vec Ideal S1024x512 .bf16) (x3 x4 : Vec Ideal S1x512 .f32) (x5 x6 : Vec Ideal S512x1024 .bf16)
    (x7 : Vec Ideal S1x1024 .f32) (x8 x9 : Vec Ideal S1024x2816 .bf16) (x10 : Vec Ideal S2816x1024 .bf16) {o : ℕ}
    (inbx : ∀ a, (![o, 0] : Fin 2 → ℕ) a + S256x1024.size a ≤ S1024x1024.size a)
    (inb : ∀ a, (![o, 0] : Fin 2 → ℕ) a + S256x512.size a ≤ S1024x512.size a) {X : FVec Ideal S256x1024 .f32} {pay : FVec Ideal S256x1024 .f32}
    (hX : X = k0_pay6 (k0_pay2 (View.ld x1 (Rect.unit (s := S1024x512) ![o, 0] S256x512.size inb)) (View.ld x3 r0_1))
      (k0_pay3 (View.ld x2 (Rect.unit (s := S1024x512) ![o, 0] S256x512.size inb)) (View.ld x4 r0_1))
      (k0_pay4 (View.ld x0 (Rect.unit (s := S1024x1024) ![o, 0] S256x1024.size inbx))) (k0_pay5 (View.ld x5 r0_3))
      (constant (F := Ideal) S256x1024 .f32 0x00000000#32) (View.ld x6 r0_3))
    (hp : pay = k0_pay34 X (k0_pay27 X (View.ld x7 r0_4) (View.ld x8 r0_5)) (k0_pay28 X (View.ld x7 r0_4) (View.ld x9 r0_5))
      (k0_pay33 (k0_pay27 X (View.ld x7 r0_4) (View.ld x8 r0_5))) (View.ld x10 r0_8)) (x : S256x1024.Idx) :
    pay x = Blk x0 x1 x2 x3 x4 x5 x6 x7 x8 x9 x10 ((Rect.unit (s := S1024x1024) ![o, 0] S256x1024.size inbx).emb x) := by
  obtain ⟨r, j, rfl⟩ : ∃ (r : Fin 256) (j : Fin 1024), x = ix2 r j :=
    ⟨x 0, x 1, funext fun a => Fin.ext (by match a with | ⟨0, _⟩ => rfl | ⟨1, _⟩ => rfl)⟩
  have ho : o + 256 ≤ 1024 := inbx 0
  have he : (Rect.unit (s := S1024x1024) ![o, 0] S256x1024.size inbx).emb (ix2 r j) = ix2 (⟨o + r.val, by omega⟩ : Fin 1024) j :=
    funext fun a => Fin.ext (by
      match a with
      | ⟨0, _⟩ => show o + 1 * r.val = o + r.val; omega
      | ⟨1, _⟩ => show 0 + 1 * j.val = j.val; omega)
  rw [he, hp, tail_val X _ _ _ _ r j (fun l => (congrFun hX _).trans (mix_val _ _ _ _ _ _ _ r l))]
  show ffn _ _ _ _ _ j = ffn _ _ _ _ _ j
  congr 1
  · refine congr (congr (congr (congr (congr (congr (congrArg mix ?_) ?_) ?_) ?_) ?_) ?_) ?_
    · exact funext fun l => ld_rows x0 inbx r l _ rfl
    · exact funext fun l => ld_rows x1 inb r l _ rfl
    · exact funext fun l => ld_rows x2 inb r l _ rfl
    · exact funext fun l => ld_all x3 _ 0 l
    · exact funext fun l => ld_all x4 _ 0 l
    · exact funext fun k => funext fun l => ld_all x5 _ k l
    · exact funext fun k => funext fun l => ld_all x6 _ k l
  · exact funext fun l => ld_all x7 _ 0 l
  · exact funext fun k => funext fun l => ld_all x8 _ k l
  · exact funext fun k => funext fun l => ld_all x9 _ k l
  · exact funext fun k => funext fun l => ld_all x10 _ k l

/-- What the body leaves in the output's staging buffer. -/
theorem out_val (x0 : Vec Ideal S1024x1024 .f32) (x1 x2 : Vec Ideal S1024x512 .bf16) (x3 x4 : Vec Ideal S1x512 .f32) (x5 x6 : Vec Ideal S512x1024 .bf16)
    (x7 : Vec Ideal S1x1024 .f32) (x8 x9 : Vec Ideal S1024x2816 .bf16) (x10 : Vec Ideal S2816x1024 .bf16) (y : S1024x1024.Idx) :
    out0_11 x0 x1 x2 x3 x4 x5 x6 x7 x8 x9 x10 y = Blk x0 x1 x2 x3 x4 x5 x6 x7 x8 x9 x10 y := by
  unfold out0_11
  refine View.canon_eq_of_allAt _ y _ (cover0_11 _ _ _ _ y) fun p hp x hx => ?_
  subst hx
  simp only [List.mem_cons, List.not_mem_nil, or_false] at hp
  rcases hp with rfl | rfl | rfl | rfl
  · exact group_val x0 x1 x2 x3 x4 x5 x6 x7 x8 x9 x10 inb_S1024x1024_S256x1024_768_0 inb_S1024x512_S256x512_768_0 (mix3 _ _ _ _ _ _ _) (tail3 _ _ _ _ _) x
  · exact group_val x0 x1 x2 x3 x4 x5 x6 x7 x8 x9 x10 inb_S1024x1024_S256x1024_512_0 inb_S1024x512_S256x512_512_0 (mix2 _ _ _ _ _ _ _) rfl x
  · exact group_val x0 x1 x2 x3 x4 x5 x6 x7 x8 x9 x10 inb_S1024x1024_S256x1024_256_0 inb_S1024x512_S256x512_256_0 (mix1 _ _ _ _ _ _ _) (tail1 _ _ _ _ _) x
  · exact group_val x0 x1 x2 x3 x4 x5 x6 x7 x8 x9 x10 inb_S1024x1024_S256x1024_0_0 inb_S1024x512_S256x512_0_0 rfl (tail0 _ _ _ _ _ _ _ _ _ _) x
end Cert.Ffn
end
-- ==== Proof.FfnRef.lean ====
module
public import proofs.«01_k».proof.Proof.Gen.Reference2Ideal.Read
public import proofs.«01_k».proof.Proof.Ffn

/-! The reference of the feed-forward call, read index by index: each token's row is the function of the arguments' rows
    that the kernel computes. -/

@[expose] public section
set_option maxRecDepth 16384
noncomputable section
namespace Cert.Ffn
open Idealize.ShloMosaic Idealize.ShloMosaic.Tactic Cert.Reference2Ideal Cert.Reference2Ideal.Read

variable (x0 : Vec Ideal S32x2048x1024 .f32) (x1 x2 : Vec Ideal S32x2048x512 .f32) (x3 x4 : Vec Ideal S512 .f32) (x5 : Vec Ideal S1024x1024 .f32)
  (x6 : Vec Ideal S1024 .f32) (x7 x8 : Vec Ideal S1024x2816 .f32) (x9 : Vec Ideal S2816x1024 .f32)

/-- The forgetting attention's output, normalised. -/
theorem fox_val (b : Fin 32) (t : Fin 2048) (l : Fin 512) :
    val_main_v12 (F := Ideal) x1 x3 (ix3 b t l) = nrm (Ideal.ofBits FTy.f32 1140850688#32) (fun l => x1 (ix3 b t l)) (fun l => x3 (ix1 l)) l := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12]
  rfl

/-- The dilated attention's output, normalised. -/
theorem dil_val (b : Fin 32) (t : Fin 2048) (l : Fin 512) :
    val_main_v25 (F := Ideal) x2 x4 (ix3 b t l) = nrm (Ideal.ofBits FTy.f32 1140850688#32) (fun l => x2 (ix3 b t l)) (fun l => x4 (ix1 l)) l := by
  pointwise [val_main_v13, val_main_cst_2, val_main_v14, val_main_v15, val_main_cst_3, val_main_v16, val_main_v17, val_main_cst_4, val_main_v18,
    val_main_v19, val_main_v20, val_main_v21, val_main_v22, val_main_v23, val_main_v24, val_main_v25]
  rfl

/-- The first 512 lanes of the two outputs side by side are the forgetting attention's. -/
theorem cat_lo (b : Fin 32) (t : Fin 2048) (k : Fin 512) :
    val_main_v26 (F := Ideal) x1 x2 x3 x4 (ix3 b t ⟨k.val, by omega⟩) = val_main_v12 (F := Ideal) x1 x3 (ix3 b t k) := by
  unfold val_main_v26
  generalize val_main_v12 (F := Ideal) x1 x3 = u
  generalize val_main_v25 (F := Ideal) x2 x4 = v
  pointwise []

/-- The other 512 lanes are the dilated attention's. -/
theorem cat_hi (b : Fin 32) (t : Fin 2048) (k : Fin 512) :
    val_main_v26 (F := Ideal) x1 x2 x3 x4 (ix3 b t ⟨512 + k.val, by omega⟩) = val_main_v25 (F := Ideal) x2 x4 (ix3 b t k) := by
  unfold val_main_v26
  generalize val_main_v12 (F := Ideal) x1 x3 = u
  generalize val_main_v25 (F := Ideal) x2 x4 = v
  pointwise []

/-- A token's row after the output projection. -/
theorem ref_mix (b : Fin 32) (t : Fin 2048) (j : Fin 1024) :
    val_main_v28 (F := Ideal) x0 x1 x2 x3 x4 x5 (ix3 b t j)
      = mix (fun l => x0 (ix3 b t l)) (fun l => x1 (ix3 b t l)) (fun l => x2 (ix3 b t l)) (fun l => x3 (ix1 l)) (fun l => x4 (ix1 l))
          (fun k l => x5 (ix2 ⟨k.val, by omega⟩ l)) (fun k l => x5 (ix2 ⟨512 + k.val, by omega⟩ l)) j := by
  have h : val_main_v28 (F := Ideal) x0 x1 x2 x3 x4 x5 (ix3 b t j)
      = (x0 (ix3 b t j) : EReal) + ∑ k : Fin (512 + 512), val_main_v26 (F := Ideal) x1 x2 x3 x4 (ix3 b t k) * x5 (ix2 k j) := by
    unfold val_main_v28 val_main_v27
    generalize val_main_v26 (F := Ideal) x1 x2 x3 x4 = u
    pointwise []
  rw [h, Fin.sum_univ_add, ← add_assoc]
  unfold mix
  refine congr (congrArg _ (congr (congrArg _ rfl) (Finset.sum_congr rfl fun k _ => ?_))) (Finset.sum_congr rfl fun k _ => ?_)
  · exact congrArg (· * x5 (ix2 ⟨k.val, by omega⟩ j)) ((cat_lo x1 x2 x3 x4 b t k).trans (fox_val x1 x3 b t k))
  · exact congrArg (· * x5 (ix2 ⟨512 + k.val, by omega⟩ j)) ((cat_hi x1 x2 x3 x4 b t k).trans (dil_val x2 x4 b t k))

/-- A token's row, at the reference's end. -/
theorem ref_ffn (b : Fin 32) (t : Fin 2048) (j : Fin 1024) {M : Fin 1024 → EReal}
    (hM : ∀ l, val_main_v28 (F := Ideal) x0 x1 x2 x3 x4 x5 (ix3 b t l) = M l) :
    val_main_v47 (F := Ideal) x0 x1 x2 x3 x4 x5 x6 x7 x8 x9 (ix3 b t j)
      = ffn M (fun l => x6 (ix1 l)) (fun k f => x7 (ix2 k f)) (fun k f => x8 (ix2 k f)) (fun f l => x9 (ix2 f l)) j := by
  obtain rfl : (fun l => val_main_v28 (F := Ideal) x0 x1 x2 x3 x4 x5 (ix3 b t l)) = M := funext hM
  unfold val_main_v47 val_main_v46 val_main_v45 val_main_v44 val_main_call0_v5 val_main_call0_v3 val_main_call0_v1 val_main_call0_v0
    val_main_v43 val_main_v42 val_main_v41 val_main_v38 val_main_v37 val_main_v36 val_main_v35 val_main_v33 val_main_v31 val_main_v30 val_main_v29
  generalize val_main_v28 (F := Ideal) x0 x1 x2 x3 x4 x5 = u
  pointwise [val_main_cst_5, val_main_cst_6, val_main_v32, val_main_cst_7, val_main_v34, val_main_v39, val_main_v40, val_main_call0_v4,
    val_main_call0_v2, val_main_call0_cst, val_main_call0_cst_0]
  rfl

/-- The reference's result, at a token and a lane. -/
theorem ref2_val (n : Fin 65536) (j : Fin 1024) :
    val_main_v48 (F := Ideal) x0 x1 x2 x3 x4 x5 x6 x7 x8 x9 (ix2 n j)
      = ffn (mix (fun l => x0 (ix3 (bat n) (pos n) l)) (fun l => x1 (ix3 (bat n) (pos n) l)) (fun l => x2 (ix3 (bat n) (pos n) l))
            (fun l => x3 (ix1 l)) (fun l => x4 (ix1 l)) (fun k l => x5 (ix2 ⟨k.val, by omega⟩ l)) (fun k l => x5 (ix2 ⟨512 + k.val, by omega⟩ l)))
          (fun l => x6 (ix1 l)) (fun k f => x7 (ix2 k f)) (fun k f => x8 (ix2 k f)) (fun f l => x9 (ix2 f l)) j := by
  refine Eq.trans ?_ (ref_ffn x0 x1 x2 x3 x4 x5 x6 x7 x8 x9 (bat n) (pos n) j (ref_mix x0 x1 x2 x3 x4 x5 (bat n) (pos n)))
  unfold val_main_v48
  generalize val_main_v47 (F := Ideal) x0 x1 x2 x3 x4 x5 x6 x7 x8 x9 = u
  pointwise []
  rfl

end Cert.Ffn
end
-- ==== Proof.ProjRow.lean ====
module
public import proofs.«01_k».proof.Proof.Ffn

/-! The input projection: one token's row as a function of its row of the input and the weights, and the two facts of
    arithmetic by which the kernel's forms of the head-wise norm and of the rotation are the plain ones. -/

@[expose] public section
set_option maxRecDepth 16384
noncomputable section
namespace Cert.Proj
open Idealize.ShloMosaic Cert.Ffn

/-- The input's row, normalised, through 512 columns of the projection. -/
def prow (x g : Fin 1024 → EReal) (w : Fin 1024 → Fin 512 → EReal) (l : Fin 512) : EReal :=
  ∑ k, nrm (Ideal.ofBits FTy.f32 1149239296#32) x g k * w k l

/-- Lane `e` of head `h`. -/
def lane (h : Fin 8) (e : Fin 64) : Fin 512 := ⟨64 * h.val + e.val, by omega⟩

/-- A head's lanes, normalised among themselves. -/
def hrow (p : Fin 512 → EReal) (g : Fin 64 → EReal) (h : Fin 8) (e : Fin 64) : EReal :=
  nrm (Ideal.ofBits FTy.f32 1115684864#32) (fun e => p (lane h e)) g e

/-- A head's lanes, the first eight rotated against the next eight by the angles with cosines `c` and sines `s`. -/
def rot (c s : Fin 8 → EReal) (q : Fin 64 → EReal) (e : Fin 64) : EReal :=
  if h : e.val < 8 then q e * c ⟨e.val, h⟩ - q ⟨e.val + 8, by omega⟩ * s ⟨e.val, h⟩
  else if h' : e.val < 16 then q e * c ⟨e.val - 8, by omega⟩ + q ⟨e.val - 8, by omega⟩ * s ⟨e.val - 8, by omega⟩
  else q e

/-- A positive real factor goes into a sum of extended reals. -/
theorem sum_scaled {ι : Type*} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, mul_comm _ (c : EReal), mul_comm _ (c : EReal), mul_comm _ (c : EReal)]
    exact (EReal.left_distrib_of_nonneg_of_ne_top (EReal.coe_nonneg.mpr hc) (EReal.coe_ne_top c) _ _).symm

/-- The programs' constant 64. -/
theorem c64_val : Ideal.ofBits FTy.f32 1115684864#32 = ((64 : ℝ) : EReal) := by
  simp [Ideal.ofBits, Ideal.ieee, -EReal.coe_mul]; norm_num

/-- A product of squares with the block-diagonal matrix of entries 1/64 is the mean of the head's squares. -/
theorem mean_sq (q : Fin 256 → EReal) (bd : Fin 256 → EReal) (h : Fin 4)
    (hbd : ∀ j, bd j = if j.val / 64 = h.val then ((1 / 64 : ℝ) : EReal) else 0) :
    ∑ j, q j * bd j = Ideal.div (∑ e : Fin 64, q ⟨64 * h.val + e.val, by omega⟩) (Ideal.ofBits FTy.f32 1115684864#32) := by
  rw [c64_val, Ideal.div_coe (by norm_num), ← sum_scaled _ _ _ (by norm_num), ← (finProdFinEquiv (m := 4) (n := 64)).sum_comp, Fintype.sum_prod_type,
    Finset.sum_eq_single h]
  · refine Finset.sum_congr rfl fun e _ => ?_
    have he : finProdFinEquiv (h, e) = (⟨64 * h.val + e.val, by omega⟩ : Fin 256) := Fin.ext (by simp [finProdFinEquiv]; omega)
    rw [he, hbd, if_pos (show (64 * h.val + e.val) / 64 = h.val by omega)]
  · intro h' _ hne
    refine Finset.sum_eq_zero fun e _ => ?_
    have he : finProdFinEquiv (h', e) = (⟨64 * h'.val + e.val, by omega⟩ : Fin 256) := Fin.ext (by simp [finProdFinEquiv]; omega)
    have : h'.val ≠ h.val := fun hh => hne (Fin.ext hh)
    rw [he, hbd, if_neg (show ¬(64 * h'.val + e.val) / 64 = h.val by omega), mul_zero]
  · exact fun hh => absurd (Finset.mem_univ h) hh

end Cert.Proj
end
-- ==== Proof.ProjPay.lean ====
module
public import proofs.«01_k».proof.Proof.Gen.Kernel3Ideal.Skeleton
public import Idealize.ShloMosaic.Lib.Pointwise
public import Idealize.ShloMosaic.Lib.IdealHost
public import proofs.«01_k».proof.Proof.ProjRow

/-! What the projection's body computes of a group of 512 rows. -/

@[expose] public section
set_option maxRecDepth 16384
noncomputable section
namespace Cert.Proj
open Idealize.ShloMosaic Idealize.ShloMosaic.TcCoe Idealize.ShloMosaic.Tactic Cert.Kernel3Ideal Cert.Kernel3Ideal.Gen Cert.Ffn

/-- Normalised rows through 512 columns. -/
def proj (x : Vec Ideal S1x512x1024 .f32) (g : Vec Ideal S1x1024 .f32) (w : Vec Ideal S1024x512 .bf16) : FVec Ideal S512x512 .f32 :=
  k0_pay9 (k0_pay7 x g) w

/-- A group's row `r` through 512 columns. -/
theorem proj_val (x : Vec Ideal S1x512x1024 .f32) (g : Vec Ideal S1x1024 .f32) (w : Vec Ideal S1024x512 .bf16) (r l : Fin 512) :
    proj x g w (ix2 r l) = prow (fun k => x (ix3 0 r k)) (fun k => g (ix2 0 k)) (fun k l => w (ix2 k l)) l := by
  unfold proj
  pointwise [k0_pay9, k0_pay7]
  rfl

/-- Rows whose heads are normalised and scaled. -/
def heads (p : FVec Ideal S512x512 .f32) (bd : Vec Ideal S256x256 .bf16) (gn : Vec Ideal S1x512 .f32) : FVec Ideal S512x512 .f32 :=
  k0_pay45 p (k0_pay32 p bd bd) gn

/-- The first four heads of a normalised row. -/
theorem heads_lo (p : FVec Ideal S512x512 .f32) (bd : Vec Ideal S256x256 .bf16) (gn : Vec Ideal S1x512 .f32) (r : Fin 512) (l : Fin 256) :
    heads p bd gn (ix2 r ⟨l.val, by omega⟩) = p (ix2 r ⟨l.val, by omega⟩) * Ideal.rsqrt ((∑ j : Fin 256, p (ix2 r ⟨j.val, by omega⟩) * p (ix2 r ⟨j.val, by omega⟩) * bd (ix2 j l))
      + Ideal.ofBits FTy.f32 897988541#32) * gn (ix2 0 ⟨l.val, by omega⟩) := by
  unfold heads
  pointwise [k0_pay45, k0_pay32]

/-- The last four heads of a normalised row. -/
theorem heads_hi (p : FVec Ideal S512x512 .f32) (bd : Vec Ideal S256x256 .bf16) (gn : Vec Ideal S1x512 .f32) (r : Fin 512) (l : Fin 256) :
    heads p bd gn (ix2 r ⟨256 + l.val, by omega⟩) = p (ix2 r ⟨256 + l.val, by omega⟩) * Ideal.rsqrt ((∑ j : Fin 256, p (ix2 r ⟨256 + j.val, by omega⟩) * p (ix2 r ⟨256 + j.val, by omega⟩) * bd (ix2 j l))
      + Ideal.ofBits FTy.f32 897988541#32) * gn (ix2 0 ⟨256 + l.val, by omega⟩) := by
  unfold heads
  pointwise [k0_pay45, k0_pay32]

/-- The rotation of 128 lanes as the kernel computes it, by the tables and two rotations of the lanes. -/
theorem rope_val (x c s1 s2 : FVec Ideal S512x128 .f32) (r : Fin 512) (i : Fin 128) :
    k0_pay146 x c s1 s2 (ix3 0 r i) = x (ix2 r i) * c (ix2 r i) + x (ix2 r ⟨(i.val + 8) % 128, by omega⟩) * s1 (ix2 r i)
      + x (ix2 r ⟨(i.val + 120) % 128, by omega⟩) * s2 (ix2 r i) := by
  pointwise [k0_pay146]
  rfl

/-- A slice of 128 lanes. -/
theorem slice_val {o : ℕ} (x : FVec Ideal S512x512 .f32) (h : S512x512.Slices ![0, o] S512x128) (r : Fin 512) (i : Fin 128) (ho : o + 128 ≤ 512) :
    extractStridedSlice S512x128 ![0, o] x h (ix2 r i) = x (ix2 r ⟨o + i.val, by omega⟩) := by
  pointwise []

/-- A normalised row, head by head. -/
theorem heads_val (p : FVec Ideal S512x512 .f32) (bd : Vec Ideal S256x256 .bf16) (gn : Vec Ideal S1x512 .f32) (r : Fin 512) {q : Fin 512 → EReal} {g : Fin 64 → EReal}
    (hp : ∀ l, p (ix2 r l) = q l) (hbd : ∀ i j : Fin 256, bd (ix2 i j) = if i.val / 64 = j.val / 64 then ((1 / 64 : ℝ) : EReal) else 0)
    (hg : ∀ h e, gn (ix2 0 (lane h e)) = g e) (h : Fin 8) (e : Fin 64) :
    heads p bd gn (ix2 r (lane h e)) = hrow q g h e := by
  obtain rfl : (fun l => p (ix2 r l)) = q := funext hp
  rcases Nat.lt_or_ge h.val 4 with h4 | h4
  · refine (heads_lo p bd gn r ⟨64 * h.val + e.val, by omega⟩).trans ?_
    rw [mean_sq (fun j => p (ix2 r ⟨j.val, by omega⟩) * p (ix2 r ⟨j.val, by omega⟩)) (fun j => bd (ix2 j _)) ⟨h.val, h4⟩
      (fun j => (hbd j _).trans (by congr 2; show (64 * h.val + e.val) / 64 = h.val; omega))]
    show _ * gn (ix2 0 (lane h e)) = _
    rw [hg]
    rfl
  · have hl : ∀ e : Fin 64, (⟨256 + (64 * (h.val - 4) + e.val), by omega⟩ : Fin 512) = lane h e := fun e => Fin.ext (by show 256 + (64 * (h.val - 4) + e.val) = 64 * h.val + e.val; omega)
    have := heads_hi p bd gn r ⟨64 * (h.val - 4) + e.val, by omega⟩
    rw [mean_sq (fun j => p (ix2 r ⟨256 + j.val, by omega⟩) * p (ix2 r ⟨256 + j.val, by omega⟩)) (fun j => bd (ix2 j _)) ⟨h.val - 4, by omega⟩
      (fun j => (hbd j _).trans (by congr 2; show (64 * (h.val - 4) + e.val) / 64 = h.val - 4; omega))] at this
    simp only [hl, hg] at this
    exact this

/-- The table of cosines over a head's lanes. -/
def cosT (C : Fin 8 → EReal) (e : Fin 64) : EReal := if h : e.val < 8 then C ⟨e.val, h⟩ else if h' : e.val < 16 then C ⟨e.val - 8, by omega⟩ else 1

/-- The table of the sines that multiply the lanes eight further. -/
def sin1 (S : Fin 8 → EReal) (e : Fin 64) : EReal := if h : e.val < 8 then -S ⟨e.val, h⟩ else 0

/-- The table of the sines that multiply the lanes eight before. -/
def sin2 (S : Fin 8 → EReal) (e : Fin 64) : EReal := if e.val < 8 then 0 else if h' : e.val < 16 then S ⟨e.val - 8, by omega⟩ else 0

/-- Lane `e` of the head `h` of two. -/
def half (h : Fin 2) (e : Fin 64) : Fin 128 := ⟨64 * h.val + e.val, by omega⟩

/-- Two heads' rotation by the tables is the plain one. -/
theorem rot_val (x c s1 s2 : FVec Ideal S512x128 .f32) (r : Fin 512) {q : Fin 64 → EReal} {C S : Fin 8 → EReal} (h : Fin 2)
    (hx : ∀ e, x (ix2 r (half h e)) = q e) (hc : ∀ e, c (ix2 r (half h e)) = cosT C e) (h1 : ∀ e, s1 (ix2 r (half h e)) = sin1 S e)
    (h2 : ∀ e, s2 (ix2 r (half h e)) = sin2 S e) (e : Fin 64) :
    k0_pay146 x c s1 s2 (ix3 0 r (half h e)) = rot C S q e := by
  rw [rope_val, hx, hc, h1, h2]
  unfold cosT sin1 sin2 rot
  by_cases h8 : e.val < 8
  · have : (⟨((half h e).val + 8) % 128, Nat.mod_lt _ (by omega)⟩ : Fin 128) = half h ⟨e.val + 8, by omega⟩ :=
      Fin.ext (by show (64 * h.val + e.val + 8) % 128 = 64 * h.val + (e.val + 8); omega)
    rw [this, hx, dif_pos h8, dif_pos h8, if_pos h8, dif_pos h8, mul_zero, add_zero, mul_neg, ← sub_eq_add_neg]
  by_cases h16 : e.val < 16
  · have : (⟨((half h e).val + 120) % 128, Nat.mod_lt _ (by omega)⟩ : Fin 128) = half h ⟨e.val - 8, by omega⟩ :=
      Fin.ext (by show (64 * h.val + e.val + 120) % 128 = 64 * h.val + (e.val - 8); omega)
    rw [this, hx, dif_neg h8, dif_pos h16, dif_neg h8, if_neg h8, dif_pos h16, dif_neg h8, dif_pos h16, mul_zero, add_zero]
  · rw [dif_neg h8, dif_neg h16, dif_neg h8, if_neg h8, dif_neg h16, dif_neg h8, dif_neg h16, mul_zero, mul_zero, add_zero, add_zero, mul_one]

end Cert.Proj
end
-- ==== Proof.ProjHost.lean ====
module
public import proofs.«01_k».proof.Proof.Gen.Kernel3Ideal.Frame
public import proofs.«01_k».proof.Proof.ProjPay
public import Idealize.ShloMosaic.Lib.StableHlo.RunRead

/-! The input projection's arguments as the host prepares them. -/

@[expose] public section
set_option maxRecDepth 16384
noncomputable section
namespace Cert.Proj
open Idealize.ShloMosaic Idealize.ShloMosaic.TcCoe Idealize.ShloMosaic.Tactic Cert.Kernel3Ideal Cert.Kernel3Ideal.Gen

variable (m : (ℓ : Loc nD τ sig) → Buf (Elt Ideal) ℓ)

/-- What the call is given for the gains of the input's norm. -/
theorem host1 (c : Dev nD) (k : Fin 1024) : V m c main_v89 (ix2 0 k) = (m (c, Proc.tc.devRef main_arg1) (ix1 k) : EReal) := by
  unfold_abbrev_sides
  simp only [List.flatten_cons, List.flatten_nil, List.append_nil, List.cons_append, List.nil_append]
  after_reads_simp
  pointwise []

/-- Column `l` of the projection's column block `j`, among all columns of the weights. -/
def col (j : Fin 6) (l : Fin 512) : Fin 3080 := ⟨if j.val < 3 then 512 * j.val + l.val else 512 * j.val + l.val + 8, by split_ifs <;> omega⟩

/-- Column `l` of the projection's column block `j`, among the columns the call is given. -/
def blkcol (j : Fin 6) (l : Fin 512) : Fin 3072 := ⟨512 * j.val + l.val, by omega⟩

/-- What the call is given for the columns of the projection. -/
theorem host2 (c : Dev nD) (j : Fin 6) (k : Fin 1024) (l : Fin 512) :
    V m c main_v7 (ix2 k (blkcol j l)) = (m (c, Proc.tc.devRef main_arg2) (ix2 k (col j l)) : EReal) := by
  unfold_abbrev_sides
  simp only [List.flatten_cons, List.flatten_nil, List.append_nil, List.cons_append, List.nil_append]
  after_reads_simp
  unfold blkcol
  pointwise []
  split_ifs <;> (after_reads_simp; pointwise []; congr 2; apply Fin.ext; unfold col; dsimp only; split_ifs <;> omega)

/-- What the call is given for the gains of the heads' norms: one row of gains for each of the four. -/
theorem host6 (c : Dev nD) (h : Fin 8) (e : Fin 64) :
    (V m c main_v34 (ix2 0 (lane h e)) = (m (c, Proc.tc.devRef main_arg4) (ix1 e) : EReal)
    ∧ V m c main_v34 (ix2 1 (lane h e)) = (m (c, Proc.tc.devRef main_arg5) (ix1 e) : EReal))
    ∧ (V m c main_v34 (ix2 2 (lane h e)) = (m (c, Proc.tc.devRef main_arg6) (ix1 e) : EReal)
    ∧ V m c main_v34 (ix2 3 (lane h e)) = (m (c, Proc.tc.devRef main_arg7) (ix1 e) : EReal)) := by
  unfold lane
  have he : (64 * h.val + e.val) % 64 = e.val := by omega
  refine ⟨⟨?_, ?_⟩, ?_, ?_⟩
  all_goals
    unfold_abbrev_sides
    simp only [List.flatten_cons, List.flatten_nil, List.append_nil, List.cons_append, List.nil_append]
    after_reads_simp
    pointwise []
    after_reads_simp
    pointwise []
    simp only [he]

/-- The head a lane belongs to, as the host computes it. -/
def fd (n : ℕ) : BitVec 32 :=
  Scalar.select
    (IntOp.andi
      (IntOp.cmpi CmpIPredicate.ne (if BitVec.ofNat 32 n = 0 then 0 else if (BitVec.ofNat 32 n).msb = true then -1 else 1 : BitVec 32)
        (if 64#32 = 0 then 0 else if BitVec.msb 64#32 = true then -1 else 1 : BitVec 32))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

/-- It is the quotient of the lane by a head's width. -/
theorem fd_val : ∀ i : Fin 256, fd i.val = BitVec.ofNat 32 (i.val / 64) := by decide +kernel

/-- Two of the four heads are told apart by their numbers. -/
theorem heads_eq : ∀ a b : Fin 4, IntOp.cmpi CmpIPredicate.eq (BitVec.ofNat 32 a.val) (BitVec.ofNat 32 b.val) = if a.val = b.val then 1#1 else 0#1 := by
  decide +kernel

/-- The mean's factor is one over a head's width. -/
theorem c64_inv : Ideal.ofBits FTy.f32 1015021568#32 = ((1 / 64 : ℝ) : EReal) := by
  simp [Ideal.ofBits, Ideal.ieee, -EReal.coe_mul]; norm_num

/-- What the call is given for the heads' means: within a head, one over its width. -/
theorem host7 (c : Dev nD) (i j : Fin 256) :
    V m c main_v43 (ix2 i j) = if i.val / 64 = j.val / 64 then ((1 / 64 : ℝ) : EReal) else 0 := by
  unfold_abbrev_sides
  simp only [List.flatten_cons, List.flatten_nil, List.append_nil, List.cons_append, List.nil_append]
  after_reads_simp
  simp only [StableHlo.TRef.ofBuf_toBuf, StableHlo.TRef.ofBuf, StableHlo.TRef.toBuf, cast_eq]
  pointwise []
  show Scalar.select (IntOp.cmpi CmpIPredicate.eq (fd i.val) (fd j.val)) (Ideal.ofBits FTy.f32 1015021568#32) (0 : EReal) = _
  rw [fd_val, fd_val, c64_inv]
  have := heads_eq ⟨i.val / 64, by omega⟩ ⟨j.val / 64, by omega⟩
  rw [this]
  by_cases h : i.val / 64 = j.val / 64
  · rw [if_pos h, if_pos h]; rfl
  · rw [if_neg h, if_neg h]; rfl

/-- The angle by which a position turns a frequency's pair of lanes. -/
def ang (t : Fin 2048) (f : Fin 8) : EReal :=
  FloatOps.sitofp (F := Ideal) FTy.f32 (BitVec.ofNat 32 t.val) *
    Ideal.pow (Ideal.ofBits FTy.f32 1223959552#32)
      (Ideal.div (-FloatOps.sitofp (F := Ideal) FTy.f32 (BitVec.ofNat 32 f.val) * Ideal.ofBits FTy.f32 1073741824#32) (Ideal.ofBits FTy.f32 1098907648#32))

/-- What the call is given for the cosines. -/
theorem host8 (c : Dev nD) (t : Fin 2048) (h : Fin 2) (e : Fin 64) :
    V m c main_v70 (ix2 t (half h e)) = cosT (fun f => Ideal.cos (ang t f)) e := by
  unfold_abbrev_sides
  simp only [List.flatten_cons, List.flatten_nil, List.append_nil, List.cons_append, List.nil_append]
  after_reads_simp
  unfold half
  pointwise []
  after_reads_simp
  pointwise []
  unfold cosT
  split_ifs <;> first | rfl | (exfalso; omega)

/-- What the call is given for the sines of the lanes eight further. -/
theorem host9 (c : Dev nD) (t : Fin 2048) (h : Fin 2) (e : Fin 64) :
    V m c main_v73 (ix2 t (half h e)) = sin1 (fun f => Ideal.sin (ang t f)) e := by
  unfold_abbrev_sides
  simp only [List.flatten_cons, List.flatten_nil, List.append_nil, List.cons_append, List.nil_append]
  after_reads_simp
  unfold half
  pointwise []
  after_reads_simp
  pointwise []
  unfold sin1
  split_ifs <;> first | rfl | (exfalso; omega)

/-- What the call is given for the sines of the lanes eight before. -/
theorem host10 (c : Dev nD) (t : Fin 2048) (h : Fin 2) (e : Fin 64) :
    V m c main_v76 (ix2 t (half h e)) = sin2 (fun f => Ideal.sin (ang t f)) e := by
  unfold_abbrev_sides
  simp only [List.flatten_cons, List.flatten_nil, List.append_nil, List.cons_append, List.nil_append]
  after_reads_simp
  unfold half
  pointwise []
  after_reads_simp
  pointwise []
  unfold sin2
  split_ifs <;> first | rfl | (exfalso; omega)

end Cert.Proj
end
-- ==== Proof.ProjPiece.lean ====
module
public import proofs.«01_k».proof.Proof.Gen.Kernel3Ideal.Value
public import proofs.«01_k».proof.Proof.ProjHost
public import Idealize.ShloMosaic.Lib.Pipeline.ValueKit.Tiles
public import Idealize.ShloMosaic.Lib.WholeRead

/-! What each store of the input projection's body writes. -/

@[expose] public section
set_option maxRecDepth 16384
noncomputable section
namespace Cert.Proj
open Idealize.ShloMosaic Idealize.ShloMosaic.TcCoe Idealize.ShloMosaic.Tactic Cert.Kernel3Ideal Cert.Kernel3Ideal.Gen

/-- Row `r` of a block through the projection's column block `j`. -/
def P (x0 : Vec Ideal S1x1024x1024 .f32) (x1 : Vec Ideal S1x1024 .f32) (x2 : Vec Ideal S1024x3072 .bf16) (j : Fin 6) (r : Fin 1024) : Fin 512 → EReal :=
  prow (fun k => x0 (ix3 0 r k)) (fun k => x1 (ix2 0 k)) (fun k l => x2 (ix2 k (blkcol j l)))

/-- That row, head by head, with the gains `g`. -/
def Q (x0 : Vec Ideal S1x1024x1024 .f32) (x1 : Vec Ideal S1x1024 .f32) (x2 : Vec Ideal S1024x3072 .bf16) (g : Fin 64 → EReal) (j : Fin 6) (r : Fin 1024) :
    Fin 8 → Fin 64 → EReal := hrow (P x0 x1 x2 j r) g

/-- Heads laid side by side. -/
def Flat (q : Fin 1024 → Fin 8 → Fin 64 → EReal) (i : S1x1024x512.Idx) : EReal :=
  q (i 1) ⟨(i 2).val / 64, by have : (i 2).val < 512 := (i 2).isLt; omega⟩ ⟨(i 2).val % 64, Nat.mod_lt _ (by omega)⟩

/-- Heads laid in pairs, each pair followed by as many other lanes. -/
def Wide (q : Fin 1024 → Fin 8 → Fin 64 → EReal) (i : S1x1024x1024.Idx) : EReal :=
  q (i 1) ⟨(2 * ((i 2).val / 256) + (i 2).val % 256 / 64) % 8, Nat.mod_lt _ (by omega)⟩ ⟨(i 2).val % 64, Nat.mod_lt _ (by omega)⟩

/-- An index of a block of one batch is a row and a lane. -/
theorem idx_eq {a b : ℕ} (x : (⟨3, ![1, a, b]⟩ : Shape).Idx) : ∃ (r : Fin a) (l : Fin b), x = ix3 0 r l := by
  refine ⟨x 1, x 2, funext fun d => ?_⟩
  fin_cases d
  · exact Fin.ext (by have : (x 0).val < 1 := (x 0).isLt; show (x 0).val = 0; omega)
  · rfl
  · rfl

/-- Pairs of heads among other lanes, at a row and a lane of a pair. -/
theorem wide_at (q : Fin 1024 → Fin 8 → Fin 64 → EReal) (i : S1x1024x1024.Idx) (r : Fin 1024) (a : Fin 8) (e : Fin 64) (h1 : (i 1).val = r.val)
    (h2 : (i 2).val = 256 * (a.val / 2) + 64 * (a.val % 2) + e.val) : Wide q i = q r a e := by
  have hr : i 1 = r := Fin.ext h1
  have ha : (⟨(2 * ((i 2).val / 256) + (i 2).val % 256 / 64) % 8, Nat.mod_lt _ (by omega)⟩ : Fin 8) = a := Fin.ext (by show (2 * ((i 2).val / 256) + (i 2).val % 256 / 64) % 8 = a.val; omega)
  have he : (⟨(i 2).val % 64, Nat.mod_lt _ (by omega)⟩ : Fin 64) = e := Fin.ext (by show (i 2).val % 64 = e.val; omega)
  unfold Wide
  rw [hr, ha, he]

/-- Heads side by side, at a row and a head's lane. -/
theorem flat_at (q : Fin 1024 → Fin 8 → Fin 64 → EReal) (i : S1x1024x512.Idx) (r : Fin 1024) (a : Fin 8) (e : Fin 64) (h1 : (i 1).val = r.val)
    (h2 : (i 2).val = 64 * a.val + e.val) : Flat q i = q r a e := by
  have hr : i 1 = r := Fin.ext h1
  have ha : (⟨(i 2).val / 64, by omega⟩ : Fin 8) = a := Fin.ext (by show (i 2).val / 64 = a.val; omega)
  have he : (⟨(i 2).val % 64, Nat.mod_lt _ (by omega)⟩ : Fin 64) = e := Fin.ext (by show (i 2).val % 64 = e.val; omega)
  unfold Flat
  rw [hr, he]
  exact congrArg (fun a => q r a e) ha

/-- A store of plain rows. -/
theorem plain_piece {o : ℕ} (inb : ∀ a, (![0, o, 0] : Fin 3 → ℕ) a + (![1, 512, 512] : Fin 3 → ℕ) a ≤ S1x1024x512.size a) {p : Fin 1024 → Fin 512 → EReal}
    {q : FVec Ideal S512x512 .f32} {v : Vec Ideal S1x512x512 .bf16} (ho : o + 512 ≤ 1024) (hq : ∀ r l, q (ix2 r l) = p ⟨o + r.val, by omega⟩ l) (hv : v = k0_pay47 q) (x : S1x512x512.Idx) :
    v x = p ((Rect.unit (s := S1x1024x512) ![0, o, 0] ![1, 512, 512] inb).emb x 1) ((Rect.unit (s := S1x1024x512) ![0, o, 0] ![1, 512, 512] inb).emb x 2) := by
  obtain ⟨r, l, rfl⟩ := idx_eq x
  have e1 : (Rect.unit (s := S1x1024x512) ![0, o, 0] ![1, 512, 512] inb).emb (ix3 0 r l) 1 = (⟨o + r.val, by omega⟩ : Fin 1024) := Fin.ext (by show o + 1 * r.val = o + r.val; omega)
  have e2 : (Rect.unit (s := S1x1024x512) ![0, o, 0] ![1, 512, 512] inb).emb (ix3 0 r l) 2 = l := Fin.ext (by show 0 + 1 * l.val = l.val; omega)
  rw [e1, e2, hv, ← hq]
  pointwise [k0_pay47]

/-- A store of lanes that no claim is about. -/
theorem gate_piece {o p : ℕ} (inb : ∀ a, (![0, o, p] : Fin 3 → ℕ) a + (![1, 512, 128] : Fin 3 → ℕ) a ≤ S1x1024x1024.size a) {q : Fin 1024 → Fin 8 → Fin 64 → EReal}
    {v : Vec Ideal S1x512x128 .bf16} (hp : p % 256 = 128) (x : S1x512x128.Idx) (hx : ((Rect.unit (s := S1x1024x1024) ![0, o, p] ![1, 512, 128] inb).emb x 2).val % 256 < 128) :
    v x = Wide q ((Rect.unit (s := S1x1024x1024) ![0, o, p] ![1, 512, 128] inb).emb x) := by
  obtain ⟨r, l, rfl⟩ := idx_eq x
  have : (p + 1 * l.val) % 256 < 128 := hx
  omega

/-- A store of a pair of heads among other lanes. -/
theorem wide_piece {o : ℕ} (s : ℕ) (inb : ∀ a, (![0, o, 256 * s] : Fin 3 → ℕ) a + (![1, 512, 128] : Fin 3 → ℕ) a ≤ S1x1024x1024.size a)
    {q : Fin 1024 → Fin 8 → Fin 64 → EReal} {h : FVec Ideal S512x512 .f32} {v : Vec Ideal S1x512x128 .bf16} (hs : s < 4) (ho : o + 512 ≤ 1024)
    (hsl : S512x512.Slices ![0, 128 * s] S512x128) (hq : ∀ r a e, h (ix2 r (lane a e)) = q ⟨o + r.val, by omega⟩ a e)
    (hv : v = k0_pay71 (truncf .bf16 (extractStridedSlice S512x128 ![0, 128 * s] h hsl) bitsLt_bf16_f32)) (x : S1x512x128.Idx) :
    v x = Wide q ((Rect.unit (s := S1x1024x1024) ![0, o, 256 * s] ![1, 512, 128] inb).emb x) := by
  obtain ⟨r, l, rfl⟩ := idx_eq x
  rw [wide_at q _ ⟨o + r.val, by omega⟩ ⟨2 * s + l.val / 64, by omega⟩ ⟨l.val % 64, by omega⟩ (by show o + 1 * r.val = o + r.val; omega)
    (by show 256 * s + 1 * l.val = 256 * ((2 * s + l.val / 64) / 2) + 64 * ((2 * s + l.val / 64) % 2) + l.val % 64; omega), ← hq, hv]
  have : k0_pay71 (truncf .bf16 (extractStridedSlice S512x128 ![0, 128 * s] h hsl) bitsLt_bf16_f32) (ix3 0 r l) = extractStridedSlice S512x128 ![0, 128 * s] h hsl (ix2 r l) := by
    pointwise [k0_pay71]
  rw [this]
  refine (slice_val h hsl r l (by omega)).trans (congrArg (fun l => h (ix2 r l)) (Fin.ext ?_))
  show 128 * s + l.val = 64 * (2 * s + l.val / 64) + l.val % 64
  omega

/-- A store of a pair of rotated heads. -/
theorem flat_piece {o : ℕ} (s : ℕ) (inb : ∀ a, (![0, o, 128 * s] : Fin 3 → ℕ) a + (![1, 512, 128] : Fin 3 → ℕ) a ≤ S1x1024x512.size a)
    {q : Fin 1024 → Fin 8 → Fin 64 → EReal} {cs sn : Fin 1024 → Fin 8 → EReal} {h : FVec Ideal S512x512 .f32} {c s1 s2 : Vec Ideal S512x128 .f32} {v : Vec Ideal S1x512x128 .bf16}
    (hs : s < 4) (ho : o + 512 ≤ 1024) (hsl : S512x512.Slices ![0, 128 * s] S512x128) (hq : ∀ r a e, h (ix2 r (lane a e)) = q ⟨o + r.val, by omega⟩ a e)
    (hc : ∀ r a e, c (ix2 r (half a e)) = cosT (cs ⟨o + r.val, by omega⟩) e) (h1 : ∀ r a e, s1 (ix2 r (half a e)) = sin1 (sn ⟨o + r.val, by omega⟩) e)
    (h2 : ∀ r a e, s2 (ix2 r (half a e)) = sin2 (sn ⟨o + r.val, by omega⟩) e)
    (hv : v = k0_pay146 (extractStridedSlice S512x128 ![0, 128 * s] h hsl) c s1 s2) (x : S1x512x128.Idx) :
    v x = Flat (fun r a => rot (cs r) (sn r) (q r a)) ((Rect.unit (s := S1x1024x512) ![0, o, 128 * s] ![1, 512, 128] inb).emb x) := by
  obtain ⟨r, l, rfl⟩ := idx_eq x
  obtain ⟨b, e, rfl⟩ : ∃ b e, l = half b e := ⟨⟨l.val / 64, by omega⟩, ⟨l.val % 64, by omega⟩, Fin.ext (by show l.val = 64 * (l.val / 64) + l.val % 64; omega)⟩
  rw [flat_at _ _ ⟨o + r.val, by omega⟩ ⟨2 * s + b.val, by omega⟩ e (by show o + 1 * r.val = o + r.val; omega)
    (by show 128 * s + 1 * (64 * b.val + e.val) = 64 * (2 * s + b.val) + e.val; omega), hv]
  refine rot_val _ c s1 s2 r b (fun e => ?_) (hc _ _) (h1 _ _) (h2 _ _) _
  refine (slice_val h hsl r _ (by omega)).trans (Eq.trans (congrArg (fun l => h (ix2 r l)) (Fin.ext ?_)) (hq _ _ _))
  show 128 * s + (64 * b.val + e.val) = 64 * (2 * s + b.val) + e.val
  omega

/-- A group's rows lie in the block. -/
theorem inX (o : ℕ) (ho : o + 512 ≤ 1024) : ∀ a, (![0, o, 0] : Fin 3 → ℕ) a + S1x512x1024.size a ≤ S1x1024x1024.size a
  | ⟨0, _⟩ => Nat.le_refl 1
  | ⟨1, _⟩ => ho
  | ⟨2, _⟩ => Nat.le_refl 1024

/-- A column block lies in the columns the call is given. -/
theorem inW (j : Fin 6) : ∀ a, (![0, 512 * j.val] : Fin 2 → ℕ) a + S1024x512.size a ≤ S1024x3072.size a
  | ⟨0, _⟩ => Nat.le_refl 1024
  | ⟨1, _⟩ => (by omega : 512 * j.val + 512 ≤ 3072)

/-- A row of gains lies in the four. -/
theorem inN (n : Fin 4) : ∀ a, (![n.val, 0] : Fin 2 → ℕ) a + S1x512.size a ≤ S4x512.size a
  | ⟨0, _⟩ => (by omega : n.val + 1 ≤ 4)
  | ⟨1, _⟩ => Nat.le_refl 512

section reads
variable (arg2 : Memref sig .tc .vmem S1x1024x1024 .f32) (harg2 : arg2.IsWhole) (arg3 : Memref sig .tc .vmem S1x1024 .f32) (harg3 : arg3.IsWhole)
  (arg4 : Memref sig .tc .vmem S1024x3072 .bf16) (harg4 : arg4.IsWhole) (arg8 : Memref sig .tc .vmem S4x512 .f32) (harg8 : arg8.IsWhole)
  (arg9 : Memref sig .tc .vmem S256x256 .bf16) (harg9 : arg9.IsWhole)
  (x0 : Vec Ideal S1x1024x1024 .f32) (x1 : Vec Ideal S1x1024 .f32) (x2 : Vec Ideal S1024x3072 .bf16) (x6 : Vec Ideal S4x512 .f32) (x7 : Vec Ideal S256x256 .bf16)

/-- A group's rows through column block `j`, as the body reads and computes them. -/
def rows (o : ℕ) (ho : o + 512 ≤ 1024) (j : Fin 6) : FVec Ideal S512x512 .f32 :=
  proj (View.readAt (Elt Ideal) arg2.view (Rect.unit (s := S1x1024x1024) ![0, o, 0] S1x512x1024.size (inX o ho)).toLoadRect (harg2.unread x0))
    (View.readAt (Elt Ideal) arg3.view (Rect.unit (s := S1x1024) ![0, 0] S1x1024.size inb_S1x1024_S1x1024_0_0).toLoadRect (harg3.unread x1))
    (View.readAt (Elt Ideal) arg4.view (Rect.unit (s := S1024x3072) ![0, 512 * j.val] S1024x512.size (inW j)).toLoadRect (harg4.unread x2))

/-- They are the rows of the block. -/
theorem rows_val (o : ℕ) (ho : o + 512 ≤ 1024) (j : Fin 6) (r l : Fin 512) :
    rows arg2 harg2 arg3 harg3 arg4 harg4 x0 x1 x2 o ho j (ix2 r l) = P x0 x1 x2 j ⟨o + r.val, by omega⟩ l := by
  unfold rows
  rw [proj_val]
  unfold P
  congr 1
  · refine funext fun k => (Memref.IsWhole.readAt_unread _ _ _ _).trans (congrArg x0 (funext fun a => Fin.ext ?_))
    match a with
    | ⟨0, _⟩ => rfl
    | ⟨1, _⟩ => show o + 1 * r.val = o + r.val; omega
    | ⟨2, _⟩ => show 0 + 1 * k.val = k.val; omega
  · refine funext fun k => (Memref.IsWhole.readAt_unread _ _ _ _).trans (congrArg x1 (funext fun a => Fin.ext ?_))
    match a with
    | ⟨0, _⟩ => rfl
    | ⟨1, _⟩ => show 0 + 1 * k.val = k.val; omega
  · refine funext fun k => funext fun l => (Memref.IsWhole.readAt_unread _ _ _ _).trans (congrArg x2 (funext fun a => Fin.ext ?_))
    match a with
    | ⟨0, _⟩ => show 0 + 1 * k.val = k.val; omega
    | ⟨1, _⟩ => show 512 * j.val + 1 * l.val = 512 * j.val + l.val; omega

/-- A group's heads with the row `n` of gains, as the body reads and computes them. -/
def hds (o : ℕ) (ho : o + 512 ≤ 1024) (j : Fin 6) (n : Fin 4) : FVec Ideal S512x512 .f32 :=
  heads (rows arg2 harg2 arg3 harg3 arg4 harg4 x0 x1 x2 o ho j)
    (View.readAt (Elt Ideal) arg9.view (Rect.unit (s := S256x256) ![0, 0] S256x256.size inb_S256x256_S256x256_0_0).toLoadRect (harg9.unread x7))
    (View.readAt (Elt Ideal) arg8.view (Rect.unit (s := S4x512) ![n.val, 0] S1x512.size (inN n)).toLoadRect (harg8.unread x6))

/-- They are the block's heads. -/
theorem hds_val {g : Fin 64 → EReal} (o : ℕ) (ho : o + 512 ≤ 1024) (j : Fin 6) (n : Fin 4)
    (h7 : ∀ i j : Fin 256, x7 (ix2 i j) = if i.val / 64 = j.val / 64 then ((1 / 64 : ℝ) : EReal) else 0) (h6 : ∀ h e, x6 (ix2 n (lane h e)) = g e) (r : Fin 512) (h : Fin 8) (e : Fin 64) :
    hds arg2 harg2 arg3 harg3 arg4 harg4 arg8 harg8 arg9 harg9 x0 x1 x2 x6 x7 o ho j n (ix2 r (lane h e)) = Q x0 x1 x2 g j ⟨o + r.val, by omega⟩ h e := by
  unfold hds Q
  refine heads_val _ _ _ r (rows_val _ _ _ _ _ _ _ _ _ o ho j r) (fun i j => ?_) (fun h e => ?_) h e
  · rw [Memref.IsWhole.readAt_unread]
    refine Eq.trans (congrArg x7 (funext fun a => Fin.ext ?_)) (h7 i j)
    match a with
    | ⟨0, _⟩ => show 0 + 1 * i.val = i.val; omega
    | ⟨1, _⟩ => show 0 + 1 * j.val = j.val; omega
  · rw [Memref.IsWhole.readAt_unread]
    refine Eq.trans (congrArg x6 (funext fun a => Fin.ext ?_)) (h6 h e)
    match a with
    | ⟨0, _⟩ => show n.val + 1 * 0 = n.val; omega
    | ⟨1, _⟩ => show 0 + 1 * (lane h e).val = (lane h e).val; omega
end reads

/-- A group's rows of a table, as the body reads them. -/
theorem table_val {f : Fin 1024 → Fin 64 → EReal} (arg : Memref sig .tc .vmem S1024x128 .f32) (harg : arg.IsWhole) (x : Vec Ideal S1024x128 .f32)
    (hx : ∀ r a e, x (ix2 r (half a e)) = f r e) {o : ℕ} (ho : o + 512 ≤ 1024) (inb : ∀ a, (![o, 0] : Fin 2 → ℕ) a + S512x128.size a ≤ S1024x128.size a) (r : Fin 512) (a : Fin 2) (e : Fin 64) :
    View.readAt (Elt Ideal) arg.view (Rect.unit (s := S1024x128) ![o, 0] S512x128.size inb).toLoadRect (harg.unread x) (ix2 r (half a e)) = f ⟨o + r.val, by omega⟩ e := by
  rw [Memref.IsWhole.readAt_unread]
  refine Eq.trans (congrArg x (funext fun d => Fin.ext ?_)) (hx _ a e)
  match d with
  | ⟨0, _⟩ => show o + 1 * r.val = o + r.val; omega
  | ⟨1, _⟩ => show 0 + 1 * (half a e).val = (half a e).val; omega

end Cert.Proj
end
-- ==== Proof.ProjBody.lean ====
module
public import proofs.«01_k».proof.Proof.ProjPiece

/-! The stores of each kind of result of the input projection's body. -/

@[expose] public section
set_option maxRecDepth 16384
noncomputable section
namespace Cert.Proj
open Idealize.ShloMosaic Idealize.ShloMosaic.TcCoe Idealize.ShloMosaic.Tactic Cert.Kernel3Ideal Cert.Kernel3Ideal.Gen

variable (c : Dev nD) (i : grid0.Coords)
  (arg2 : Memref sig .tc .vmem S1x1024x1024 .f32) (harg2 : arg2.IsWhole) (arg3 : Memref sig .tc .vmem S1x1024 .f32) (harg3 : arg3.IsWhole)
  (arg4 : Memref sig .tc .vmem S1024x3072 .bf16) (harg4 : arg4.IsWhole) (arg5 : Memref sig .tc .vmem S1024x128 .bf16) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S4x512 .f32) (harg8 : arg8.IsWhole) (arg9 : Memref sig .tc .vmem S256x256 .bf16) (harg9 : arg9.IsWhole)
  (arg10 : Memref sig .tc .vmem S1024x128 .f32) (harg10 : arg10.IsWhole) (arg11 : Memref sig .tc .vmem S1024x128 .f32) (harg11 : arg11.IsWhole)
  (arg12 : Memref sig .tc .vmem S1024x128 .f32) (harg12 : arg12.IsWhole) (arg13 : Memref sig .tc .vmem S1x1024x1024 .bf16) (harg13 : arg13.IsWhole)
  (arg14 : Memref sig .tc .vmem S1x1024x1024 .bf16) (harg14 : arg14.IsWhole) (arg15 : Memref sig .tc .vmem S1x1024x512 .bf16) (harg15 : arg15.IsWhole)
  (arg16 : Memref sig .tc .vmem S1x1024x512 .bf16) (harg16 : arg16.IsWhole) (arg17 : Memref sig .tc .vmem S1x1024x512 .bf16) (harg17 : arg17.IsWhole)
  (arg18 : Memref sig .tc .vmem S1x1024x512 .bf16) (harg18 : arg18.IsWhole) (arg19 : Memref sig .tc .vmem S8x128 .f32) (harg19 : arg19.IsWhole)

  (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x128 .f32) (x6 : Vec Ideal S4x512 .f32) (x7 : Vec Ideal S256x256 .bf16) (x8 : Vec Ideal S1024x128 .f32) (x9 : Vec Ideal S1024x128 .f32) (x10 : Vec Ideal S1024x128 .f32)

/-- The stores of a result whose pairs of heads lie among other lanes. -/
theorem wide_all {g : Fin 64 → EReal} (j : Fin 6) (n : Fin 4)
    (h7 : ∀ i j : Fin 256, x7 (ix2 i j) = if i.val / 64 = j.val / 64 then ((1 / 64 : ℝ) : EReal) else 0) (h6 : ∀ h e, x6 (ix2 n (lane h e)) = g e)
    (w0 w1 w2 w3 w4 w5 w6 w7 : Vec Ideal S1x512x128 .bf16) :
    ∀ p ∈ ([
      ⟨Rect.unit ![0, 512, 896] ![1, 512, 128] inb_S1x1024x1024_S1x512x128_0_512_896, w0⟩,
      ⟨Rect.unit ![0, 512, 768] ![1, 512, 128] inb_S1x1024x1024_S1x512x128_0_512_768, k0_pay71 (truncf .bf16 (extractStridedSlice S512x128 ![0, 384] (hds arg2 harg2 arg3 harg3 arg4 harg4 arg8 harg8 arg9 harg9 x0 x1 x2 x6 x7 512 (by omega) j n) slices_S512x512_o0_384_S512x128) bitsLt_bf16_f32)⟩,
      ⟨Rect.unit ![0, 512, 640] ![1, 512, 128] inb_S1x1024x1024_S1x512x128_0_512_640, w1⟩,
      ⟨Rect.unit ![0, 512, 512] ![1, 512, 128] inb_S1x1024x1024_S1x512x128_0_512_512, k0_pay71 (truncf .bf16 (extractStridedSlice S512x128 ![0, 256] (hds arg2 harg2 arg3 harg3 arg4 harg4 arg8 harg8 arg9 harg9 x0 x1 x2 x6 x7 512 (by omega) j n) slices_S512x512_o0_256_S512x128) bitsLt_bf16_f32)⟩,
      ⟨Rect.unit ![0, 512, 384] ![1, 512, 128] inb_S1x1024x1024_S1x512x128_0_512_384, w2⟩,
      ⟨Rect.unit ![0, 512, 256] ![1, 512, 128] inb_S1x1024x1024_S1x512x128_0_512_256, k0_pay71 (truncf .bf16 (extractStridedSlice S512x128 ![0, 128] (hds arg2 harg2 arg3 harg3 arg4 harg4 arg8 harg8 arg9 harg9 x0 x1 x2 x6 x7 512 (by omega) j n) slices_S512x512_o0_128_S512x128) bitsLt_bf16_f32)⟩,
      ⟨Rect.unit ![0, 512, 128] ![1, 512, 128] inb_S1x1024x1024_S1x512x128_0_512_128, w3⟩,
      ⟨Rect.unit ![0, 512, 0] ![1, 512, 128] inb_S1x1024x1024_S1x512x128_0_512_0, k0_pay71 (truncf .bf16 (extractStridedSlice S512x128 ![0, 0] (hds arg2 harg2 arg3 harg3 arg4 harg4 arg8 harg8 arg9 harg9 x0 x1 x2 x6 x7 512 (by omega) j n) slices_S512x512_o0_0_S512x128) bitsLt_bf16_f32)⟩,
      ⟨Rect.unit ![0, 0, 896] ![1, 512, 128] inb_S1x1024x1024_S1x512x128_0_0_896, w4⟩,
      ⟨Rect.unit ![0, 0, 768] ![1, 512, 128] inb_S1x1024x1024_S1x512x128_0_0_768, k0_pay71 (truncf .bf16 (extractStridedSlice S512x128 ![0, 384] (hds arg2 harg2 arg3 harg3 arg4 harg4 arg8 harg8 arg9 harg9 x0 x1 x2 x6 x7 0 (by omega) j n) slices_S512x512_o0_384_S512x128) bitsLt_bf16_f32)⟩,
      ⟨Rect.unit ![0, 0, 640] ![1, 512, 128] inb_S1x1024x1024_S1x512x128_0_0_640, w5⟩,
      ⟨Rect.unit ![0, 0, 512] ![1, 512, 128] inb_S1x1024x1024_S1x512x128_0_0_512, k0_pay71 (truncf .bf16 (extractStridedSlice S512x128 ![0, 256] (hds arg2 harg2 arg3 harg3 arg4 harg4 arg8 harg8 arg9 harg9 x0 x1 x2 x6 x7 0 (by omega) j n) slices_S512x512_o0_256_S512x128) bitsLt_bf16_f32)⟩,
      ⟨Rect.unit ![0, 0, 384] ![1, 512, 128] inb_S1x1024x1024_S1x512x128_0_0_384, w6⟩,
      ⟨Rect.unit ![0, 0, 256] ![1, 512, 128] inb_S1x1024x1024_S1x512x128_0_0_256, k0_pay71 (truncf .bf16 (extractStridedSlice S512x128 ![0, 128] (hds arg2 harg2 arg3 harg3 arg4 harg4 arg8 harg8 arg9 harg9 x0 x1 x2 x6 x7 0 (by omega) j n) slices_S512x512_o0_128_S512x128) bitsLt_bf16_f32)⟩,
      ⟨Rect.unit ![0, 0, 128] ![1, 512, 128] inb_S1x1024x1024_S1x512x128_0_0_128, w7⟩,
      ⟨Rect.unit ![0, 0, 0] ![1, 512, 128] inb_S1x1024x1024_S1x512x128_0_0_0, k0_pay71 (truncf .bf16 (extractStridedSlice S512x128 ![0, 0] (hds arg2 harg2 arg3 harg3 arg4 harg4 arg8 harg8 arg9 harg9 x0 x1 x2 x6 x7 0 (by omega) j n) slices_S512x512_o0_0_S512x128) bitsLt_bf16_f32)⟩] : List (View.Piece (Elt Ideal) S1x1024x1024 .bf16)), ∀ x, (p.1.emb x 2).val % 256 < 128 → p.2 x = Wide (Q x0 x1 x2 g j) (p.1.emb x) := by
  simp only [List.forall_mem_cons, List.not_mem_nil, false_imp_iff, implies_true, and_true]
  exact ⟨gate_piece _ (by decide),
    fun x _ => wide_piece (o := 512) 3 _ (by omega) (by omega) _ (hds_val arg2 harg2 arg3 harg3 arg4 harg4 arg8 harg8 arg9 harg9 x0 x1 x2 x6 x7 512 (by omega) j n h7 h6) rfl x,
    gate_piece _ (by decide),
    fun x _ => wide_piece (o := 512) 2 _ (by omega) (by omega) _ (hds_val arg2 harg2 arg3 harg3 arg4 harg4 arg8 harg8 arg9 harg9 x0 x1 x2 x6 x7 512 (by omega) j n h7 h6) rfl x,
    gate_piece _ (by decide),
    fun x _ => wide_piece (o := 512) 1 _ (by omega) (by omega) _ (hds_val arg2 harg2 arg3 harg3 arg4 harg4 arg8 harg8 arg9 harg9 x0 x1 x2 x6 x7 512 (by omega) j n h7 h6) rfl x,
    gate_piece _ (by decide),
    fun x _ => wide_piece (o := 512) 0 _ (by omega) (by omega) _ (hds_val arg2 harg2 arg3 harg3 arg4 harg4 arg8 harg8 arg9 harg9 x0 x1 x2 x6 x7 512 (by omega) j n h7 h6) rfl x,
    gate_piece _ (by decide),
    fun x _ => wide_piece (o := 0) 3 _ (by omega) (by omega) _ (hds_val arg2 harg2 arg3 harg3 arg4 harg4 arg8 harg8 arg9 harg9 x0 x1 x2 x6 x7 0 (by omega) j n h7 h6) rfl x,
    gate_piece _ (by decide),
    fun x _ => wide_piece (o := 0) 2 _ (by omega) (by omega) _ (hds_val arg2 harg2 arg3 harg3 arg4 harg4 arg8 harg8 arg9 harg9 x0 x1 x2 x6 x7 0 (by omega) j n h7 h6) rfl x,
    gate_piece _ (by decide),
    fun x _ => wide_piece (o := 0) 1 _ (by omega) (by omega) _ (hds_val arg2 harg2 arg3 harg3 arg4 harg4 arg8 harg8 arg9 harg9 x0 x1 x2 x6 x7 0 (by omega) j n h7 h6) rfl x,
    gate_piece _ (by decide),
    fun x _ => wide_piece (o := 0) 0 _ (by omega) (by omega) _ (hds_val arg2 harg2 arg3 harg3 arg4 harg4 arg8 harg8 arg9 harg9 x0 x1 x2 x6 x7 0 (by omega) j n h7 h6) rfl x⟩

/-- The stores of a result of rotated heads side by side. -/
theorem flat_all {g : Fin 64 → EReal} {cs sn : Fin 1024 → Fin 8 → EReal} (j : Fin 6) (n : Fin 4)
    (h7 : ∀ i j : Fin 256, x7 (ix2 i j) = if i.val / 64 = j.val / 64 then ((1 / 64 : ℝ) : EReal) else 0) (h6 : ∀ h e, x6 (ix2 n (lane h e)) = g e)
    (h8 : ∀ r a e, x8 (ix2 r (half a e)) = cosT (cs r) e) (h9 : ∀ r a e, x9 (ix2 r (half a e)) = sin1 (sn r) e) (h10 : ∀ r a e, x10 (ix2 r (half a e)) = sin2 (sn r) e) :
    ∀ p ∈ ([
      ⟨Rect.unit ![0, 512, 384] ![1, 512, 128] inb_S1x1024x512_S1x512x128_0_512_384, k0_pay146 (extractStridedSlice S512x128 ![0, 384] (hds arg2 harg2 arg3 harg3 arg4 harg4 arg8 harg8 arg9 harg9 x0 x1 x2 x6 x7 512 (by omega) j n) slices_S512x512_o0_384_S512x128)
        (View.readAt (Elt Ideal) arg10.view (Rect.unit (s := S1024x128) ![512, 0] S512x128.size inb_S1024x128_S512x128_512_0).toLoadRect (harg10.unread x8))
        (View.readAt (Elt Ideal) arg11.view (Rect.unit (s := S1024x128) ![512, 0] S512x128.size inb_S1024x128_S512x128_512_0).toLoadRect (harg11.unread x9))
        (View.readAt (Elt Ideal) arg12.view (Rect.unit (s := S1024x128) ![512, 0] S512x128.size inb_S1024x128_S512x128_512_0).toLoadRect (harg12.unread x10))⟩,
      ⟨Rect.unit ![0, 512, 256] ![1, 512, 128] inb_S1x1024x512_S1x512x128_0_512_256, k0_pay146 (extractStridedSlice S512x128 ![0, 256] (hds arg2 harg2 arg3 harg3 arg4 harg4 arg8 harg8 arg9 harg9 x0 x1 x2 x6 x7 512 (by omega) j n) slices_S512x512_o0_256_S512x128)
        (View.readAt (Elt Ideal) arg10.view (Rect.unit (s := S1024x128) ![512, 0] S512x128.size inb_S1024x128_S512x128_512_0).toLoadRect (harg10.unread x8))
        (View.readAt (Elt Ideal) arg11.view (Rect.unit (s := S1024x128) ![512, 0] S512x128.size inb_S1024x128_S512x128_512_0).toLoadRect (harg11.unread x9))
        (View.readAt (Elt Ideal) arg12.view (Rect.unit (s := S1024x128) ![512, 0] S512x128.size inb_S1024x128_S512x128_512_0).toLoadRect (harg12.unread x10))⟩,
      ⟨Rect.unit ![0, 512, 128] ![1, 512, 128] inb_S1x1024x512_S1x512x128_0_512_128, k0_pay146 (extractStridedSlice S512x128 ![0, 128] (hds arg2 harg2 arg3 harg3 arg4 harg4 arg8 harg8 arg9 harg9 x0 x1 x2 x6 x7 512 (by omega) j n) slices_S512x512_o0_128_S512x128)
        (View.readAt (Elt Ideal) arg10.view (Rect.unit (s := S1024x128) ![512, 0] S512x128.size inb_S1024x128_S512x128_512_0).toLoadRect (harg10.unread x8))
        (View.readAt (Elt Ideal) arg11.view (Rect.unit (s := S1024x128) ![512, 0] S512x128.size inb_S1024x128_S512x128_512_0).toLoadRect (harg11.unread x9))
        (View.readAt (Elt Ideal) arg12.view (Rect.unit (s := S1024x128) ![512, 0] S512x128.size inb_S1024x128_S512x128_512_0).toLoadRect (harg12.unread x10))⟩,
      ⟨Rect.unit ![0, 512, 0] ![1, 512, 128] inb_S1x1024x512_S1x512x128_0_512_0, k0_pay146 (extractStridedSlice S512x128 ![0, 0] (hds arg2 harg2 arg3 harg3 arg4 harg4 arg8 harg8 arg9 harg9 x0 x1 x2 x6 x7 512 (by omega) j n) slices_S512x512_o0_0_S512x128)
        (View.readAt (Elt Ideal) arg10.view (Rect.unit (s := S1024x128) ![512, 0] S512x128.size inb_S1024x128_S512x128_512_0).toLoadRect (harg10.unread x8))
        (View.readAt (Elt Ideal) arg11.view (Rect.unit (s := S1024x128) ![512, 0] S512x128.size inb_S1024x128_S512x128_512_0).toLoadRect (harg11.unread x9))
        (View.readAt (Elt Ideal) arg12.view (Rect.unit (s := S1024x128) ![512, 0] S512x128.size inb_S1024x128_S512x128_512_0).toLoadRect (harg12.unread x10))⟩,
      ⟨Rect.unit ![0, 0, 384] ![1, 512, 128] inb_S1x1024x512_S1x512x128_0_0_384, k0_pay146 (extractStridedSlice S512x128 ![0, 384] (hds arg2 harg2 arg3 harg3 arg4 harg4 arg8 harg8 arg9 harg9 x0 x1 x2 x6 x7 0 (by omega) j n) slices_S512x512_o0_384_S512x128)
        (View.readAt (Elt Ideal) arg10.view (Rect.unit (s := S1024x128) ![0, 0] S512x128.size inb_S1024x128_S512x128_0_0).toLoadRect (harg10.unread x8))
        (View.readAt (Elt Ideal) arg11.view (Rect.unit (s := S1024x128) ![0, 0] S512x128.size inb_S1024x128_S512x128_0_0).toLoadRect (harg11.unread x9))
        (View.readAt (Elt Ideal) arg12.view (Rect.unit (s := S1024x128) ![0, 0] S512x128.size inb_S1024x128_S512x128_0_0).toLoadRect (harg12.unread x10))⟩,
      ⟨Rect.unit ![0, 0, 256] ![1, 512, 128] inb_S1x1024x512_S1x512x128_0_0_256, k0_pay146 (extractStridedSlice S512x128 ![0, 256] (hds arg2 harg2 arg3 harg3 arg4 harg4 arg8 harg8 arg9 harg9 x0 x1 x2 x6 x7 0 (by omega) j n) slices_S512x512_o0_256_S512x128)
        (View.readAt (Elt Ideal) arg10.view (Rect.unit (s := S1024x128) ![0, 0] S512x128.size inb_S1024x128_S512x128_0_0).toLoadRect (harg10.unread x8))
        (View.readAt (Elt Ideal) arg11.view (Rect.unit (s := S1024x128) ![0, 0] S512x128.size inb_S1024x128_S512x128_0_0).toLoadRect (harg11.unread x9))
        (View.readAt (Elt Ideal) arg12.view (Rect.unit (s := S1024x128) ![0, 0] S512x128.size inb_S1024x128_S512x128_0_0).toLoadRect (harg12.unread x10))⟩,
      ⟨Rect.unit ![0, 0, 128] ![1, 512, 128] inb_S1x1024x512_S1x512x128_0_0_128, k0_pay146 (extractStridedSlice S512x128 ![0, 128] (hds arg2 harg2 arg3 harg3 arg4 harg4 arg8 harg8 arg9 harg9 x0 x1 x2 x6 x7 0 (by omega) j n) slices_S512x512_o0_128_S512x128)
        (View.readAt (Elt Ideal) arg10.view (Rect.unit (s := S1024x128) ![0, 0] S512x128.size inb_S1024x128_S512x128_0_0).toLoadRect (harg10.unread x8))
        (View.readAt (Elt Ideal) arg11.view (Rect.unit (s := S1024x128) ![0, 0] S512x128.size inb_S1024x128_S512x128_0_0).toLoadRect (harg11.unread x9))
        (View.readAt (Elt Ideal) arg12.view (Rect.unit (s := S1024x128) ![0, 0] S512x128.size inb_S1024x128_S512x128_0_0).toLoadRect (harg12.unread x10))⟩,
      ⟨Rect.unit ![0, 0, 0] ![1, 512, 128] inb_S1x1024x512_S1x512x128_0_0_0, k0_pay146 (extractStridedSlice S512x128 ![0, 0] (hds arg2 harg2 arg3 harg3 arg4 harg4 arg8 harg8 arg9 harg9 x0 x1 x2 x6 x7 0 (by omega) j n) slices_S512x512_o0_0_S512x128)
        (View.readAt (Elt Ideal) arg10.view (Rect.unit (s := S1024x128) ![0, 0] S512x128.size inb_S1024x128_S512x128_0_0).toLoadRect (harg10.unread x8))
        (View.readAt (Elt Ideal) arg11.view (Rect.unit (s := S1024x128) ![0, 0] S512x128.size inb_S1024x128_S512x128_0_0).toLoadRect (harg11.unread x9))
        (View.readAt (Elt Ideal) arg12.view (Rect.unit (s := S1024x128) ![0, 0] S512x128.size inb_S1024x128_S512x128_0_0).toLoadRect (harg12.unread x10))⟩] : List (View.Piece (Elt Ideal) S1x1024x512 .bf16)), ∀ x, p.2 x = Flat (fun r a => rot (cs r) (sn r) (Q x0 x1 x2 g j r a)) (p.1.emb x) := by
  simp only [List.forall_mem_cons, List.not_mem_nil, false_imp_iff, implies_true, and_true]
  exact ⟨flat_piece (o := 512) 3 _ (by omega) (by omega) _ (hds_val arg2 harg2 arg3 harg3 arg4 harg4 arg8 harg8 arg9 harg9 x0 x1 x2 x6 x7 512 (by omega) j n h7 h6) (table_val arg10 harg10 x8 h8 (by omega) _) (table_val arg11 harg11 x9 h9 (by omega) _) (table_val arg12 harg12 x10 h10 (by omega) _) rfl,
    flat_piece (o := 512) 2 _ (by omega) (by omega) _ (hds_val arg2 harg2 arg3 harg3 arg4 harg4 arg8 harg8 arg9 harg9 x0 x1 x2 x6 x7 512 (by omega) j n h7 h6) (table_val arg10 harg10 x8 h8 (by omega) _) (table_val arg11 harg11 x9 h9 (by omega) _) (table_val arg12 harg12 x10 h10 (by omega) _) rfl,
    flat_piece (o := 512) 1 _ (by omega) (by omega) _ (hds_val arg2 harg2 arg3 harg3 arg4 harg4 arg8 harg8 arg9 harg9 x0 x1 x2 x6 x7 512 (by omega) j n h7 h6) (table_val arg10 harg10 x8 h8 (by omega) _) (table_val arg11 harg11 x9 h9 (by omega) _) (table_val arg12 harg12 x10 h10 (by omega) _) rfl,
    flat_piece (o := 512) 0 _ (by omega) (by omega) _ (hds_val arg2 harg2 arg3 harg3 arg4 harg4 arg8 harg8 arg9 harg9 x0 x1 x2 x6 x7 512 (by omega) j n h7 h6) (table_val arg10 harg10 x8 h8 (by omega) _) (table_val arg11 harg11 x9 h9 (by omega) _) (table_val arg12 harg12 x10 h10 (by omega) _) rfl,
    flat_piece (o := 0) 3 _ (by omega) (by omega) _ (hds_val arg2 harg2 arg3 harg3 arg4 harg4 arg8 harg8 arg9 harg9 x0 x1 x2 x6 x7 0 (by omega) j n h7 h6) (table_val arg10 harg10 x8 h8 (by omega) _) (table_val arg11 harg11 x9 h9 (by omega) _) (table_val arg12 harg12 x10 h10 (by omega) _) rfl,
    flat_piece (o := 0) 2 _ (by omega) (by omega) _ (hds_val arg2 harg2 arg3 harg3 arg4 harg4 arg8 harg8 arg9 harg9 x0 x1 x2 x6 x7 0 (by omega) j n h7 h6) (table_val arg10 harg10 x8 h8 (by omega) _) (table_val arg11 harg11 x9 h9 (by omega) _) (table_val arg12 harg12 x10 h10 (by omega) _) rfl,
    flat_piece (o := 0) 1 _ (by omega) (by omega) _ (hds_val arg2 harg2 arg3 harg3 arg4 harg4 arg8 harg8 arg9 harg9 x0 x1 x2 x6 x7 0 (by omega) j n h7 h6) (table_val arg10 harg10 x8 h8 (by omega) _) (table_val arg11 harg11 x9 h9 (by omega) _) (table_val arg12 harg12 x10 h10 (by omega) _) rfl,
    flat_piece (o := 0) 0 _ (by omega) (by omega) _ (hds_val arg2 harg2 arg3 harg3 arg4 harg4 arg8 harg8 arg9 harg9 x0 x1 x2 x6 x7 0 (by omega) j n h7 h6) (table_val arg10 harg10 x8 h8 (by omega) _) (table_val arg11 harg11 x9 h9 (by omega) _) (table_val arg12 harg12 x10 h10 (by omega) _) rfl⟩

/-- The stores of a result of plain rows. -/
theorem plain_all (j : Fin 6) :
    ∀ p ∈ ([
      ⟨Rect.unit ![0, 512, 0] ![1, 512, 512] inb_S1x1024x512_S1x512x512_0_512_0, k0_pay47 (rows arg2 harg2 arg3 harg3 arg4 harg4 x0 x1 x2 512 (by omega) j)⟩,
      ⟨Rect.unit ![0, 0, 0] ![1, 512, 512] inb_S1x1024x512_S1x512x512_0_0_0, k0_pay47 (rows arg2 harg2 arg3 harg3 arg4 harg4 x0 x1 x2 0 (by omega) j)⟩] : List (View.Piece (Elt Ideal) S1x1024x512 .bf16)), ∀ x, p.2 x = P x0 x1 x2 j (p.1.emb x 1) (p.1.emb x 2) := by
  simp only [List.forall_mem_cons, List.not_mem_nil, false_imp_iff, implies_true, and_true]
  exact ⟨plain_piece (o := 512) _ (by omega) (rows_val arg2 harg2 arg3 harg3 arg4 harg4 x0 x1 x2 512 (by omega) j) rfl,
    plain_piece (o := 0) _ (by omega) (rows_val arg2 harg2 arg3 harg3 arg4 harg4 x0 x1 x2 0 (by omega) j) rfl⟩

end Cert.Proj
end
-- ==== Proof.ProjOut.lean ====
module
public import proofs.«01_k».proof.Proof.ProjBody

/-! What the input projection's body leaves in each of its six results. -/

@[expose] public section
set_option maxRecDepth 16384
noncomputable section
namespace Cert.Proj
open Idealize.ShloMosaic Idealize.ShloMosaic.TcCoe Idealize.ShloMosaic.Tactic Cert.Kernel3Ideal Cert.Kernel3Ideal.Gen

variable (c : Dev nD) (i : grid0.Coords)
  (arg2 : Memref sig .tc .vmem S1x1024x1024 .f32) (harg2 : arg2.IsWhole) (arg3 : Memref sig .tc .vmem S1x1024 .f32) (harg3 : arg3.IsWhole)
  (arg4 : Memref sig .tc .vmem S1024x3072 .bf16) (harg4 : arg4.IsWhole) (arg5 : Memref sig .tc .vmem S1024x128 .bf16) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S4x512 .f32) (harg8 : arg8.IsWhole) (arg9 : Memref sig .tc .vmem S256x256 .bf16) (harg9 : arg9.IsWhole)
  (arg10 : Memref sig .tc .vmem S1024x128 .f32) (harg10 : arg10.IsWhole) (arg11 : Memref sig .tc .vmem S1024x128 .f32) (harg11 : arg11.IsWhole)
  (arg12 : Memref sig .tc .vmem S1024x128 .f32) (harg12 : arg12.IsWhole) (arg13 : Memref sig .tc .vmem S1x1024x1024 .bf16) (harg13 : arg13.IsWhole)
  (arg14 : Memref sig .tc .vmem S1x1024x1024 .bf16) (harg14 : arg14.IsWhole) (arg15 : Memref sig .tc .vmem S1x1024x512 .bf16) (harg15 : arg15.IsWhole)
  (arg16 : Memref sig .tc .vmem S1x1024x512 .bf16) (harg16 : arg16.IsWhole) (arg17 : Memref sig .tc .vmem S1x1024x512 .bf16) (harg17 : arg17.IsWhole)
  (arg18 : Memref sig .tc .vmem S1x1024x512 .bf16) (harg18 : arg18.IsWhole) (arg19 : Memref sig .tc .vmem S8x128 .f32) (harg19 : arg19.IsWhole)

  (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x128 .f32) (x6 : Vec Ideal S4x512 .f32) (x7 : Vec Ideal S256x256 .bf16) (x8 : Vec Ideal S1024x128 .f32) (x9 : Vec Ideal S1024x128 .f32) (x10 : Vec Ideal S1024x128 .f32)

set_option maxHeartbeats 4000000 in
/-- The forgetting attention's queries that the first of a sequence's grid points leaves. -/
theorem outA_11 (hc0 : cond0_0 i) {g : Fin 64 → EReal} (h7 : ∀ i j : Fin 256, x7 (ix2 i j) = if i.val / 64 = j.val / 64 then ((1 / 64 : ℝ) : EReal) else 0)
    (h6 : ∀ h e, x6 (ix2 0 (lane h e)) = g e) (y : S1x1024x1024.Idx) (hy : (y 2).val % 256 < 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y = Wide (Q x0 x1 x2 g 0) y := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  have hp : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).1, ∀ x, (p.1.emb x 2).val % 256 < 128 → p.2 x = Wide (Q x0 x1 x2 g 0) (p.1.emb x) := by
    unfold kernelRun0_A
    dsimp only
    sl_unfold_words
    exact wide_all arg2 harg2 arg3 harg3 arg4 harg4 arg8 harg8 arg9 harg9 x0 x1 x2 x6 x7 0 0 h7 h6 _ _ _ _ _ _ _ _
  refine View.canon_eq_of_allAt _ y _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y) fun p h x hx => ?_
  subst hx
  exact hp p h x hy

set_option maxHeartbeats 4000000 in
/-- The forgetting attention's keys that the first of a sequence's grid points leaves. -/
theorem outA_12 (hc0 : cond0_0 i) {g : Fin 64 → EReal} (h7 : ∀ i j : Fin 256, x7 (ix2 i j) = if i.val / 64 = j.val / 64 then ((1 / 64 : ℝ) : EReal) else 0)
    (h6 : ∀ h e, x6 (ix2 1 (lane h e)) = g e) (y : S1x1024x1024.Idx) (hy : (y 2).val % 256 < 128) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y = Wide (Q x0 x1 x2 g 1) y := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  have hp : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.1, ∀ x, (p.1.emb x 2).val % 256 < 128 → p.2 x = Wide (Q x0 x1 x2 g 1) (p.1.emb x) := by
    unfold kernelRun0_A
    dsimp only
    sl_unfold_words
    exact wide_all arg2 harg2 arg3 harg3 arg4 harg4 arg8 harg8 arg9 harg9 x0 x1 x2 x6 x7 1 1 h7 h6 _ _ _ _ _ _ _ _
  refine View.canon_eq_of_allAt _ y _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y) fun p h x hx => ?_
  subst hx
  exact hp p h x hy

set_option maxHeartbeats 4000000 in
/-- The forgetting attention's values that the first of a sequence's grid points leaves. -/
theorem outA_13 (hc0 : cond0_0 i) (y : S1x1024x512.Idx) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y = P x0 x1 x2 2 (y 1) (y 2) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  have hp : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.1, ∀ x, p.2 x = P x0 x1 x2 2 (p.1.emb x 1) (p.1.emb x 2) := by
    unfold kernelRun0_A
    dsimp only
    sl_unfold_words
    exact plain_all arg2 harg2 arg3 harg3 arg4 harg4 x0 x1 x2 2
  refine View.canon_eq_of_allAt _ y _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y) fun p h x hx => ?_
  subst hx
  exact hp p h x

set_option maxHeartbeats 4000000 in
/-- The dilated attention's queries that the first of a sequence's grid points leaves. -/
theorem outA_14 (hc0 : cond0_0 i) {cs sn : Fin 1024 → Fin 8 → EReal} {g : Fin 64 → EReal} (h7 : ∀ i j : Fin 256, x7 (ix2 i j) = if i.val / 64 = j.val / 64 then ((1 / 64 : ℝ) : EReal) else 0)
    (h6 : ∀ h e, x6 (ix2 2 (lane h e)) = g e)
    (h8 : ∀ r a e, x8 (ix2 r (half a e)) = cosT (cs r) e) (h9 : ∀ r a e, x9 (ix2 r (half a e)) = sin1 (sn r) e) (h10 : ∀ r a e, x10 (ix2 r (half a e)) = sin2 (sn r) e) (y : S1x1024x512.Idx) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y = Flat (fun r a => rot (cs r) (sn r) (Q x0 x1 x2 g 3 r a)) y := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  have hp : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.1, ∀ x, p.2 x = Flat (fun r a => rot (cs r) (sn r) (Q x0 x1 x2 g 3 r a)) (p.1.emb x) := by
    unfold kernelRun0_A
    dsimp only
    sl_unfold_words
    exact flat_all arg2 harg2 arg3 harg3 arg4 harg4 arg8 harg8 arg9 harg9 arg10 harg10 arg11 harg11 arg12 harg12 x0 x1 x2 x6 x7 x8 x9 x10 3 2 h7 h6 h8 h9 h10
  refine View.canon_eq_of_allAt _ y _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y) fun p h x hx => ?_
  subst hx
  exact hp p h x

set_option maxHeartbeats 4000000 in
/-- The dilated attention's keys that the first of a sequence's grid points leaves. -/
theorem outA_15 (hc0 : cond0_0 i) {cs sn : Fin 1024 → Fin 8 → EReal} {g : Fin 64 → EReal} (h7 : ∀ i j : Fin 256, x7 (ix2 i j) = if i.val / 64 = j.val / 64 then ((1 / 64 : ℝ) : EReal) else 0)
    (h6 : ∀ h e, x6 (ix2 3 (lane h e)) = g e)
    (h8 : ∀ r a e, x8 (ix2 r (half a e)) = cosT (cs r) e) (h9 : ∀ r a e, x9 (ix2 r (half a e)) = sin1 (sn r) e) (h10 : ∀ r a e, x10 (ix2 r (half a e)) = sin2 (sn r) e) (y : S1x1024x512.Idx) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y = Flat (fun r a => rot (cs r) (sn r) (Q x0 x1 x2 g 4 r a)) y := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  have hp : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.1, ∀ x, p.2 x = Flat (fun r a => rot (cs r) (sn r) (Q x0 x1 x2 g 4 r a)) (p.1.emb x) := by
    unfold kernelRun0_A
    dsimp only
    sl_unfold_words
    exact flat_all arg2 harg2 arg3 harg3 arg4 harg4 arg8 harg8 arg9 harg9 arg10 harg10 arg11 harg11 arg12 harg12 x0 x1 x2 x6 x7 x8 x9 x10 4 3 h7 h6 h8 h9 h10
  refine View.canon_eq_of_allAt _ y _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y) fun p h x hx => ?_
  subst hx
  exact hp p h x

set_option maxHeartbeats 4000000 in
/-- The dilated attention's values that the first of a sequence's grid points leaves. -/
theorem outA_16 (hc0 : cond0_0 i) (y : S1x1024x512.Idx) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y = P x0 x1 x2 5 (y 1) (y 2) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  have hp : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.1, ∀ x, p.2 x = P x0 x1 x2 5 (p.1.emb x 1) (p.1.emb x 2) := by
    unfold kernelRun0_A
    dsimp only
    sl_unfold_words
    exact plain_all arg2 harg2 arg3 harg3 arg4 harg4 x0 x1 x2 5
  refine View.canon_eq_of_allAt _ y _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y) fun p h x hx => ?_
  subst hx
  exact hp p h x

set_option maxHeartbeats 4000000 in
/-- The forgetting attention's queries that a sequence's other grid point leaves. -/
theorem outB_11 (hc0 : ¬cond0_0 i) (xs0 : Vec Ideal S8x128 .f32) {g : Fin 64 → EReal} (h7 : ∀ i j : Fin 256, x7 (ix2 i j) = if i.val / 64 = j.val / 64 then ((1 / 64 : ℝ) : EReal) else 0)
    (h6 : ∀ h e, x6 (ix2 0 (lane h e)) = g e) (y : S1x1024x1024.Idx) (hy : (y 2).val % 256 < 128) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y = Wide (Q x0 x1 x2 g 0) y := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0)]
  have hp : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0).1, ∀ x, (p.1.emb x 2).val % 256 < 128 → p.2 x = Wide (Q x0 x1 x2 g 0) (p.1.emb x) := by
    unfold kernelRun0_B
    dsimp only
    sl_unfold_words
    exact wide_all arg2 harg2 arg3 harg3 arg4 harg4 arg8 harg8 arg9 harg9 x0 x1 x2 x6 x7 0 0 h7 h6 _ _ _ _ _ _ _ _
  refine View.canon_eq_of_allAt _ y _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y) fun p h x hx => ?_
  subst hx
  exact hp p h x hy

set_option maxHeartbeats 4000000 in
/-- The forgetting attention's keys that a sequence's other grid point leaves. -/
theorem outB_12 (hc0 : ¬cond0_0 i) (xs0 : Vec Ideal S8x128 .f32) {g : Fin 64 → EReal} (h7 : ∀ i j : Fin 256, x7 (ix2 i j) = if i.val / 64 = j.val / 64 then ((1 / 64 : ℝ) : EReal) else 0)
    (h6 : ∀ h e, x6 (ix2 1 (lane h e)) = g e) (y : S1x1024x1024.Idx) (hy : (y 2).val % 256 < 128) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y = Wide (Q x0 x1 x2 g 1) y := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0)]
  have hp : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0).2.1, ∀ x, (p.1.emb x 2).val % 256 < 128 → p.2 x = Wide (Q x0 x1 x2 g 1) (p.1.emb x) := by
    unfold kernelRun0_B
    dsimp only
    sl_unfold_words
    exact wide_all arg2 harg2 arg3 harg3 arg4 harg4 arg8 harg8 arg9 harg9 x0 x1 x2 x6 x7 1 1 h7 h6 _ _ _ _ _ _ _ _
  refine View.canon_eq_of_allAt _ y _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y) fun p h x hx => ?_
  subst hx
  exact hp p h x hy

set_option maxHeartbeats 4000000 in
/-- The forgetting attention's values that a sequence's other grid point leaves. -/
theorem outB_13 (hc0 : ¬cond0_0 i) (xs0 : Vec Ideal S8x128 .f32) (y : S1x1024x512.Idx) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y = P x0 x1 x2 2 (y 1) (y 2) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0)]
  have hp : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0).2.2.1, ∀ x, p.2 x = P x0 x1 x2 2 (p.1.emb x 1) (p.1.emb x 2) := by
    unfold kernelRun0_B
    dsimp only
    sl_unfold_words
    exact plain_all arg2 harg2 arg3 harg3 arg4 harg4 x0 x1 x2 2
  refine View.canon_eq_of_allAt _ y _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y) fun p h x hx => ?_
  subst hx
  exact hp p h x

set_option maxHeartbeats 4000000 in
/-- The dilated attention's queries that a sequence's other grid point leaves. -/
theorem outB_14 (hc0 : ¬cond0_0 i) (xs0 : Vec Ideal S8x128 .f32) {cs sn : Fin 1024 → Fin 8 → EReal} {g : Fin 64 → EReal} (h7 : ∀ i j : Fin 256, x7 (ix2 i j) = if i.val / 64 = j.val / 64 then ((1 / 64 : ℝ) : EReal) else 0)
    (h6 : ∀ h e, x6 (ix2 2 (lane h e)) = g e)
    (h8 : ∀ r a e, x8 (ix2 r (half a e)) = cosT (cs r) e) (h9 : ∀ r a e, x9 (ix2 r (half a e)) = sin1 (sn r) e) (h10 : ∀ r a e, x10 (ix2 r (half a e)) = sin2 (sn r) e) (y : S1x1024x512.Idx) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y = Flat (fun r a => rot (cs r) (sn r) (Q x0 x1 x2 g 3 r a)) y := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0)]
  have hp : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0).2.2.2.1, ∀ x, p.2 x = Flat (fun r a => rot (cs r) (sn r) (Q x0 x1 x2 g 3 r a)) (p.1.emb x) := by
    unfold kernelRun0_B
    dsimp only
    sl_unfold_words
    exact flat_all arg2 harg2 arg3 harg3 arg4 harg4 arg8 harg8 arg9 harg9 arg10 harg10 arg11 harg11 arg12 harg12 x0 x1 x2 x6 x7 x8 x9 x10 3 2 h7 h6 h8 h9 h10
  refine View.canon_eq_of_allAt _ y _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y) fun p h x hx => ?_
  subst hx
  exact hp p h x

set_option maxHeartbeats 4000000 in
/-- The dilated attention's keys that a sequence's other grid point leaves. -/
theorem outB_15 (hc0 : ¬cond0_0 i) (xs0 : Vec Ideal S8x128 .f32) {cs sn : Fin 1024 → Fin 8 → EReal} {g : Fin 64 → EReal} (h7 : ∀ i j : Fin 256, x7 (ix2 i j) = if i.val / 64 = j.val / 64 then ((1 / 64 : ℝ) : EReal) else 0)
    (h6 : ∀ h e, x6 (ix2 3 (lane h e)) = g e)
    (h8 : ∀ r a e, x8 (ix2 r (half a e)) = cosT (cs r) e) (h9 : ∀ r a e, x9 (ix2 r (half a e)) = sin1 (sn r) e) (h10 : ∀ r a e, x10 (ix2 r (half a e)) = sin2 (sn r) e) (y : S1x1024x512.Idx) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y = Flat (fun r a => rot (cs r) (sn r) (Q x0 x1 x2 g 4 r a)) y := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0)]
  have hp : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0).2.2.2.2.1, ∀ x, p.2 x = Flat (fun r a => rot (cs r) (sn r) (Q x0 x1 x2 g 4 r a)) (p.1.emb x) := by
    unfold kernelRun0_B
    dsimp only
    sl_unfold_words
    exact flat_all arg2 harg2 arg3 harg3 arg4 harg4 arg8 harg8 arg9 harg9 arg10 harg10 arg11 harg11 arg12 harg12 x0 x1 x2 x6 x7 x8 x9 x10 4 3 h7 h6 h8 h9 h10
  refine View.canon_eq_of_allAt _ y _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y) fun p h x hx => ?_
  subst hx
  exact hp p h x

set_option maxHeartbeats 4000000 in
/-- The dilated attention's values that a sequence's other grid point leaves. -/
theorem outB_16 (hc0 : ¬cond0_0 i) (xs0 : Vec Ideal S8x128 .f32) (y : S1x1024x512.Idx) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y = P x0 x1 x2 5 (y 1) (y 2) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0)]
  have hp : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0).2.2.2.2.2.1, ∀ x, p.2 x = P x0 x1 x2 5 (p.1.emb x 1) (p.1.emb x 2) := by
    unfold kernelRun0_B
    dsimp only
    sl_unfold_words
    exact plain_all arg2 harg2 arg3 harg3 arg4 harg4 x0 x1 x2 5
  refine View.canon_eq_of_allAt _ y _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 y) fun p h x hx => ?_
  subst hx
  exact hp p h x

end Cert.Proj
end
-- ==== Proof.ProjCall.lean ====
module
public import proofs.«01_k».proof.Proof.ProjOut

/-! The blocks that the input projection's grid points read, and the call's six results. -/

@[expose] public section
set_option maxRecDepth 16384
noncomputable section
namespace Cert.Proj
open Idealize.ShloMosaic Idealize.ShloMosaic.TcCoe Idealize.ShloMosaic.Tactic Cert.Kernel3Ideal Cert.Kernel3Ideal.Gen

variable (m : (ℓ : Loc nD τ sig) → Buf (Elt Ideal) ℓ)

/-- One token's share of column block `j` of the projection, from the arguments. -/
def GP (c : Dev nD) (j : Fin 6) (b : Fin 32) (n : Fin 2048) : Fin 512 → EReal :=
  prow (fun k => m (c, Proc.tc.devRef main_arg0) (ix3 b n k)) (fun k => m (c, Proc.tc.devRef main_arg1) (ix1 k))
    (fun k l => m (c, Proc.tc.devRef main_arg2) (ix2 k (col j l)))

/-- Lane `e` of head `h` where the heads lie in pairs with as many other lanes behind. -/
def wlane (h : Fin 8) (e : Fin 64) : Fin 1024 := ⟨256 * (h.val / 2) + 64 * (h.val % 2) + e.val, by omega⟩

/-- Which block of the tokens each grid point takes. -/
theorem block0 : ∀ t : Fin grid0.N, win0_0.index t = ![t.val / 2, t.val % 2, 0] := by decide +kernel

/-- Which block of the tokens' gains each grid point takes. -/
theorem block1 : ∀ t : Fin grid0.N, win0_1.index t = ![0, 0] := by decide +kernel

/-- Which block of the weights each grid point takes. -/
theorem block2 : ∀ t : Fin grid0.N, win0_2.index t = ![0, 0] := by decide +kernel

/-- Which block of the heads' gains each grid point takes. -/
theorem block6 : ∀ t : Fin grid0.N, win0_6.index t = ![0, 0] := by decide +kernel

/-- Which block of the averaging matrix each grid point takes. -/
theorem block7 : ∀ t : Fin grid0.N, win0_7.index t = ![0, 0] := by decide +kernel

/-- Which block of the cosines each grid point takes. -/
theorem block8 : ∀ t : Fin grid0.N, win0_8.index t = ![t.val % 2, 0] := by decide +kernel

/-- Which block of the first sines each grid point takes. -/
theorem block9 : ∀ t : Fin grid0.N, win0_9.index t = ![t.val % 2, 0] := by decide +kernel

/-- Which block of the second sines each grid point takes. -/
theorem block10 : ∀ t : Fin grid0.N, win0_10.index t = ![t.val % 2, 0] := by decide +kernel

/-- Which block of the first result each grid point takes. -/
theorem block11 : ∀ t : Fin grid0.N, win0_11.index t = ![t.val / 2, t.val % 2, 0] := by decide +kernel

/-- Which block of the second result each grid point takes. -/
theorem block12 : ∀ t : Fin grid0.N, win0_12.index t = ![t.val / 2, t.val % 2, 0] := by decide +kernel

/-- Which block of the third result each grid point takes. -/
theorem block13 : ∀ t : Fin grid0.N, win0_13.index t = ![t.val / 2, t.val % 2, 0] := by decide +kernel

/-- Which block of the fourth result each grid point takes. -/
theorem block14 : ∀ t : Fin grid0.N, win0_14.index t = ![t.val / 2, t.val % 2, 0] := by decide +kernel

/-- Which block of the fifth result each grid point takes. -/
theorem block15 : ∀ t : Fin grid0.N, win0_15.index t = ![t.val / 2, t.val % 2, 0] := by decide +kernel

/-- Which block of the sixth result each grid point takes. -/
theorem block16 : ∀ t : Fin grid0.N, win0_16.index t = ![t.val / 2, t.val % 2, 0] := by decide +kernel

/-- What a grid point reads of the tokens. -/
theorem read0 (c : Dev nD) (t : Fin cfg0.N) (r l : Fin 1024) (b : Fin 32) (n : Fin 2048) (hb : b.val = t.val / 2) (hn : n.val = 1024 * (t.val % 2) + r.val) :
    (iblk m c 0 t : Vec Ideal S1x1024x1024 .f32) (ix3 0 r l) = V m c main_arg0 (ix3 b n l) := by
  unfold iblk
  rw [View.read_apply]
  show V m c main_arg0 _ = V m c main_arg0 _
  congr 1
  funext a
  apply Fin.ext
  match a with
  | ⟨0, _⟩ => show win0_0.index t 0 * 1 + 1 * 0 = b.val; rw [block0]; show t.val / 2 * 1 + 1 * 0 = _; omega
  | ⟨1, _⟩ => show win0_0.index t 1 * 1024 + 1 * r.val = n.val; rw [block0]; show t.val % 2 * 1024 + 1 * r.val = _; omega
  | ⟨2, _⟩ => show win0_0.index t 2 * 1024 + 1 * l.val = l.val; rw [block0]; show 0 * 1024 + 1 * l.val = _; omega

/-- What a grid point reads of the tokens' gains. -/
theorem read1 (c : Dev nD) (t : Fin cfg0.N) (r : Fin 1) (l : Fin 1024) : (iblk m c 1 t : Vec Ideal S1x1024 .f32) (ix2 r l) = V m c main_v89 (ix2 r l) := by
  unfold iblk
  rw [View.read_apply]
  show V m c main_v89 _ = V m c main_v89 _
  congr 1
  funext a
  apply Fin.ext
  match a with
  | ⟨0, _⟩ => show win0_1.index t 0 * 1 + 1 * r.val = r.val; rw [block1]; show 0 * 1 + 1 * r.val = _; omega
  | ⟨1, _⟩ => show win0_1.index t 1 * 1024 + 1 * l.val = l.val; rw [block1]; show 0 * 1024 + 1 * l.val = _; omega

/-- What a grid point reads of the weights. -/
theorem read2 (c : Dev nD) (t : Fin cfg0.N) (r : Fin 1024) (l : Fin 3072) : (iblk m c 2 t : Vec Ideal S1024x3072 .bf16) (ix2 r l) = V m c main_v7 (ix2 r l) := by
  unfold iblk
  rw [View.read_apply]
  show V m c main_v7 _ = V m c main_v7 _
  congr 1
  funext a
  apply Fin.ext
  match a with
  | ⟨0, _⟩ => show win0_2.index t 0 * 1024 + 1 * r.val = r.val; rw [block2]; show 0 * 1024 + 1 * r.val = _; omega
  | ⟨1, _⟩ => show win0_2.index t 1 * 3072 + 1 * l.val = l.val; rw [block2]; show 0 * 3072 + 1 * l.val = _; omega

/-- What a grid point reads of the heads' gains. -/
theorem read6 (c : Dev nD) (t : Fin cfg0.N) (r : Fin 4) (l : Fin 512) : (iblk m c 6 t : Vec Ideal S4x512 .f32) (ix2 r l) = V m c main_v34 (ix2 r l) := by
  unfold iblk
  rw [View.read_apply]
  show V m c main_v34 _ = V m c main_v34 _
  congr 1
  funext a
  apply Fin.ext
  match a with
  | ⟨0, _⟩ => show win0_6.index t 0 * 4 + 1 * r.val = r.val; rw [block6]; show 0 * 4 + 1 * r.val = _; omega
  | ⟨1, _⟩ => show win0_6.index t 1 * 512 + 1 * l.val = l.val; rw [block6]; show 0 * 512 + 1 * l.val = _; omega

/-- What a grid point reads of the averaging matrix. -/
theorem read7 (c : Dev nD) (t : Fin cfg0.N) (r : Fin 256) (l : Fin 256) : (iblk m c 7 t : Vec Ideal S256x256 .bf16) (ix2 r l) = V m c main_v43 (ix2 r l) := by
  unfold iblk
  rw [View.read_apply]
  show V m c main_v43 _ = V m c main_v43 _
  congr 1
  funext a
  apply Fin.ext
  match a with
  | ⟨0, _⟩ => show win0_7.index t 0 * 256 + 1 * r.val = r.val; rw [block7]; show 0 * 256 + 1 * r.val = _; omega
  | ⟨1, _⟩ => show win0_7.index t 1 * 256 + 1 * l.val = l.val; rw [block7]; show 0 * 256 + 1 * l.val = _; omega

/-- What a grid point reads of the cosines. -/
theorem read8 (c : Dev nD) (t : Fin cfg0.N) (r : Fin 1024) (l : Fin 128) (n : Fin 2048) (hn : n.val = 1024 * (t.val % 2) + r.val) :
    (iblk m c 8 t : Vec Ideal S1024x128 .f32) (ix2 r l) = V m c main_v70 (ix2 n l) := by
  unfold iblk
  rw [View.read_apply]
  show V m c main_v70 _ = V m c main_v70 _
  congr 1
  funext a
  apply Fin.ext
  match a with
  | ⟨0, _⟩ => show win0_8.index t 0 * 1024 + 1 * r.val = n.val; rw [block8]; show t.val % 2 * 1024 + 1 * r.val = _; omega
  | ⟨1, _⟩ => show win0_8.index t 1 * 128 + 1 * l.val = l.val; rw [block8]; show 0 * 128 + 1 * l.val = _; omega

/-- What a grid point reads of the first sines. -/
theorem read9 (c : Dev nD) (t : Fin cfg0.N) (r : Fin 1024) (l : Fin 128) (n : Fin 2048) (hn : n.val = 1024 * (t.val % 2) + r.val) :
    (iblk m c 9 t : Vec Ideal S1024x128 .f32) (ix2 r l) = V m c main_v73 (ix2 n l) := by
  unfold iblk
  rw [View.read_apply]
  show V m c main_v73 _ = V m c main_v73 _
  congr 1
  funext a
  apply Fin.ext
  match a with
  | ⟨0, _⟩ => show win0_9.index t 0 * 1024 + 1 * r.val = n.val; rw [block9]; show t.val % 2 * 1024 + 1 * r.val = _; omega
  | ⟨1, _⟩ => show win0_9.index t 1 * 128 + 1 * l.val = l.val; rw [block9]; show 0 * 128 + 1 * l.val = _; omega

/-- What a grid point reads of the second sines. -/
theorem read10 (c : Dev nD) (t : Fin cfg0.N) (r : Fin 1024) (l : Fin 128) (n : Fin 2048) (hn : n.val = 1024 * (t.val % 2) + r.val) :
    (iblk m c 10 t : Vec Ideal S1024x128 .f32) (ix2 r l) = V m c main_v76 (ix2 n l) := by
  unfold iblk
  rw [View.read_apply]
  show V m c main_v76 _ = V m c main_v76 _
  congr 1
  funext a
  apply Fin.ext
  match a with
  | ⟨0, _⟩ => show win0_10.index t 0 * 1024 + 1 * r.val = n.val; rw [block10]; show t.val % 2 * 1024 + 1 * r.val = _; omega
  | ⟨1, _⟩ => show win0_10.index t 1 * 128 + 1 * l.val = l.val; rw [block10]; show 0 * 128 + 1 * l.val = _; omega

/-- A grid point's row of a column block is the arguments'. -/
theorem row_val (c : Dev nD) (t : Fin cfg0.N) (j : Fin 6) (r : Fin 1024) (b : Fin 32) (n : Fin 2048) (hb : b.val = t.val / 2) (hn : n.val = 1024 * (t.val % 2) + r.val) :
    P (iblk m c 0 t) (iblk m c 1 t) (iblk m c 2 t) j r = GP m c j b n := by
  unfold P GP
  refine congr (congr (congrArg prow ?_) ?_) ?_
  · exact funext fun k => read0 m c t r k b n hb hn
  · exact funext fun k => (read1 m c t 0 k).trans (host1 m c k)
  · exact funext fun k => funext fun l => (read2 m c t k _).trans (host2 m c j k l)

/-- The row of the sequence that a grid point's row is. -/
def place (t : Fin cfg0.N) (r : Fin 1024) : Fin 2048 := ⟨1024 * (t.val % 2) + r.val, by omega⟩

/-- The averaging matrix that a grid point reads. -/
theorem avg (c : Dev nD) (t : Fin cfg0.N) (i j : Fin 256) :
    (iblk m c 7 t : Vec Ideal S256x256 .bf16) (ix2 i j) = if i.val / 64 = j.val / 64 then ((1 / 64 : ℝ) : EReal) else 0 :=
  (read7 m c t i j).trans (host7 m c i j)

/-- Where the forgetting attention's queries of a grid point's row lie in the call's result. -/
theorem at11 (c : Dev nD) (t : Fin cfg0.N) (r : Fin 1024) (l : Fin 1024) (b : Fin 32) (n : Fin 2048) (hb : b.val = t.val / 2) (hn : n.val = 1024 * (t.val % 2) + r.val) :
    (dats m 0 c).arrAt 11 cfg0.N (ix3 b n l) = (dats m 0 c).flushed 11 t (ix3 0 r l) := by
  have h := congrFun (Cert.Kernel3Ideal.Value.blocks11 m c t (flush0_11 _)) (ix3 0 r l)
  rw [View.read_apply] at h
  refine Eq.trans ?_ h
  show (dats m 0 c).arrAt 11 cfg0.N _ = (dats m 0 c).arrAt 11 cfg0.N _
  congr 1
  funext a
  apply Fin.ext
  match a with
  | ⟨0, _⟩ => show b.val = win0_11.index t 0 * 1 + 1 * 0; rw [block11]; show _ = t.val / 2 * 1 + 1 * 0; omega
  | ⟨1, _⟩ => show n.val = win0_11.index t 1 * 1024 + 1 * r.val; rw [block11]; show _ = t.val % 2 * 1024 + 1 * r.val; omega
  | ⟨2, _⟩ => show l.val = win0_11.index t 2 * 1024 + 1 * l.val; rw [block11]; show _ = 0 * 1024 + 1 * l.val; omega

/-- The call's forgetting attention's queries. -/
theorem call11 (c : Dev nD) (b : Fin 32) (n : Fin 2048) (h : Fin 8) (e : Fin 64) : (dats m 0 c).arrAt 11 cfg0.N (ix3 b n (wlane h e)) = hrow (GP m c 0 b n) (fun e => m (c, Proc.tc.devRef main_arg4) (ix1 e)) h e := by
  have hN : cfg0.N = 64 := N_0
  obtain ⟨t, ht⟩ : ∃ t : Fin cfg0.N, t.val = 2 * b.val + n.val / 1024 := ⟨⟨2 * b.val + n.val / 1024, by omega⟩, rfl⟩
  obtain ⟨r, hr⟩ : ∃ r : Fin 1024, r.val = n.val % 1024 := ⟨⟨n.val % 1024, by omega⟩, rfl⟩
  have hb : b.val = t.val / 2 := by omega
  have hn : n.val = 1024 * (t.val % 2) + r.val := by omega
  rw [at11 m c t r _ b n hb hn]
  have hv : (dats m 0 c).flushed 11 t (ix3 0 r (wlane h e)) = hrow (P (iblk m c 0 t) (iblk m c 1 t) (iblk m c 2 t) 0 r) (fun e => m (c, Proc.tc.devRef main_arg4) (ix1 e)) h e := by
    by_cases h0 : t.val % 2 = 0
    · rw [Cert.Kernel3Ideal.Value.flushed11_A m c t h0]
      exact (outA_11 _ _ _ _ _ _ _ _ _ _ _ _ _ _ _ _ _ _ _ _ _ _ _ _ _ _ _ _ _ _ _ _ _ _ _ _ _ _ _ _ _ _ _ _ _ _ _ _ _ _ (avg m c t) (fun h e => (read6 m c t 0 (lane h e)).trans (host6 m c h e).1.1) (ix3 0 r (wlane h e)) (by show (wlane h e).val % 256 < 128; show (256 * (h.val / 2) + 64 * (h.val % 2) + e.val) % 256 < 128; omega)).trans (wide_at _ _ r h e rfl rfl)
    · rw [Cert.Kernel3Ideal.Value.flushed11_B m c t h0]
      exact (outB_11 _ _ _ _ _ _ _ _ _ _ _ _ _ _ _ _ _ _ _ _ _ _ _ _ _ _ _ _ _ _ _ _ _ _ _ _ _ _ _ _ _ _ _ _ _ _ _ _ _ _ _ (avg m c t) (fun h e => (read6 m c t 0 (lane h e)).trans (host6 m c h e).1.1) (ix3 0 r (wlane h e)) (by show (wlane h e).val % 256 < 128; show (256 * (h.val / 2) + 64 * (h.val % 2) + e.val) % 256 < 128; omega)).trans (wide_at _ _ r h e rfl rfl)
  rw [hv, row_val m c t 0 r b n hb hn]

/-- Where the forgetting attention's keys of a grid point's row lie in the call's result. -/
theorem at12 (c : Dev nD) (t : Fin cfg0.N) (r : Fin 1024) (l : Fin 1024) (b : Fin 32) (n : Fin 2048) (hb : b.val = t.val / 2) (hn : n.val = 1024 * (t.val % 2) + r.val) :
    (dats m 0 c).arrAt 12 cfg0.N (ix3 b n l) = (dats m 0 c).flushed 12 t (ix3 0 r l) := by
  have h := congrFun (Cert.Kernel3Ideal.Value.blocks12 m c t (flush0_12 _)) (ix3 0 r l)
  rw [View.read_apply] at h
  refine Eq.trans ?_ h
  show (dats m 0 c).arrAt 12 cfg0.N _ = (dats m 0 c).arrAt 12 cfg0.N _
  congr 1
  funext a
  apply Fin.ext
  match a with
  | ⟨0, _⟩ => show b.val = win0_12.index t 0 * 1 + 1 * 0; rw [block12]; show _ = t.val / 2 * 1 + 1 * 0; omega
  | ⟨1, _⟩ => show n.val = win0_12.index t 1 * 1024 + 1 * r.val; rw [block12]; show _ = t.val % 2 * 1024 + 1 * r.val; omega
  | ⟨2, _⟩ => show l.val = win0_12.index t 2 * 1024 + 1 * l.val; rw [block12]; show _ = 0 * 1024 + 1 * l.val; omega

/-- The call's forgetting attention's keys. -/
theorem call12 (c : Dev nD) (b : Fin 32) (n : Fin 2048) (h : Fin 8) (e : Fin 64) : (dats m 0 c).arrAt 12 cfg0.N (ix3 b n (wlane h e)) = hrow (GP m c 1 b n) (fun e => m (c, Proc.tc.devRef main_arg5) (ix1 e)) h e := by
  have hN : cfg0.N = 64 := N_0
  obtain ⟨t, ht⟩ : ∃ t : Fin cfg0.N, t.val = 2 * b.val + n.val / 1024 := ⟨⟨2 * b.val + n.val / 1024, by omega⟩, rfl⟩
  obtain ⟨r, hr⟩ : ∃ r : Fin 1024, r.val = n.val % 1024 := ⟨⟨n.val % 1024, by omega⟩, rfl⟩
  have hb : b.val = t.val / 2 := by omega
  have hn : n.val = 1024 * (t.val % 2) + r.val := by omega
  rw [at12 m c t r _ b n hb hn]
  have hv : (dats m 0 c).flushed 12 t (ix3 0 r (wlane h e)) = hrow (P (iblk m c 0 t) (iblk m c 1 t) (iblk m c 2 t) 1 r) (fun e => m (c, Proc.tc.devRef main_arg5) (ix1 e)) h e := by
    by_cases h0 : t.val % 2 = 0
    · rw [Cert.Kernel3Ideal.Value.flushed12_A m c t h0]
      exact (outA_12 _ _ _ _ _ _ _ _ _ _ _ _ _ _ _ _ _ _ _ _ _ _ _ _ _ _ _ _ _ _ _ _ _ _ _ _ _ _ _ _ _ _ _ _ _ _ _ _ _ _ (avg m c t) (fun h e => (read6 m c t 1 (lane h e)).trans (host6 m c h e).1.2) (ix3 0 r (wlane h e)) (by show (wlane h e).val % 256 < 128; show (256 * (h.val / 2) + 64 * (h.val % 2) + e.val) % 256 < 128; omega)).trans (wide_at _ _ r h e rfl rfl)
    · rw [Cert.Kernel3Ideal.Value.flushed12_B m c t h0]
      exact (outB_12 _ _ _ _ _ _ _ _ _ _ _ _ _ _ _ _ _ _ _ _ _ _ _ _ _ _ _ _ _ _ _ _ _ _ _ _ _ _ _ _ _ _ _ _ _ _ _ _ _ _ _ (avg m c t) (fun h e => (read6 m c t 1 (lane h e)).trans (host6 m c h e).1.2) (ix3 0 r (wlane h e)) (by show (wlane h e).val % 256 < 128; show (256 * (h.val / 2) + 64 * (h.val % 2) + e.val) % 256 < 128; omega)).trans (wide_at _ _ r h e rfl rfl)
  rw [hv, row_val m c t 1 r b n hb hn]

/-- Where the forgetting attention's values of a grid point's row lie in the call's result. -/
theorem at13 (c : Dev nD) (t : Fin cfg0.N) (r : Fin 1024) (l : Fin 512) (b : Fin 32) (n : Fin 2048) (hb : b.val = t.val / 2) (hn : n.val = 1024 * (t.val % 2) + r.val) :
    (dats m 0 c).arrAt 13 cfg0.N (ix3 b n l) = (dats m 0 c).flushed 13 t (ix3 0 r l) := by
  have h := congrFun (Cert.Kernel3Ideal.Value.blocks13 m c t (flush0_13 _)) (ix3 0 r l)
  rw [View.read_apply] at h
  refine Eq.trans ?_ h
  show (dats m 0 c).arrAt 13 cfg0.N _ = (dats m 0 c).arrAt 13 cfg0.N _
  congr 1
  funext a
  apply Fin.ext
  match a with
  | ⟨0, _⟩ => show b.val = win0_13.index t 0 * 1 + 1 * 0; rw [block13]; show _ = t.val / 2 * 1 + 1 * 0; omega
  | ⟨1, _⟩ => show n.val = win0_13.index t 1 * 1024 + 1 * r.val; rw [block13]; show _ = t.val % 2 * 1024 + 1 * r.val; omega
  | ⟨2, _⟩ => show l.val = win0_13.index t 2 * 512 + 1 * l.val; rw [block13]; show _ = 0 * 512 + 1 * l.val; omega

/-- The call's forgetting attention's values. -/
theorem call13 (c : Dev nD) (b : Fin 32) (n : Fin 2048) (l : Fin 512) : (dats m 0 c).arrAt 13 cfg0.N (ix3 b n (l)) = GP m c 2 b n l := by
  have hN : cfg0.N = 64 := N_0
  obtain ⟨t, ht⟩ : ∃ t : Fin cfg0.N, t.val = 2 * b.val + n.val / 1024 := ⟨⟨2 * b.val + n.val / 1024, by omega⟩, rfl⟩
  obtain ⟨r, hr⟩ : ∃ r : Fin 1024, r.val = n.val % 1024 := ⟨⟨n.val % 1024, by omega⟩, rfl⟩
  have hb : b.val = t.val / 2 := by omega
  have hn : n.val = 1024 * (t.val % 2) + r.val := by omega
  rw [at13 m c t r _ b n hb hn]
  have hv : (dats m 0 c).flushed 13 t (ix3 0 r (l)) = P (iblk m c 0 t) (iblk m c 1 t) (iblk m c 2 t) 2 r l := by
    by_cases h0 : t.val % 2 = 0
    · rw [Cert.Kernel3Ideal.Value.flushed13_A m c t h0]
      exact (outA_13 _ _ _ _ _ _ _ _ _ _ _ _ _ _ _ _ _ _ _ _ _ _ _ _ _ _ _ _ _ _ _ _ _ _ _ _ _ _ _ _ _ _ _ _ _ _ _ _ _ _  (ix3 0 r (l)))
    · rw [Cert.Kernel3Ideal.Value.flushed13_B m c t h0]
      exact (outB_13 _ _ _ _ _ _ _ _ _ _ _ _ _ _ _ _ _ _ _ _ _ _ _ _ _ _ _ _ _ _ _ _ _ _ _ _ _ _ _ _ _ _ _ _ _ _ _ _ _ _ _  (ix3 0 r (l)))
  rw [hv, row_val m c t 2 r b n hb hn]

/-- Where the dilated attention's queries of a grid point's row lie in the call's result. -/
theorem at14 (c : Dev nD) (t : Fin cfg0.N) (r : Fin 1024) (l : Fin 512) (b : Fin 32) (n : Fin 2048) (hb : b.val = t.val / 2) (hn : n.val = 1024 * (t.val % 2) + r.val) :
    (dats m 0 c).arrAt 14 cfg0.N (ix3 b n l) = (dats m 0 c).flushed 14 t (ix3 0 r l) := by
  have h := congrFun (Cert.Kernel3Ideal.Value.blocks14 m c t (flush0_14 _)) (ix3 0 r l)
  rw [View.read_apply] at h
  refine Eq.trans ?_ h
  show (dats m 0 c).arrAt 14 cfg0.N _ = (dats m 0 c).arrAt 14 cfg0.N _
  congr 1
  funext a
  apply Fin.ext
  match a with
  | ⟨0, _⟩ => show b.val = win0_14.index t 0 * 1 + 1 * 0; rw [block14]; show _ = t.val / 2 * 1 + 1 * 0; omega
  | ⟨1, _⟩ => show n.val = win0_14.index t 1 * 1024 + 1 * r.val; rw [block14]; show _ = t.val % 2 * 1024 + 1 * r.val; omega
  | ⟨2, _⟩ => show l.val = win0_14.index t 2 * 512 + 1 * l.val; rw [block14]; show _ = 0 * 512 + 1 * l.val; omega

/-- The call's dilated attention's queries. -/
theorem call14 (c : Dev nD) (b : Fin 32) (n : Fin 2048) (h : Fin 8) (e : Fin 64) : (dats m 0 c).arrAt 14 cfg0.N (ix3 b n (lane h e)) = rot (fun f => Ideal.cos (ang n f)) (fun f => Ideal.sin (ang n f)) (hrow (GP m c 3 b n) (fun e => m (c, Proc.tc.devRef main_arg6) (ix1 e)) h) e := by
  have hN : cfg0.N = 64 := N_0
  obtain ⟨t, ht⟩ : ∃ t : Fin cfg0.N, t.val = 2 * b.val + n.val / 1024 := ⟨⟨2 * b.val + n.val / 1024, by omega⟩, rfl⟩
  obtain ⟨r, hr⟩ : ∃ r : Fin 1024, r.val = n.val % 1024 := ⟨⟨n.val % 1024, by omega⟩, rfl⟩
  have hb : b.val = t.val / 2 := by omega
  have hn : n.val = 1024 * (t.val % 2) + r.val := by omega
  rw [at14 m c t r _ b n hb hn]
  obtain rfl : place t r = n := Fin.ext hn.symm
  have hv : (dats m 0 c).flushed 14 t (ix3 0 r (lane h e)) = rot (fun f => Ideal.cos (ang (place t r) f)) (fun f => Ideal.sin (ang (place t r) f)) (hrow (P (iblk m c 0 t) (iblk m c 1 t) (iblk m c 2 t) 3 r) (fun e => m (c, Proc.tc.devRef main_arg6) (ix1 e)) h) e := by
    by_cases h0 : t.val % 2 = 0
    · rw [Cert.Kernel3Ideal.Value.flushed14_A m c t h0]
      exact (outA_14 _ _ _ _ _ _ _ _ _ _ _ _ _ _ _ _ _ _ _ _ _ _ _ _ _ _ _ _ _ _ _ _ _ _ _ _ _ _ _ _ _ _ _ _ _ _ _ _ _ _ (avg m c t) (fun h e => (read6 m c t 2 (lane h e)).trans (host6 m c h e).2.1) (fun r a e => (read8 m c t r (half a e) (place t r) rfl).trans (host8 m c (place t r) a e)) (fun r a e => (read9 m c t r (half a e) (place t r) rfl).trans (host9 m c (place t r) a e)) (fun r a e => (read10 m c t r (half a e) (place t r) rfl).trans (host10 m c (place t r) a e)) (ix3 0 r (lane h e))).trans (flat_at _ _ r h e rfl rfl)
    · rw [Cert.Kernel3Ideal.Value.flushed14_B m c t h0]
      exact (outB_14 _ _ _ _ _ _ _ _ _ _ _ _ _ _ _ _ _ _ _ _ _ _ _ _ _ _ _ _ _ _ _ _ _ _ _ _ _ _ _ _ _ _ _ _ _ _ _ _ _ _ _ (avg m c t) (fun h e => (read6 m c t 2 (lane h e)).trans (host6 m c h e).2.1) (fun r a e => (read8 m c t r (half a e) (place t r) rfl).trans (host8 m c (place t r) a e)) (fun r a e => (read9 m c t r (half a e) (place t r) rfl).trans (host9 m c (place t r) a e)) (fun r a e => (read10 m c t r (half a e) (place t r) rfl).trans (host10 m c (place t r) a e)) (ix3 0 r (lane h e))).trans (flat_at _ _ r h e rfl rfl)
  rw [hv, row_val m c t 3 r b (place t r) hb hn]

/-- Where the dilated attention's keys of a grid point's row lie in the call's result. -/
theorem at15 (c : Dev nD) (t : Fin cfg0.N) (r : Fin 1024) (l : Fin 512) (b : Fin 32) (n : Fin 2048) (hb : b.val = t.val / 2) (hn : n.val = 1024 * (t.val % 2) + r.val) :
    (dats m 0 c).arrAt 15 cfg0.N (ix3 b n l) = (dats m 0 c).flushed 15 t (ix3 0 r l) := by
  have h := congrFun (Cert.Kernel3Ideal.Value.blocks15 m c t (flush0_15 _)) (ix3 0 r l)
  rw [View.read_apply] at h
  refine Eq.trans ?_ h
  show (dats m 0 c).arrAt 15 cfg0.N _ = (dats m 0 c).arrAt 15 cfg0.N _
  congr 1
  funext a
  apply Fin.ext
  match a with
  | ⟨0, _⟩ => show b.val = win0_15.index t 0 * 1 + 1 * 0; rw [block15]; show _ = t.val / 2 * 1 + 1 * 0; omega
  | ⟨1, _⟩ => show n.val = win0_15.index t 1 * 1024 + 1 * r.val; rw [block15]; show _ = t.val % 2 * 1024 + 1 * r.val; omega
  | ⟨2, _⟩ => show l.val = win0_15.index t 2 * 512 + 1 * l.val; rw [block15]; show _ = 0 * 512 + 1 * l.val; omega

/-- The call's dilated attention's keys. -/
theorem call15 (c : Dev nD) (b : Fin 32) (n : Fin 2048) (h : Fin 8) (e : Fin 64) : (dats m 0 c).arrAt 15 cfg0.N (ix3 b n (lane h e)) = rot (fun f => Ideal.cos (ang n f)) (fun f => Ideal.sin (ang n f)) (hrow (GP m c 4 b n) (fun e => m (c, Proc.tc.devRef main_arg7) (ix1 e)) h) e := by
  have hN : cfg0.N = 64 := N_0
  obtain ⟨t, ht⟩ : ∃ t : Fin cfg0.N, t.val = 2 * b.val + n.val / 1024 := ⟨⟨2 * b.val + n.val / 1024, by omega⟩, rfl⟩
  obtain ⟨r, hr⟩ : ∃ r : Fin 1024, r.val = n.val % 1024 := ⟨⟨n.val % 1024, by omega⟩, rfl⟩
  have hb : b.val = t.val / 2 := by omega
  have hn : n.val = 1024 * (t.val % 2) + r.val := by omega
  rw [at15 m c t r _ b n hb hn]
  obtain rfl : place t r = n := Fin.ext hn.symm
  have hv : (dats m 0 c).flushed 15 t (ix3 0 r (lane h e)) = rot (fun f => Ideal.cos (ang (place t r) f)) (fun f => Ideal.sin (ang (place t r) f)) (hrow (P (iblk m c 0 t) (iblk m c 1 t) (iblk m c 2 t) 4 r) (fun e => m (c, Proc.tc.devRef main_arg7) (ix1 e)) h) e := by
    by_cases h0 : t.val % 2 = 0
    · rw [Cert.Kernel3Ideal.Value.flushed15_A m c t h0]
      exact (outA_15 _ _ _ _ _ _ _ _ _ _ _ _ _ _ _ _ _ _ _ _ _ _ _ _ _ _ _ _ _ _ _ _ _ _ _ _ _ _ _ _ _ _ _ _ _ _ _ _ _ _ (avg m c t) (fun h e => (read6 m c t 3 (lane h e)).trans (host6 m c h e).2.2) (fun r a e => (read8 m c t r (half a e) (place t r) rfl).trans (host8 m c (place t r) a e)) (fun r a e => (read9 m c t r (half a e) (place t r) rfl).trans (host9 m c (place t r) a e)) (fun r a e => (read10 m c t r (half a e) (place t r) rfl).trans (host10 m c (place t r) a e)) (ix3 0 r (lane h e))).trans (flat_at _ _ r h e rfl rfl)
    · rw [Cert.Kernel3Ideal.Value.flushed15_B m c t h0]
      exact (outB_15 _ _ _ _ _ _ _ _ _ _ _ _ _ _ _ _ _ _ _ _ _ _ _ _ _ _ _ _ _ _ _ _ _ _ _ _ _ _ _ _ _ _ _ _ _ _ _ _ _ _ _ (avg m c t) (fun h e => (read6 m c t 3 (lane h e)).trans (host6 m c h e).2.2) (fun r a e => (read8 m c t r (half a e) (place t r) rfl).trans (host8 m c (place t r) a e)) (fun r a e => (read9 m c t r (half a e) (place t r) rfl).trans (host9 m c (place t r) a e)) (fun r a e => (read10 m c t r (half a e) (place t r) rfl).trans (host10 m c (place t r) a e)) (ix3 0 r (lane h e))).trans (flat_at _ _ r h e rfl rfl)
  rw [hv, row_val m c t 4 r b (place t r) hb hn]

/-- Where the dilated attention's values of a grid point's row lie in the call's result. -/
theorem at16 (c : Dev nD) (t : Fin cfg0.N) (r : Fin 1024) (l : Fin 512) (b : Fin 32) (n : Fin 2048) (hb : b.val = t.val / 2) (hn : n.val = 1024 * (t.val % 2) + r.val) :
    (dats m 0 c).arrAt 16 cfg0.N (ix3 b n l) = (dats m 0 c).flushed 16 t (ix3 0 r l) := by
  have h := congrFun (Cert.Kernel3Ideal.Value.blocks16 m c t (flush0_16 _)) (ix3 0 r l)
  rw [View.read_apply] at h
  refine Eq.trans ?_ h
  show (dats m 0 c).arrAt 16 cfg0.N _ = (dats m 0 c).arrAt 16 cfg0.N _
  congr 1
  funext a
  apply Fin.ext
  match a with
  | ⟨0, _⟩ => show b.val = win0_16.index t 0 * 1 + 1 * 0; rw [block16]; show _ = t.val / 2 * 1 + 1 * 0; omega
  | ⟨1, _⟩ => show n.val = win0_16.index t 1 * 1024 + 1 * r.val; rw [block16]; show _ = t.val % 2 * 1024 + 1 * r.val; omega
  | ⟨2, _⟩ => show l.val = win0_16.index t 2 * 512 + 1 * l.val; rw [block16]; show _ = 0 * 512 + 1 * l.val; omega

/-- The call's dilated attention's values. -/
theorem call16 (c : Dev nD) (b : Fin 32) (n : Fin 2048) (l : Fin 512) : (dats m 0 c).arrAt 16 cfg0.N (ix3 b n (l)) = GP m c 5 b n l := by
  have hN : cfg0.N = 64 := N_0
  obtain ⟨t, ht⟩ : ∃ t : Fin cfg0.N, t.val = 2 * b.val + n.val / 1024 := ⟨⟨2 * b.val + n.val / 1024, by omega⟩, rfl⟩
  obtain ⟨r, hr⟩ : ∃ r : Fin 1024, r.val = n.val % 1024 := ⟨⟨n.val % 1024, by omega⟩, rfl⟩
  have hb : b.val = t.val / 2 := by omega
  have hn : n.val = 1024 * (t.val % 2) + r.val := by omega
  rw [at16 m c t r _ b n hb hn]
  have hv : (dats m 0 c).flushed 16 t (ix3 0 r (l)) = P (iblk m c 0 t) (iblk m c 1 t) (iblk m c 2 t) 5 r l := by
    by_cases h0 : t.val % 2 = 0
    · rw [Cert.Kernel3Ideal.Value.flushed16_A m c t h0]
      exact (outA_16 _ _ _ _ _ _ _ _ _ _ _ _ _ _ _ _ _ _ _ _ _ _ _ _ _ _ _ _ _ _ _ _ _ _ _ _ _ _ _ _ _ _ _ _ _ _ _ _ _ _  (ix3 0 r (l)))
    · rw [Cert.Kernel3Ideal.Value.flushed16_B m c t h0]
      exact (outB_16 _ _ _ _ _ _ _ _ _ _ _ _ _ _ _ _ _ _ _ _ _ _ _ _ _ _ _ _ _ _ _ _ _ _ _ _ _ _ _ _ _ _ _ _ _ _ _ _ _ _ _  (ix3 0 r (l)))
  rw [hv, row_val m c t 5 r b n hb hn]

end Cert.Proj
end
-- ==== Proof.ProjRef.lean ====
module
public import proofs.«01_k».proof.Proof.Gen.Reference3Ideal.Read
public import proofs.«01_k».proof.Proof.ProjCall

/-! The reference of the input projection, read index by index: each result's row is the function of the arguments' rows
    that the kernel computes. -/

@[expose] public section
set_option maxRecDepth 16384
noncomputable section
namespace Cert.Proj
open Idealize.ShloMosaic Idealize.ShloMosaic.Tactic Cert.Reference3Ideal Cert.Reference3Ideal.Read Cert.Ffn

variable (x0 : Vec Ideal S32x2048x1024 .f32) (x1 : Vec Ideal S1024 .f32) (x2 : Vec Ideal S1024x3080 .f32) (x4 x5 x6 x7 : Vec Ideal S64 .f32)

/-- One token's share of column block `j` of the projection. -/
def RP (j : Fin 6) (b : Fin 32) (n : Fin 2048) : Fin 512 → EReal :=
  prow (fun k => x0 (ix3 b n k)) (fun k => x1 (ix1 k)) (fun k l => x2 (ix2 k (col j l)))

/-- The whole projection. -/
theorem in_val (b : Fin 32) (n : Fin 2048) (j : Fin 3080) :
    val_main_v14 (F := Ideal) x0 x1 x2 (ix3 b n j)
      = ∑ k, nrm (Ideal.ofBits FTy.f32 1149239296#32) (fun k => x0 (ix3 b n k)) (fun k => x1 (ix1 k)) k * x2 (ix2 k j) := by
  have h : ∀ k : Fin 1024, val_main_v13 (F := Ideal) x0 x1 (ix3 b n k) = nrm (Ideal.ofBits FTy.f32 1149239296#32) (fun k => x0 (ix3 b n k)) (fun k => x1 (ix1 k)) k := by
    intro k
    pointwise [val_main_v1, val_main_cst, val_main_v2, val_main_v3, val_main_cst_0, val_main_v4, val_main_v5, val_main_cst_1, val_main_v6,
      val_main_v7, val_main_v8, val_main_v9, val_main_v10, val_main_v11, val_main_v12, val_main_v13]
    rfl
  unfold val_main_v14
  generalize val_main_v13 (F := Ideal) x0 x1 = u at h ⊢
  pointwise []
  exact Finset.sum_congr rfl fun k _ => by rw [h]

/-- A column of the projection, as a column of its block. -/
theorem in_col (b : Fin 32) (n : Fin 2048) (j : Fin 6) (l : Fin 512) (q : Fin 3080) (hq : q.val = (col j l).val) :
    val_main_v14 (F := Ideal) x0 x1 x2 (ix3 b n q) = RP x0 x1 x2 j b n l := by
  obtain rfl : q = col j l := Fin.ext hq
  exact in_val x0 x1 x2 b n _

/-- The columns of the forgetting attention's queries. -/
theorem cut0 (b : Fin 32) (n : Fin 2048) (l : Fin 512) : val_main_v15 (F := Ideal) x0 x1 x2 (ix3 b n l) = RP x0 x1 x2 0 b n l := by
  refine Eq.trans ?_ (in_col x0 x1 x2 b n 0 l ⟨0 + l.val, by omega⟩ (by unfold col; dsimp only; split_ifs with h <;> first | omega | (exfalso; revert h; decide)))
  unfold val_main_v15
  generalize val_main_v14 (F := Ideal) x0 x1 x2 = u
  pointwise []

/-- The columns of the forgetting attention's keys. -/
theorem cut1 (b : Fin 32) (n : Fin 2048) (l : Fin 512) : val_main_v16 (F := Ideal) x0 x1 x2 (ix3 b n l) = RP x0 x1 x2 1 b n l := by
  refine Eq.trans ?_ (in_col x0 x1 x2 b n 1 l ⟨512 + l.val, by omega⟩ (by unfold col; dsimp only; split_ifs with h <;> first | omega | (exfalso; revert h; decide)))
  unfold val_main_v16
  generalize val_main_v14 (F := Ideal) x0 x1 x2 = u
  pointwise []

/-- The columns of the forgetting attention's values. -/
theorem cut2 (b : Fin 32) (n : Fin 2048) (l : Fin 512) : val_main_v17 (F := Ideal) x0 x1 x2 (ix3 b n l) = RP x0 x1 x2 2 b n l := by
  refine Eq.trans ?_ (in_col x0 x1 x2 b n 2 l ⟨1024 + l.val, by omega⟩ (by unfold col; dsimp only; split_ifs with h <;> first | omega | (exfalso; revert h; decide)))
  unfold val_main_v17
  generalize val_main_v14 (F := Ideal) x0 x1 x2 = u
  pointwise []

/-- The columns of the dilated attention's queries. -/
theorem cut3 (b : Fin 32) (n : Fin 2048) (l : Fin 512) : val_main_v19 (F := Ideal) x0 x1 x2 (ix3 b n l) = RP x0 x1 x2 3 b n l := by
  refine Eq.trans ?_ (in_col x0 x1 x2 b n 3 l ⟨1544 + l.val, by omega⟩ (by unfold col; dsimp only; split_ifs with h <;> first | omega | (exfalso; revert h; decide)))
  unfold val_main_v19
  generalize val_main_v14 (F := Ideal) x0 x1 x2 = u
  pointwise []

/-- The columns of the dilated attention's keys. -/
theorem cut4 (b : Fin 32) (n : Fin 2048) (l : Fin 512) : val_main_v20 (F := Ideal) x0 x1 x2 (ix3 b n l) = RP x0 x1 x2 4 b n l := by
  refine Eq.trans ?_ (in_col x0 x1 x2 b n 4 l ⟨2056 + l.val, by omega⟩ (by unfold col; dsimp only; split_ifs with h <;> first | omega | (exfalso; revert h; decide)))
  unfold val_main_v20
  generalize val_main_v14 (F := Ideal) x0 x1 x2 = u
  pointwise []

/-- The columns of the dilated attention's values. -/
theorem cut5 (b : Fin 32) (n : Fin 2048) (l : Fin 512) : val_main_v21 (F := Ideal) x0 x1 x2 (ix3 b n l) = RP x0 x1 x2 5 b n l := by
  refine Eq.trans ?_ (in_col x0 x1 x2 b n 5 l ⟨2568 + l.val, by omega⟩ (by unfold col; dsimp only; split_ifs with h <;> first | omega | (exfalso; revert h; decide)))
  unfold val_main_v21
  generalize val_main_v14 (F := Ideal) x0 x1 x2 = u
  pointwise []

/-- The forgetting attention's queries, head by head. -/
theorem split0 (b : Fin 32) (n : Fin 2048) (h : Fin 8) (e : Fin 64) : val_main_v22 (F := Ideal) x0 x1 x2 (ix4 b n h e) = RP x0 x1 x2 0 b n (lane h e) := by
  refine Eq.trans ?_ (cut0 x0 x1 x2 b n (lane h e))
  unfold val_main_v22 lane
  generalize val_main_v15 (F := Ideal) x0 x1 x2 = u
  pointwise []
  exact congrArg (fun q => u (ix3 b n q)) (Fin.ext (by show h.val * 64 + e.val = 64 * h.val + e.val; omega))

/-- The forgetting attention's queries, normalised. -/
theorem norm0 (b : Fin 32) (n : Fin 2048) (h : Fin 8) (e : Fin 64) :
    val_main_v35 (F := Ideal) x0 x1 x2 x4 (ix4 b n h e) = hrow (RP x0 x1 x2 0 b n) (fun e => x4 (ix1 e)) h e := by
  have hs := split0 x0 x1 x2 b n h
  unfold val_main_v35 val_main_v34 val_main_v33 val_main_v32 val_main_v31 val_main_v30 val_main_v29 val_main_v28 val_main_cst_4 val_main_v27 val_main_v26 val_main_cst_3 val_main_v25 val_main_v24 val_main_cst_2 val_main_v23
  generalize val_main_v22 (F := Ideal) x0 x1 x2 = u at hs ⊢
  unfold hrow
  simp only [← hs]
  pointwise []
  rfl

/-- The forgetting attention's keys, head by head. -/
theorem split1 (b : Fin 32) (n : Fin 2048) (h : Fin 8) (e : Fin 64) : val_main_v36 (F := Ideal) x0 x1 x2 (ix4 b n h e) = RP x0 x1 x2 1 b n (lane h e) := by
  refine Eq.trans ?_ (cut1 x0 x1 x2 b n (lane h e))
  unfold val_main_v36 lane
  generalize val_main_v16 (F := Ideal) x0 x1 x2 = u
  pointwise []
  exact congrArg (fun q => u (ix3 b n q)) (Fin.ext (by show h.val * 64 + e.val = 64 * h.val + e.val; omega))

/-- The forgetting attention's keys, normalised. -/
theorem norm1 (b : Fin 32) (n : Fin 2048) (h : Fin 8) (e : Fin 64) :
    val_main_v49 (F := Ideal) x0 x1 x2 x5 (ix4 b n h e) = hrow (RP x0 x1 x2 1 b n) (fun e => x5 (ix1 e)) h e := by
  have hs := split1 x0 x1 x2 b n h
  unfold val_main_v49 val_main_v48 val_main_v47 val_main_v46 val_main_v45 val_main_v44 val_main_v43 val_main_v42 val_main_cst_7 val_main_v41 val_main_v40 val_main_cst_6 val_main_v39 val_main_v38 val_main_cst_5 val_main_v37
  generalize val_main_v36 (F := Ideal) x0 x1 x2 = u at hs ⊢
  unfold hrow
  simp only [← hs]
  pointwise []
  rfl

/-- The dilated attention's queries, head by head. -/
theorem split3 (b : Fin 32) (n : Fin 2048) (h : Fin 8) (e : Fin 64) : val_main_v50 (F := Ideal) x0 x1 x2 (ix4 b n h e) = RP x0 x1 x2 3 b n (lane h e) := by
  refine Eq.trans ?_ (cut3 x0 x1 x2 b n (lane h e))
  unfold val_main_v50 lane
  generalize val_main_v19 (F := Ideal) x0 x1 x2 = u
  pointwise []
  exact congrArg (fun q => u (ix3 b n q)) (Fin.ext (by show h.val * 64 + e.val = 64 * h.val + e.val; omega))

/-- The dilated attention's queries, normalised. -/
theorem norm3 (b : Fin 32) (n : Fin 2048) (h : Fin 8) (e : Fin 64) :
    val_main_v63 (F := Ideal) x0 x1 x2 x6 (ix4 b n h e) = hrow (RP x0 x1 x2 3 b n) (fun e => x6 (ix1 e)) h e := by
  have hs := split3 x0 x1 x2 b n h
  unfold val_main_v63 val_main_v62 val_main_v61 val_main_v60 val_main_v59 val_main_v58 val_main_v57 val_main_v56 val_main_cst_10 val_main_v55 val_main_v54 val_main_cst_9 val_main_v53 val_main_v52 val_main_cst_8 val_main_v51
  generalize val_main_v50 (F := Ideal) x0 x1 x2 = u at hs ⊢
  unfold hrow
  simp only [← hs]
  pointwise []
  rfl

/-- The dilated attention's keys, head by head. -/
theorem split4 (b : Fin 32) (n : Fin 2048) (h : Fin 8) (e : Fin 64) : val_main_v96 (F := Ideal) x0 x1 x2 (ix4 b n h e) = RP x0 x1 x2 4 b n (lane h e) := by
  refine Eq.trans ?_ (cut4 x0 x1 x2 b n (lane h e))
  unfold val_main_v96 lane
  generalize val_main_v20 (F := Ideal) x0 x1 x2 = u
  pointwise []
  exact congrArg (fun q => u (ix3 b n q)) (Fin.ext (by show h.val * 64 + e.val = 64 * h.val + e.val; omega))

/-- The dilated attention's keys, normalised. -/
theorem norm4 (b : Fin 32) (n : Fin 2048) (h : Fin 8) (e : Fin 64) :
    val_main_v109 (F := Ideal) x0 x1 x2 x7 (ix4 b n h e) = hrow (RP x0 x1 x2 4 b n) (fun e => x7 (ix1 e)) h e := by
  have hs := split4 x0 x1 x2 b n h
  unfold val_main_v109 val_main_v108 val_main_v107 val_main_v106 val_main_v105 val_main_v104 val_main_v103 val_main_v102 val_main_cst_16 val_main_v101 val_main_v100 val_main_cst_15 val_main_v99 val_main_v98 val_main_cst_14 val_main_v97
  generalize val_main_v96 (F := Ideal) x0 x1 x2 = u at hs ⊢
  unfold hrow
  simp only [← hs]
  pointwise []
  rfl

/-- The dilated attention's queries, rotated. -/
theorem turn3 (b : Fin 32) (n : Fin 2048) (h : Fin 8) (e : Fin 64) :
    val_main_v95 (F := Ideal) x0 x1 x2 x6 (ix4 b n h e)
      = rot (fun f => Ideal.cos (ang n f)) (fun f => Ideal.sin (ang n f)) (hrow (RP x0 x1 x2 3 b n) (fun e => x6 (ix1 e)) h) e := by
  have hs := norm3 x0 x1 x2 x6 b n h
  rw [← funext hs]
  unfold val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v0 val_main_cst_11 val_main_cst_12 val_main_cst_13
  generalize val_main_v63 (F := Ideal) x0 x1 x2 x6 = u
  pointwise []
  unfold rot
  by_cases h1 : e.val < 8
  · simp only [dif_pos h1, Nat.add_comm 8 e.val]
    rfl
  · have h2 : 8 + (e.val - 8) = e.val := by omega
    by_cases h3 : e.val < 16
    · have h4 : e.val - 8 < 8 := by omega
      simp only [dif_neg h1, dif_pos h3, dif_pos h4, h2]
      rfl
    · have h4 : ¬e.val - 8 < 8 := by omega
      have h5 : 16 + (e.val - 8 - 8) = e.val := by omega
      simp only [dif_neg h1, dif_neg h3, dif_neg h4, h5]

/-- The result of the dilated attention's queries. -/
theorem ref3 (b : Fin 32) (n : Fin 2048) (h : Fin 8) (e : Fin 64) :
    val_main_v152 (F := Ideal) x0 x1 x2 x6 (ix3 b n (lane h e))
      = rot (fun f => Ideal.cos (ang n f)) (fun f => Ideal.sin (ang n f)) (hrow (RP x0 x1 x2 3 b n) (fun e => x6 (ix1 e)) h) e := by
  refine Eq.trans ?_ (turn3 x0 x1 x2 x6 b n h e)
  unfold val_main_v152 val_main_v151 lane
  generalize val_main_v95 (F := Ideal) x0 x1 x2 x6 = u
  pointwise []

/-- The dilated attention's keys, rotated. -/
theorem turn4 (b : Fin 32) (n : Fin 2048) (h : Fin 8) (e : Fin 64) :
    val_main_v141 (F := Ideal) x0 x1 x2 x7 (ix4 b n h e)
      = rot (fun f => Ideal.cos (ang n f)) (fun f => Ideal.sin (ang n f)) (hrow (RP x0 x1 x2 4 b n) (fun e => x7 (ix1 e)) h) e := by
  have hs := norm4 x0 x1 x2 x7 b n h
  rw [← funext hs]
  unfold val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v0 val_main_cst_17 val_main_cst_18 val_main_cst_19
  generalize val_main_v109 (F := Ideal) x0 x1 x2 x7 = u
  pointwise []
  unfold rot
  by_cases h1 : e.val < 8
  · simp only [dif_pos h1, Nat.add_comm 8 e.val]
    rfl
  · have h2 : 8 + (e.val - 8) = e.val := by omega
    by_cases h3 : e.val < 16
    · have h4 : e.val - 8 < 8 := by omega
      simp only [dif_neg h1, dif_pos h3, dif_pos h4, h2]
      rfl
    · have h4 : ¬e.val - 8 < 8 := by omega
      have h5 : 16 + (e.val - 8 - 8) = e.val := by omega
      simp only [dif_neg h1, dif_neg h3, dif_neg h4, h5]

/-- The result of the dilated attention's keys. -/
theorem ref4 (b : Fin 32) (n : Fin 2048) (h : Fin 8) (e : Fin 64) :
    val_main_v154 (F := Ideal) x0 x1 x2 x7 (ix3 b n (lane h e))
      = rot (fun f => Ideal.cos (ang n f)) (fun f => Ideal.sin (ang n f)) (hrow (RP x0 x1 x2 4 b n) (fun e => x7 (ix1 e)) h) e := by
  refine Eq.trans ?_ (turn4 x0 x1 x2 x7 b n h e)
  unfold val_main_v154 val_main_v153 lane
  generalize val_main_v141 (F := Ideal) x0 x1 x2 x7 = u
  pointwise []

/-- The result of the forgetting attention's queries, where it is not the padding. -/
theorem ref0 (b : Fin 32) (n : Fin 2048) (h : Fin 8) (e : Fin 64) :
    val_main_v148 (F := Ideal) x0 x1 x2 x4 (ix3 b n (wlane h e)) = hrow (RP x0 x1 x2 0 b n) (fun e => x4 (ix1 e)) h e := by
  refine Eq.trans ?_ (norm0 x0 x1 x2 x4 b n h e)
  unfold val_main_v148 val_main_v144 val_main_v143 val_main_v142 val_main_call0_v0 wlane
  generalize val_main_v35 (F := Ideal) x0 x1 x2 x4 = u
  pointwise []
  exact dif_pos (by omega)

/-- The result of the forgetting attention's keys, where it is not the padding. -/
theorem ref1 (b : Fin 32) (n : Fin 2048) (h : Fin 8) (e : Fin 64) :
    val_main_v149 (F := Ideal) x0 x1 x2 x5 (ix3 b n (wlane h e)) = hrow (RP x0 x1 x2 1 b n) (fun e => x5 (ix1 e)) h e := by
  refine Eq.trans ?_ (norm1 x0 x1 x2 x5 b n h e)
  unfold val_main_v149 val_main_v147 val_main_v146 val_main_v145 val_main_call1_v0 wlane
  generalize val_main_v49 (F := Ideal) x0 x1 x2 x5 = u
  pointwise []
  exact dif_pos (by omega)

/-- The result of the forgetting attention's values. -/
theorem ref2 (b : Fin 32) (n : Fin 2048) (l : Fin 512) : val_main_v150 (F := Ideal) x0 x1 x2 (ix3 b n l) = RP x0 x1 x2 2 b n l := by
  refine Eq.trans ?_ (cut2 x0 x1 x2 b n l)
  unfold val_main_v150
  generalize val_main_v17 (F := Ideal) x0 x1 x2 = u
  pointwise []

/-- The result of the dilated attention's values. -/
theorem ref5 (b : Fin 32) (n : Fin 2048) (l : Fin 512) : val_main_v155 (F := Ideal) x0 x1 x2 (ix3 b n l) = RP x0 x1 x2 5 b n l := by
  refine Eq.trans ?_ (cut5 x0 x1 x2 b n l)
  unfold val_main_v155
  generalize val_main_v21 (F := Ideal) x0 x1 x2 = u
  pointwise []

end Cert.Proj
end
-- ==== Proof.ProjEq.lean ====
module
public import proofs.«01_k».proof.Proof.ProjRef
public import proofs.«01_k».proof.On_no_gates

/-! The input projection's six results are the reference's: the two computed arrays, entry by entry, and what the mask
    says of an entry. -/

@[expose] public section
set_option maxRecDepth 16384
noncomputable section
namespace Cert.Proj
open Idealize.ShloMosaic Idealize.ShloMosaic.TcCoe Idealize.ShloMosaic.Tactic

/-- The mask's side conditions. -/
theorem on_facts : Cert.On_no_gates.Facts where
  bcast_S_S32x2048x512 := by decide
  bcast_S_S32x2048x1024 := by decide

/-- The mask at lane `l`, as it is computed: the lane's remainder by 256, set right for signs, is below 128. -/
def msk (l : ℕ) : BitVec 1 :=
  IntOp.cmpi .slt
    (Scalar.select
      (IntOp.andi (IntOp.cmpi .ne (IntOp.cmpi .slt (IntOp.remsi ArithUnit.host (BitVec.ofNat 32 l) 256#32) 0#32) (IntOp.cmpi .slt 256#32 0#32))
        (IntOp.cmpi .ne (IntOp.remsi ArithUnit.host (BitVec.ofNat 32 l) 256#32) 0#32))
      (IntOp.addi (IntOp.remsi ArithUnit.host (BitVec.ofNat 32 l) 256#32) 256#32)
      (IntOp.remsi ArithUnit.host (BitVec.ofNat 32 l) 256#32)) 128#32

/-- Where the mask holds, the lane is none of the gates'. -/
theorem msk_lane : ∀ l : Fin 1024, msk l.val = 1#1 → l.val % 256 < 128 := by decide +kernel

section
variable (y0 : FVec Ideal ⟨3, ![32, 2048, 1024]⟩ .f32) (y1 : FVec Ideal ⟨1, ![1024]⟩ .f32) (y2 : FVec Ideal ⟨2, ![1024, 3080]⟩ .f32)
  (y3 : FVec Ideal ⟨1, ![8]⟩ .f32) (y4 y5 y6 y7 : FVec Ideal ⟨1, ![64]⟩ .f32)

/-- The first result's mask. -/
theorem mask1 (b : Fin 32) (n : Fin 2048) (l : Fin 1024) : (@Cert.On_no_gates.fn on_facts Ideal _ y0 y1 y2 y3 y4 y5 y6 y7).1 (ix3 b n l) = msk l.val := by
  unfold Cert.On_no_gates.fn Cert.On_no_gates.fn_remainder Cert.On_no_gates.fn_where
  dsimp only
  pointwise []
  rfl

/-- The second result's mask. -/
theorem mask2 (b : Fin 32) (n : Fin 2048) (l : Fin 1024) : (@Cert.On_no_gates.fn on_facts Ideal _ y0 y1 y2 y3 y4 y5 y6 y7).2.1 (ix3 b n l) = msk l.val :=
  mask1 y0 y1 y2 y3 y4 y5 y6 y7 b n l
end

/-- An index of three axes is its three entries. -/
theorem idx3 {a b c : ℕ} (i : (⟨3, ![a, b, c]⟩ : Shape).Idx) : ∃ (x : Fin a) (y : Fin b) (z : Fin c), i = ix3 x y z :=
  ⟨i 0, i 1, i 2, funext fun a => Fin.ext (by match a with | ⟨0, _⟩ => rfl | ⟨1, _⟩ => rfl | ⟨2, _⟩ => rfl)⟩

/-- A lane below 512 is a lane of a head. -/
theorem lane_eq (l : Fin 512) : ∃ h e, l = lane h e :=
  ⟨⟨l.val / 64, by omega⟩, ⟨l.val % 64, by omega⟩, Fin.ext (by show l.val = 64 * (l.val / 64) + l.val % 64; omega)⟩

/-- A lane of the first half of each 256 is a lane of a head. -/
theorem wlane_eq (l : Fin 1024) (hl : l.val % 256 < 128) : ∃ h e, l = wlane h e :=
  ⟨⟨2 * (l.val / 256) + l.val % 256 / 64, by omega⟩, ⟨l.val % 64, by omega⟩,
    Fin.ext (by
      show l.val = 256 * ((2 * (l.val / 256) + l.val % 256 / 64) / 2) + 64 * ((2 * (l.val / 256) + l.val % 256 / 64) % 2) + l.val % 64
      omega)⟩

variable (m : (ℓ : Loc Cert.Kernel3Ideal.nD Cert.Kernel3Ideal.τ Cert.Kernel3Ideal.sig) → Buf (Elt Ideal) ℓ) (c : Dev Cert.Kernel3Ideal.nD)

/-- The kernel's argument `x` on the device. -/
abbrev at0 (x : Ref Cert.Kernel3Ideal.sig .tc) : Buf (Elt Ideal) ((c.tc : Thread Cert.Kernel3Ideal.nD Cert.Kernel3Ideal.τ).loc x) := m ((c.tc : Thread Cert.Kernel3Ideal.nD Cert.Kernel3Ideal.τ).loc x)

open Cert.Kernel3Ideal (main_arg0 main_arg1 main_arg2 main_arg3 main_arg4 main_arg5 main_arg6 main_arg7)
open Cert.Reference3Ideal.Read

/-- The forgetting attention's queries. -/
theorem eq11 (i : (⟨3, ![32, 2048, 1024]⟩ : Shape).Idx)
    (hi : (@Cert.On_no_gates.fn on_facts Ideal _ (at0 m c main_arg0) (at0 m c main_arg1) (at0 m c main_arg2) (at0 m c main_arg3) (at0 m c main_arg4) (at0 m c main_arg5) (at0 m c main_arg6) (at0 m c main_arg7)).1 i = 1#1) :
    val_main_v148 (F := Ideal) (at0 m c main_arg0) (at0 m c main_arg1) (at0 m c main_arg2) (at0 m c main_arg4) i = (Cert.Kernel3Ideal.Gen.dats m 0 c).arrAt 11 Cert.Kernel3Ideal.cfg0.N i := by
  obtain ⟨b, n, l, rfl⟩ := idx3 i
  rw [mask1] at hi
  obtain ⟨h, e, rfl⟩ := wlane_eq l (msk_lane l hi)
  exact (ref0 _ _ _ _ b n h e).trans (call11 m c b n h e).symm

/-- The forgetting attention's keys. -/
theorem eq12 (i : (⟨3, ![32, 2048, 1024]⟩ : Shape).Idx)
    (hi : (@Cert.On_no_gates.fn on_facts Ideal _ (at0 m c main_arg0) (at0 m c main_arg1) (at0 m c main_arg2) (at0 m c main_arg3) (at0 m c main_arg4) (at0 m c main_arg5) (at0 m c main_arg6) (at0 m c main_arg7)).2.1 i = 1#1) :
    val_main_v149 (F := Ideal) (at0 m c main_arg0) (at0 m c main_arg1) (at0 m c main_arg2) (at0 m c main_arg5) i = (Cert.Kernel3Ideal.Gen.dats m 0 c).arrAt 12 Cert.Kernel3Ideal.cfg0.N i := by
  obtain ⟨b, n, l, rfl⟩ := idx3 i
  rw [mask2] at hi
  obtain ⟨h, e, rfl⟩ := wlane_eq l (msk_lane l hi)
  exact (ref1 _ _ _ _ b n h e).trans (call12 m c b n h e).symm

/-- The forgetting attention's values. -/
theorem eq13 (i : (⟨3, ![32, 2048, 512]⟩ : Shape).Idx) :
    val_main_v150 (F := Ideal) (at0 m c main_arg0) (at0 m c main_arg1) (at0 m c main_arg2) i = (Cert.Kernel3Ideal.Gen.dats m 0 c).arrAt 13 Cert.Kernel3Ideal.cfg0.N i := by
  obtain ⟨b, n, l, rfl⟩ := idx3 i
  exact (ref2 _ _ _ b n l).trans (call13 m c b n l).symm

/-- The dilated attention's queries. -/
theorem eq14 (i : (⟨3, ![32, 2048, 512]⟩ : Shape).Idx) :
    val_main_v152 (F := Ideal) (at0 m c main_arg0) (at0 m c main_arg1) (at0 m c main_arg2) (at0 m c main_arg6) i = (Cert.Kernel3Ideal.Gen.dats m 0 c).arrAt 14 Cert.Kernel3Ideal.cfg0.N i := by
  obtain ⟨b, n, l, rfl⟩ := idx3 i
  obtain ⟨h, e, rfl⟩ := lane_eq l
  exact (ref3 _ _ _ _ b n h e).trans (call14 m c b n h e).symm

/-- The dilated attention's keys. -/
theorem eq15 (i : (⟨3, ![32, 2048, 512]⟩ : Shape).Idx) :
    val_main_v154 (F := Ideal) (at0 m c main_arg0) (at0 m c main_arg1) (at0 m c main_arg2) (at0 m c main_arg7) i = (Cert.Kernel3Ideal.Gen.dats m 0 c).arrAt 15 Cert.Kernel3Ideal.cfg0.N i := by
  obtain ⟨b, n, l, rfl⟩ := idx3 i
  obtain ⟨h, e, rfl⟩ := lane_eq l
  exact (ref4 _ _ _ _ b n h e).trans (call15 m c b n h e).symm

/-- The dilated attention's values. -/
theorem eq16 (i : (⟨3, ![32, 2048, 512]⟩ : Shape).Idx) :
    val_main_v155 (F := Ideal) (at0 m c main_arg0) (at0 m c main_arg1) (at0 m c main_arg2) i = (Cert.Kernel3Ideal.Gen.dats m 0 c).arrAt 16 Cert.Kernel3Ideal.cfg0.N i := by
  obtain ⟨b, n, l, rfl⟩ := idx3 i
  exact (ref5 _ _ _ b n l).trans (call16 m c b n l).symm
end Cert.Proj
end
-- ==== Proof.FfnCall.lean ====
module
public import proofs.«01_k».proof.Proof.Ffn

/-! The feed-forward call's arguments as the host prepares them, the blocks its grid points read, and its result. -/

@[expose] public section
set_option maxRecDepth 16384
noncomputable section
namespace Cert.Ffn
open Idealize.ShloMosaic Idealize.ShloMosaic.TcCoe Idealize.ShloMosaic.Tactic Cert.Kernel2Ideal Cert.Kernel2Ideal.Gen

variable (m : (ℓ : Loc nD τ sig) → Buf (Elt Ideal) ℓ)

/-- What the call is given for the residual's rows. -/
theorem host0 (c : Dev nD) (n : Fin 65536) (l : Fin 1024) :
    V m c main_v0 (ix2 n l) = (m (c, Proc.tc.devRef main_arg0) (ix3 (bat n) (pos n) l) : EReal) := by
  unfold_abbrev_sides
  after_results
  pointwise []
  rfl

/-- What the call is given for the forgetting attention's rows. -/
theorem host1 (c : Dev nD) (n : Fin 65536) (l : Fin 512) :
    V m c main_v2 (ix2 n l) = (m (c, Proc.tc.devRef main_arg1) (ix3 (bat n) (pos n) l) : EReal) := by
  unfold_abbrev_sides
  after_results
  pointwise []
  rfl

/-- What the call is given for the dilated attention's rows. -/
theorem host2 (c : Dev nD) (n : Fin 65536) (l : Fin 512) :
    V m c main_v4 (ix2 n l) = (m (c, Proc.tc.devRef main_arg2) (ix3 (bat n) (pos n) l) : EReal) := by
  unfold_abbrev_sides
  after_results
  pointwise []
  rfl

/-- What the call is given for the forgetting attention's gains. -/
theorem host3 (c : Dev nD) (l : Fin 512) :
    V m c main_v5 (ix2 0 l) = (m (c, Proc.tc.devRef main_arg3) (ix1 l) : EReal) := by
  unfold_abbrev_sides
  after_results
  pointwise []

/-- What the call is given for the dilated attention's gains. -/
theorem host4 (c : Dev nD) (l : Fin 512) :
    V m c main_v6 (ix2 0 l) = (m (c, Proc.tc.devRef main_arg4) (ix1 l) : EReal) := by
  unfold_abbrev_sides
  after_results
  pointwise []

/-- What the call is given for the first half of the output projection. -/
theorem host5 (c : Dev nD) (k : Fin 512) (l : Fin 1024) :
    V m c main_v8 (ix2 k l) = (m (c, Proc.tc.devRef main_arg5) (ix2 (⟨k.val, by omega⟩ : Fin 1024) l) : EReal) := by
  unfold_abbrev_sides
  after_results
  pointwise []

/-- What the call is given for the second half of the output projection. -/
theorem host6 (c : Dev nD) (k : Fin 512) (l : Fin 1024) :
    V m c main_v10 (ix2 k l) = (m (c, Proc.tc.devRef main_arg5) (ix2 (⟨512 + k.val, by omega⟩ : Fin 1024) l) : EReal) := by
  unfold_abbrev_sides
  after_results
  pointwise []

/-- What the call is given for the feed-forward's gains. -/
theorem host7 (c : Dev nD) (l : Fin 1024) :
    V m c main_v11 (ix2 0 l) = (m (c, Proc.tc.devRef main_arg6) (ix1 l) : EReal) := by
  unfold_abbrev_sides
  after_results
  pointwise []

/-- What the call is given for the gate's matrix. -/
theorem host8 (c : Dev nD) (k : Fin 1024) (l : Fin 2816) :
    V m c main_v12 (ix2 k l) = (m (c, Proc.tc.devRef main_arg7) (ix2 k l) : EReal) := by
  unfold_abbrev_sides
  after_results
  pointwise []

/-- What the call is given for the other widening matrix. -/
theorem host9 (c : Dev nD) (k : Fin 1024) (l : Fin 2816) :
    V m c main_v13 (ix2 k l) = (m (c, Proc.tc.devRef main_arg8) (ix2 k l) : EReal) := by
  unfold_abbrev_sides
  after_results
  pointwise []

/-- What the call is given for the narrowing matrix. -/
theorem host10 (c : Dev nD) (k : Fin 2816) (l : Fin 1024) :
    V m c main_v14 (ix2 k l) = (m (c, Proc.tc.devRef main_arg9) (ix2 k l) : EReal) := by
  unfold_abbrev_sides
  after_results
  pointwise []

/-- Which block of window 0 each grid point takes. -/
theorem block0 : ∀ t : Fin grid0.N, win0_0.index t = ![t.val, 0] := by decide +kernel

/-- Which block of window 1 each grid point takes. -/
theorem block1 : ∀ t : Fin grid0.N, win0_1.index t = ![t.val, 0] := by decide +kernel

/-- Which block of window 2 each grid point takes. -/
theorem block2 : ∀ t : Fin grid0.N, win0_2.index t = ![t.val, 0] := by decide +kernel

/-- Which block of window 3 each grid point takes. -/
theorem block3 : ∀ t : Fin grid0.N, win0_3.index t = ![0, 0] := by decide +kernel

/-- Which block of window 4 each grid point takes. -/
theorem block4 : ∀ t : Fin grid0.N, win0_4.index t = ![0, 0] := by decide +kernel

/-- Which block of window 5 each grid point takes. -/
theorem block5 : ∀ t : Fin grid0.N, win0_5.index t = ![0, 0] := by decide +kernel

/-- Which block of window 6 each grid point takes. -/
theorem block6 : ∀ t : Fin grid0.N, win0_6.index t = ![0, 0] := by decide +kernel

/-- Which block of window 7 each grid point takes. -/
theorem block7 : ∀ t : Fin grid0.N, win0_7.index t = ![0, 0] := by decide +kernel

/-- Which block of window 8 each grid point takes. -/
theorem block8 : ∀ t : Fin grid0.N, win0_8.index t = ![0, 0] := by decide +kernel

/-- Which block of window 9 each grid point takes. -/
theorem block9 : ∀ t : Fin grid0.N, win0_9.index t = ![0, 0] := by decide +kernel

/-- Which block of window 10 each grid point takes. -/
theorem block10 : ∀ t : Fin grid0.N, win0_10.index t = ![0, 0] := by decide +kernel

/-- Which block of window 11 each grid point takes. -/
theorem block11 : ∀ t : Fin grid0.N, win0_11.index t = ![t.val, 0] := by decide +kernel

/-- What a grid point reads of the residual's rows. -/
theorem read0 (c : Dev nD) (t : Fin cfg0.N) (r : Fin 1024) (l : Fin 1024) (q : Fin 65536) (hq : q.val = 1024 * t.val + r.val) :
    (iblk m c 0 t : Vec Ideal S1024x1024 .f32) (ix2 r l) = V m c main_v0 (ix2 q l) := by
  unfold iblk
  rw [View.read_apply]
  show V m c main_v0 _ = V m c main_v0 _
  congr 1
  funext a
  apply Fin.ext
  match a with
  | ⟨0, _⟩ => show win0_0.index t 0 * 1024 + 1 * r.val = q.val; rw [block0]; show t.val * 1024 + 1 * r.val = _; omega
  | ⟨1, _⟩ => show win0_0.index t 1 * 1024 + 1 * l.val = l.val; rw [block0]; show 0 * 1024 + 1 * l.val = _; omega

/-- What a grid point reads of the forgetting attention's rows. -/
theorem read1 (c : Dev nD) (t : Fin cfg0.N) (r : Fin 1024) (l : Fin 512) (q : Fin 65536) (hq : q.val = 1024 * t.val + r.val) :
    (iblk m c 1 t : Vec Ideal S1024x512 .bf16) (ix2 r l) = V m c main_v2 (ix2 q l) := by
  unfold iblk
  rw [View.read_apply]
  show V m c main_v2 _ = V m c main_v2 _
  congr 1
  funext a
  apply Fin.ext
  match a with
  | ⟨0, _⟩ => show win0_1.index t 0 * 1024 + 1 * r.val = q.val; rw [block1]; show t.val * 1024 + 1 * r.val = _; omega
  | ⟨1, _⟩ => show win0_1.index t 1 * 512 + 1 * l.val = l.val; rw [block1]; show 0 * 512 + 1 * l.val = _; omega

/-- What a grid point reads of the dilated attention's rows. -/
theorem read2 (c : Dev nD) (t : Fin cfg0.N) (r : Fin 1024) (l : Fin 512) (q : Fin 65536) (hq : q.val = 1024 * t.val + r.val) :
    (iblk m c 2 t : Vec Ideal S1024x512 .bf16) (ix2 r l) = V m c main_v4 (ix2 q l) := by
  unfold iblk
  rw [View.read_apply]
  show V m c main_v4 _ = V m c main_v4 _
  congr 1
  funext a
  apply Fin.ext
  match a with
  | ⟨0, _⟩ => show win0_2.index t 0 * 1024 + 1 * r.val = q.val; rw [block2]; show t.val * 1024 + 1 * r.val = _; omega
  | ⟨1, _⟩ => show win0_2.index t 1 * 512 + 1 * l.val = l.val; rw [block2]; show 0 * 512 + 1 * l.val = _; omega

/-- What a grid point reads of the forgetting attention's gains. -/
theorem read3 (c : Dev nD) (t : Fin cfg0.N) (r : Fin 1) (l : Fin 512) :
    (iblk m c 3 t : Vec Ideal S1x512 .f32) (ix2 r l) = V m c main_v5 (ix2 r l) := by
  unfold iblk
  rw [View.read_apply]
  show V m c main_v5 _ = V m c main_v5 _
  congr 1
  funext a
  apply Fin.ext
  match a with
  | ⟨0, _⟩ => show win0_3.index t 0 * 1 + 1 * r.val = r.val; rw [block3]; show 0 * 1 + 1 * r.val = _; omega
  | ⟨1, _⟩ => show win0_3.index t 1 * 512 + 1 * l.val = l.val; rw [block3]; show 0 * 512 + 1 * l.val = _; omega

/-- What a grid point reads of the dilated attention's gains. -/
theorem read4 (c : Dev nD) (t : Fin cfg0.N) (r : Fin 1) (l : Fin 512) :
    (iblk m c 4 t : Vec Ideal S1x512 .f32) (ix2 r l) = V m c main_v6 (ix2 r l) := by
  unfold iblk
  rw [View.read_apply]
  show V m c main_v6 _ = V m c main_v6 _
  congr 1
  funext a
  apply Fin.ext
  match a with
  | ⟨0, _⟩ => show win0_4.index t 0 * 1 + 1 * r.val = r.val; rw [block4]; show 0 * 1 + 1 * r.val = _; omega
  | ⟨1, _⟩ => show win0_4.index t 1 * 512 + 1 * l.val = l.val; rw [block4]; show 0 * 512 + 1 * l.val = _; omega

/-- What a grid point reads of the first half of the output projection. -/
theorem read5 (c : Dev nD) (t : Fin cfg0.N) (r : Fin 512) (l : Fin 1024) :
    (iblk m c 5 t : Vec Ideal S512x1024 .bf16) (ix2 r l) = V m c main_v8 (ix2 r l) := by
  unfold iblk
  rw [View.read_apply]
  show V m c main_v8 _ = V m c main_v8 _
  congr 1
  funext a
  apply Fin.ext
  match a with
  | ⟨0, _⟩ => show win0_5.index t 0 * 512 + 1 * r.val = r.val; rw [block5]; show 0 * 512 + 1 * r.val = _; omega
  | ⟨1, _⟩ => show win0_5.index t 1 * 1024 + 1 * l.val = l.val; rw [block5]; show 0 * 1024 + 1 * l.val = _; omega

/-- What a grid point reads of the second half of the output projection. -/
theorem read6 (c : Dev nD) (t : Fin cfg0.N) (r : Fin 512) (l : Fin 1024) :
    (iblk m c 6 t : Vec Ideal S512x1024 .bf16) (ix2 r l) = V m c main_v10 (ix2 r l) := by
  unfold iblk
  rw [View.read_apply]
  show V m c main_v10 _ = V m c main_v10 _
  congr 1
  funext a
  apply Fin.ext
  match a with
  | ⟨0, _⟩ => show win0_6.index t 0 * 512 + 1 * r.val = r.val; rw [block6]; show 0 * 512 + 1 * r.val = _; omega
  | ⟨1, _⟩ => show win0_6.index t 1 * 1024 + 1 * l.val = l.val; rw [block6]; show 0 * 1024 + 1 * l.val = _; omega

/-- What a grid point reads of the feed-forward's gains. -/
theorem read7 (c : Dev nD) (t : Fin cfg0.N) (r : Fin 1) (l : Fin 1024) :
    (iblk m c 7 t : Vec Ideal S1x1024 .f32) (ix2 r l) = V m c main_v11 (ix2 r l) := by
  unfold iblk
  rw [View.read_apply]
  show V m c main_v11 _ = V m c main_v11 _
  congr 1
  funext a
  apply Fin.ext
  match a with
  | ⟨0, _⟩ => show win0_7.index t 0 * 1 + 1 * r.val = r.val; rw [block7]; show 0 * 1 + 1 * r.val = _; omega
  | ⟨1, _⟩ => show win0_7.index t 1 * 1024 + 1 * l.val = l.val; rw [block7]; show 0 * 1024 + 1 * l.val = _; omega

/-- What a grid point reads of the gate's matrix. -/
theorem read8 (c : Dev nD) (t : Fin cfg0.N) (r : Fin 1024) (l : Fin 2816) :
    (iblk m c 8 t : Vec Ideal S1024x2816 .bf16) (ix2 r l) = V m c main_v12 (ix2 r l) := by
  unfold iblk
  rw [View.read_apply]
  show V m c main_v12 _ = V m c main_v12 _
  congr 1
  funext a
  apply Fin.ext
  match a with
  | ⟨0, _⟩ => show win0_8.index t 0 * 1024 + 1 * r.val = r.val; rw [block8]; show 0 * 1024 + 1 * r.val = _; omega
  | ⟨1, _⟩ => show win0_8.index t 1 * 2816 + 1 * l.val = l.val; rw [block8]; show 0 * 2816 + 1 * l.val = _; omega

/-- What a grid point reads of the other widening matrix. -/
theorem read9 (c : Dev nD) (t : Fin cfg0.N) (r : Fin 1024) (l : Fin 2816) :
    (iblk m c 9 t : Vec Ideal S1024x2816 .bf16) (ix2 r l) = V m c main_v13 (ix2 r l) := by
  unfold iblk
  rw [View.read_apply]
  show V m c main_v13 _ = V m c main_v13 _
  congr 1
  funext a
  apply Fin.ext
  match a with
  | ⟨0, _⟩ => show win0_9.index t 0 * 1024 + 1 * r.val = r.val; rw [block9]; show 0 * 1024 + 1 * r.val = _; omega
  | ⟨1, _⟩ => show win0_9.index t 1 * 2816 + 1 * l.val = l.val; rw [block9]; show 0 * 2816 + 1 * l.val = _; omega

/-- What a grid point reads of the narrowing matrix. -/
theorem read10 (c : Dev nD) (t : Fin cfg0.N) (r : Fin 2816) (l : Fin 1024) :
    (iblk m c 10 t : Vec Ideal S2816x1024 .bf16) (ix2 r l) = V m c main_v14 (ix2 r l) := by
  unfold iblk
  rw [View.read_apply]
  show V m c main_v14 _ = V m c main_v14 _
  congr 1
  funext a
  apply Fin.ext
  match a with
  | ⟨0, _⟩ => show win0_10.index t 0 * 2816 + 1 * r.val = r.val; rw [block10]; show 0 * 2816 + 1 * r.val = _; omega
  | ⟨1, _⟩ => show win0_10.index t 1 * 1024 + 1 * l.val = l.val; rw [block10]; show 0 * 1024 + 1 * l.val = _; omega

/-- The call's result array, at a token and a lane. -/
theorem call_val (c : Dev nD) (n : Fin 65536) (j : Fin 1024) :
    (dats m 0 c).arrAt 11 cfg0.N (ix2 n j)
      = ffn (mix (fun l => m (c, Proc.tc.devRef main_arg0) (ix3 (bat n) (pos n) l)) (fun l => m (c, Proc.tc.devRef main_arg1) (ix3 (bat n) (pos n) l))
            (fun l => m (c, Proc.tc.devRef main_arg2) (ix3 (bat n) (pos n) l)) (fun l => m (c, Proc.tc.devRef main_arg3) (ix1 l))
            (fun l => m (c, Proc.tc.devRef main_arg4) (ix1 l)) (fun k l => m (c, Proc.tc.devRef main_arg5) (ix2 (⟨k.val, by omega⟩ : Fin 1024) l))
            (fun k l => m (c, Proc.tc.devRef main_arg5) (ix2 (⟨512 + k.val, by omega⟩ : Fin 1024) l)))
          (fun l => m (c, Proc.tc.devRef main_arg6) (ix1 l)) (fun k f => m (c, Proc.tc.devRef main_arg7) (ix2 k f))
          (fun k f => m (c, Proc.tc.devRef main_arg8) (ix2 k f)) (fun f l => m (c, Proc.tc.devRef main_arg9) (ix2 f l)) j := by
  have hN : cfg0.N = 64 := N_0
  obtain ⟨t, ht⟩ : ∃ t : Fin cfg0.N, t.val = n.val / 1024 := ⟨⟨n.val / 1024, by omega⟩, rfl⟩
  obtain ⟨r, hr⟩ : ∃ r : Fin 1024, r.val = n.val % 1024 := ⟨⟨n.val % 1024, by omega⟩, rfl⟩
  have hn : n.val = 1024 * t.val + r.val := by omega
  have h := congrFun (Cert.Kernel2Ideal.Value.blocks11 m c t (flush0_11 _)) (ix2 r j)
  rw [Cert.Kernel2Ideal.Value.flushed11] at h
  rw [View.read_apply] at h
  refine Eq.trans (Eq.trans ?_ h) (Eq.trans (out_val _ _ _ _ _ _ _ _ _ _ _ (ix2 r j)) ?_)
  · show (dats m 0 c).arrAt 11 cfg0.N _ = (dats m 0 c).arrAt 11 cfg0.N _
    congr 1
    funext a
    apply Fin.ext
    match a with
    | ⟨0, _⟩ => show n.val = win0_11.index t 0 * 1024 + 1 * r.val; rw [block11]; show _ = t.val * 1024 + 1 * r.val; omega
    | ⟨1, _⟩ => show j.val = win0_11.index t 1 * 1024 + 1 * j.val; rw [block11]; show _ = 0 * 1024 + 1 * j.val; omega
  · show ffn _ _ _ _ _ j = ffn _ _ _ _ _ j
    congr 1
    · refine congr (congr (congr (congr (congr (congr (congrArg mix ?_) ?_) ?_) ?_) ?_) ?_) ?_
      · exact funext fun l => (read0 m c t r l n hn).trans (host0 m c n l)
      · exact funext fun l => (read1 m c t r l n hn).trans (host1 m c n l)
      · exact funext fun l => (read2 m c t r l n hn).trans (host2 m c n l)
      · exact funext fun l => (read3 m c t 0 l).trans (host3 m c l)
      · exact funext fun l => (read4 m c t 0 l).trans (host4 m c l)
      · exact funext fun k => funext fun l => (read5 m c t k l).trans (host5 m c k l)
      · exact funext fun k => funext fun l => (read6 m c t k l).trans (host6 m c k l)
    · exact funext fun l => (read7 m c t 0 l).trans (host7 m c l)
    · exact funext fun k => funext fun l => (read8 m c t k l).trans (host8 m c k l)
    · exact funext fun k => funext fun l => (read9 m c t k l).trans (host9 m c k l)
    · exact funext fun k => funext fun l => (read10 m c t k l).trans (host10 m c k l)
end Cert.Ffn
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.KVal
public import proofs.«01_k».proof.Proof.Ref
public import proofs.«01_k».proof.Proof.Finite
public import proofs.«01_k».proof.Proof.FfnRef
public import proofs.«01_k».proof.Proof.ProjEq
public import proofs.«01_k».proof.Proof.FfnCall

@[expose] public section

noncomputable section

namespace Cert.Proof

open Idealize.ShloMosaic Idealize.SL.Sem Cert.Attn Cert.Ffn

/-- The reference runs, keeps its arguments and leaves no semaphore counted. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel's result and the reference's are the same array. -/
theorem values_eq (m : (ℓ : Loc Cert.KernelIdeal.nD Cert.KernelIdeal.τ Cert.KernelIdeal.sig) → Buf (Elt Ideal) ℓ)
    (hp : Cert.Pre_KernelIdeal_finite_scores (hPre_finite_scores := pre_facts) m) (c : Dev Cert.KernelIdeal.nD) :
    Cert.ReferenceIdeal.Read.val_main_v228 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = (Cert.KernelIdeal.Gen.dats m 0 c).arrAt 4 Cert.KernelIdeal.cfg0.N := by
  obtain ⟨hq, hk, hg, hh⟩ := pre_real _ _ _ _ _ (hp c)
  choose Q hQ using hq
  choose K hK using hk
  refine funext fun i => ?_
  obtain ⟨b, t, l, rfl⟩ : ∃ (b : Fin 32) (t : Fin 2048) (l : Fin 512), i = ix3 b t l :=
    ⟨i 0, i 1, i 2, funext fun a => Fin.ext (by match a with | ⟨0, _⟩ => rfl | ⟨1, _⟩ => rfl | ⟨2, _⟩ => rfl)⟩
  exact (ref_val _ _ _ (fun b t l => Q (ix3 b t l)) (fun b t l => K (ix3 b t l)) (fun _ _ _ => hQ _) (fun _ _ _ => hK _) b t l).trans
    (kernel_val m c (fun b t l => Q (ix3 b t l)) (fun b t l => K (ix3 b t l)) (fun _ _ _ => hQ _) (fun _ _ _ => hK _) (fun _ => hg _) (fun _ => hh _) b t l).symm

/-- The idealized kernel and the reference compute the same attention. -/
theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hp hag
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v228_eq _).trans (Eq.trans ?_ (values_eq m hp c)))
  obtain ⟨h0, h1, h2, _, _⟩ := hag c
  exact congr (congr (congrArg (Cert.ReferenceIdeal.Read.val_main_v228 (F := Ideal)) h0) h1) h2

/-- The feed-forward call's reference runs, keeps its arguments and leaves no semaphore counted. -/
theorem ref2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
        ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
        ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
        ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

/-- The feed-forward call's result and its reference's are the same array. -/
theorem values2_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v48 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
        (m ((c.tc : Thread Cert.Kernel2Ideal.nD Cert.Kernel2Ideal.τ).loc Cert.Kernel2Ideal.main_arg6))
        (m ((c.tc : Thread Cert.Kernel2Ideal.nD Cert.Kernel2Ideal.τ).loc Cert.Kernel2Ideal.main_arg7))
        (m ((c.tc : Thread Cert.Kernel2Ideal.nD Cert.Kernel2Ideal.τ).loc Cert.Kernel2Ideal.main_arg8))
        (m ((c.tc : Thread Cert.Kernel2Ideal.nD Cert.Kernel2Ideal.τ).loc Cert.Kernel2Ideal.main_arg9))
      = (Cert.Kernel2Ideal.Gen.dats m 0 c).arrAt 11 Cert.Kernel2Ideal.cfg0.N := by
  refine funext fun i => ?_
  obtain ⟨n, j, rfl⟩ : ∃ (n : Fin 65536) (j : Fin 1024), i = ix2 n j :=
    ⟨i 0, i 1, funext fun a => Fin.ext (by match a with | ⟨0, _⟩ => rfl | ⟨1, _⟩ => rfl)⟩
  exact (ref2_val _ _ _ _ _ _ _ _ _ _ n j).trans (call_val m c n j).symm

/-- The idealized feed-forward call and its reference compute the same array. -/
theorem algebraic2 : Cert.algebraic_Kernel2Ideal_Reference2Ideal (hKernel2Ideal := Cert.Kernel2Ideal.Gen.facts) (hReference2Ideal := Cert.Reference2Ideal.Gen.facts) := by
  intro m g m' g' _ hag
  refine ⟨fun c => (Cert.Kernel2Ideal.Gen.dats m 0 c).arrAt 11 Cert.Kernel2Ideal.cfg0.N, Cert.Kernel2Ideal.Value.run_blocks m g, ?_⟩
  refine (θ_run Cert.Reference2Ideal.defs _ _).mono (fun r h c => ⟨?_, (h c).2⟩) (Cert.Reference2Ideal.Value.run (F := Ideal) m' g')
  refine (h c).1.trans ((Cert.Reference2Ideal.Read.val_main_v48_eq m' c).trans (Eq.trans ?_ (values2_eq m c)))
  obtain ⟨h0, h1, h2, h3, h4, h5, h6, h7, h8, h9⟩ := hag c
  exact congr (congr (congr (congr (congr (congr (congr (congr (congr (congrArg (Cert.Reference2Ideal.Read.val_main_v48 (F := Ideal)) h0) h1) h2) h3) h4) h5) h6) h7) h8) h9

/-- The input projection's reference runs, keeps its arguments and leaves no semaphore counted. -/
theorem ref3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
        ∧ r.2.sem = fun _ => 0) :=
  (θ_run Cert.Reference3Ideal.defs _ _).mono (fun r h => ⟨fun c => (h c).2.2.2.2.2.2, Idealize.ShloMosaic.sem_eq_zero_of_no_sems (by decide) r.2⟩)
    (Cert.Reference3Ideal.Value.run (F := Ideal) m g)

/-- The idealized input projection and its reference compute the same six results, off the lanes of the gates. -/
theorem algebraic3 : Cert.algebraic_Kernel3Ideal_Reference3Ideal_on_no_gates (hKernel3Ideal := Cert.Kernel3Ideal.Gen.facts)
    (hReference3Ideal := Cert.Reference3Ideal.Gen.facts) (hOn_no_gates := Cert.Proj.on_facts) := by
  intro m g m' g' _ hag
  refine ⟨fun c => (Cert.Kernel3Ideal.Gen.dats m 0 c).arrAt 11 Cert.Kernel3Ideal.cfg0.N, fun c => (Cert.Kernel3Ideal.Gen.dats m 0 c).arrAt 12 Cert.Kernel3Ideal.cfg0.N,
    fun c => (Cert.Kernel3Ideal.Gen.dats m 0 c).arrAt 13 Cert.Kernel3Ideal.cfg0.N, fun c => (Cert.Kernel3Ideal.Gen.dats m 0 c).arrAt 14 Cert.Kernel3Ideal.cfg0.N,
    fun c => (Cert.Kernel3Ideal.Gen.dats m 0 c).arrAt 15 Cert.Kernel3Ideal.cfg0.N, fun c => (Cert.Kernel3Ideal.Gen.dats m 0 c).arrAt 16 Cert.Kernel3Ideal.cfg0.N,
    (θ_run Cert.Kernel3Ideal.defs _ _).mono (fun r h c => ?_) (Cert.Kernel3Ideal.Value.run_blocks m g),
    (θ_run Cert.Reference3Ideal.defs _ _).mono (fun r h c => ?_) (Cert.Reference3Ideal.Value.run (F := Ideal) m' g')⟩
  · obtain ⟨h0, h1, h2, h3, h4, h5, hr⟩ := h c
    exact ⟨fun i _ => congrFun h0 i, fun i _ => congrFun h1 i, fun i _ => congrFun h2 i, fun i _ => congrFun h3 i, fun i _ => congrFun h4 i, fun i _ => congrFun h5 i, hr⟩
  · obtain ⟨h0, h1, h2, h3, h4, h5, hr⟩ := h c
    obtain ⟨a0, a1, a2, _, a4, a5, a6, a7⟩ := hag c
    refine ⟨fun i hi => ?_, fun i hi => ?_, fun i _ => ?_, fun i _ => ?_, fun i _ => ?_, fun i _ => ?_, hr⟩
    · exact (congrFun (h0.trans ((Cert.Reference3Ideal.Read.val_main_v148_eq _).trans (congr (congr (congr (congrArg (Cert.Reference3Ideal.Read.val_main_v148 (F := Ideal)) a0) a1) a2) a4))) i).trans (Cert.Proj.eq11 m c i hi)
    · exact (congrFun (h1.trans ((Cert.Reference3Ideal.Read.val_main_v149_eq _).trans (congr (congr (congr (congrArg (Cert.Reference3Ideal.Read.val_main_v149 (F := Ideal)) a0) a1) a2) a5))) i).trans (Cert.Proj.eq12 m c i hi)
    · exact (congrFun (h2.trans ((Cert.Reference3Ideal.Read.val_main_v150_eq _).trans (congr (congr (congrArg (Cert.Reference3Ideal.Read.val_main_v150 (F := Ideal)) a0) a1) a2))) i).trans (Cert.Proj.eq13 m c i)
    · exact (congrFun (h3.trans ((Cert.Reference3Ideal.Read.val_main_v152_eq _).trans (congr (congr (congr (congrArg (Cert.Reference3Ideal.Read.val_main_v152 (F := Ideal)) a0) a1) a2) a6))) i).trans (Cert.Proj.eq14 m c i)
    · exact (congrFun (h4.trans ((Cert.Reference3Ideal.Read.val_main_v154_eq _).trans (congr (congr (congr (congrArg (Cert.Reference3Ideal.Read.val_main_v154 (F := Ideal)) a0) a1) a2) a7))) i).trans (Cert.Proj.eq15 m c i)
    · exact (congrFun (h5.trans ((Cert.Reference3Ideal.Read.val_main_v155_eq _).trans (congr (congr (congrArg (Cert.Reference3Ideal.Read.val_main_v155 (F := Ideal)) a0) a1) a2))) i).trans (Cert.Proj.eq16 m c i)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, pre_facts, Cert.Proj.on_facts,
  fun m g _ => Cert.Kernel.Gen.frame m g,
  fun m g _ => Cert.KernelIdeal.Gen.frame m g,
  fun m g _ => Cert.KernelIdeal.Gen.frame m g,
  fun m g _ => ref_frame m g,
  fun m g _ => ref_frame m g,
  fun m g _ => Cert.Kernel2.Gen.frame m g,
  fun m g _ => Cert.Kernel2Ideal.Gen.frame m g,
  fun m g _ => ref2_frame m g,
  fun m g _ => Cert.Kernel3.Gen.frame m g,
  fun m g _ => Cert.Kernel3Ideal.Gen.frame m g,
  fun m g _ => ref3_frame m g,
  trivial,
  algebraic,
  trivial,
  algebraic2,
  trivial,
  algebraic3⟩

end Cert.Proof

end
